-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4096x8192 : Shape := ⟨2, ![4096, 8192]⟩
abbrev S8x4096x512 : Shape := ⟨3, ![8, 4096, 512]⟩
abbrev S8x512x8192 : Shape := ⟨3, ![8, 512, 8192]⟩
abbrev S7 : Shape := ⟨1, ![7]⟩
abbrev S8 : Shape := ⟨1, ![8]⟩
abbrev S10 : Shape := ⟨1, ![10]⟩
abbrev S5 : Shape := ⟨1, ![5]⟩
abbrev S_ : Shape := ⟨0, ![]⟩
abbrev S4x1024x256 : Shape := ⟨3, ![4, 1024, 256]⟩
abbrev S4 : Shape := ⟨1, ![4]⟩
abbrev S1x4096x512 : Shape := ⟨3, ![1, 4096, 512]⟩
abbrev S1x512x8192 : Shape := ⟨3, ![1, 512, 8192]⟩
abbrev S1024x256 : Shape := ⟨2, ![1024, 256]⟩
abbrev S1x1024x512 : Shape := ⟨3, ![1, 1024, 512]⟩
abbrev S1024x512 : Shape := ⟨2, ![1024, 512]⟩
abbrev S1x512x256 : Shape := ⟨3, ![1, 512, 256]⟩
abbrev S512x256 : Shape := ⟨2, ![512, 256]⟩
abbrev S1x1024x256 : Shape := ⟨3, ![1, 1024, 256]⟩
abbrev S1x2048x512 : Shape := ⟨3, ![1, 2048, 512]⟩
abbrev S2048x512 : Shape := ⟨2, ![2048, 512]⟩
abbrev S1x128x8192 : Shape := ⟨3, ![1, 128, 8192]⟩
abbrev S128x8192 : Shape := ⟨2, ![128, 8192]⟩
abbrev S1x256x8192 : Shape := ⟨3, ![1, 256, 8192]⟩
abbrev S256x8192 : Shape := ⟨2, ![256, 8192]⟩

abbrev nBuf : Space → Nat
  | .hbm => 5
  | .vmem => 4
  | .smem => 2
  | _ => 0

abbrev bufTy : (tb : Table) → Fin (tcTables nBuf tb) → BufTy
  | .hbm, ⟨0, _⟩ => ⟨S4096x512, .fp8e5m2⟩
  | .hbm, ⟨1, _⟩ => ⟨S512x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S8x4096x512, .fp8e5m2⟩
  | .local _ .vmem, ⟨1, _⟩ => ⟨S8x512x8192, .fp8e5m2⟩
  | .local _ .vmem, ⟨2, _⟩ => ⟨S4x1024x256, .f32⟩
  | .local _ .vmem, ⟨3, _⟩ => ⟨S4x1024x256, .f32⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch10 : Ref sig .tc := ⟨.vmem, 2, rfl⟩
abbrev cc0_scratch11 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_49 : BitVec 32 := 0#32
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_48 : BitVec 32 := 1#32
  let v112 : BitVec 32 := Scalar.muli v51 c1_i32_48
  let v113 : BitVec 32 := Scalar.addi c0_i32_49 v112
  v113.toNat
def k0_dev2 (d0 : Dev nD) : Nat :=
  let c0_i32_52 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_51 : BitVec 32 := 1#32
  let v114 : BitVec 32 := Scalar.muli v60 c1_i32_51
  let v115 : BitVec 32 := Scalar.addi c0_i32_52 v114
  v115.toNat
def k0_dev3 (d0 : Dev nD) : Nat :=
  let c0_i32_55 : BitVec 32 := 0#32
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_54 : BitVec 32 := 1#32
  let v116 : BitVec 32 := Scalar.muli v69 c1_i32_54
  let v117 : BitVec 32 := Scalar.addi c0_i32_55 v116
  v117.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_56 : BitVec 32 := 0#32
  let c0_i32_57 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_58 : BitVec 32 := 0#32
  let c0_i32_59 : BitVec 32 := 0#32
  ![v2.toNat, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev4 (d0 : Dev nD) : Nat :=
  let c0_i32_66 : BitVec 32 := 0#32
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_65 : BitVec 32 := 1#32
  let v126 : BitVec 32 := Scalar.muli v51 c1_i32_65
  let v127 : BitVec 32 := Scalar.addi c0_i32_66 v126
  v127.toNat
def k0_dev5 (d0 : Dev nD) : Nat :=
  let c0_i32_73 : BitVec 32 := 0#32
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_72 : BitVec 32 := 1#32
  let v136 : BitVec 32 := Scalar.muli v51 c1_i32_72
  let v137 : BitVec 32 := Scalar.addi c0_i32_73 v136
  v137.toNat
def k0_dev6 (d0 : Dev nD) : Nat :=
  let c0_i32_80 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_79 : BitVec 32 := 1#32
  let v146 : BitVec 32 := Scalar.muli v60 c1_i32_79
  let v147 : BitVec 32 := Scalar.addi c0_i32_80 v146
  v147.toNat
def k0_dev7 (d0 : Dev nD) : Nat :=
  let c0_i32_87 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_86 : BitVec 32 := 1#32
  let v156 : BitVec 32 := Scalar.muli v60 c1_i32_86
  let v157 : BitVec 32 := Scalar.addi c0_i32_87 v156
  v157.toNat
def k0_dev8 (d0 : Dev nD) : Nat :=
  let c0_i32_94 : BitVec 32 := 0#32
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_93 : BitVec 32 := 1#32
  let v166 : BitVec 32 := Scalar.muli v69 c1_i32_93
  let v167 : BitVec 32 := Scalar.addi c0_i32_94 v166
  v167.toNat
def k0_dev9 (d0 : Dev nD) : Nat :=
  let c0_i32_101 : BitVec 32 := 0#32
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_100 : BitVec 32 := 1#32
  let v176 : BitVec 32 := Scalar.muli v69 c1_i32_100
  let v177 : BitVec 32 := Scalar.addi c0_i32_101 v176
  v177.toNat
def k0_off4 (d0 : Dev nD) : Fin 1 → Nat :=
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  ![v51.toNat]
def k0_off5 (d0 : Dev nD) : Fin 3 → Nat :=
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c0_i32_108 : BitVec 32 := 0#32
  let c0_i32_109 : BitVec 32 := 0#32
  ![v51.toNat, 0, 0]
def k0_off6 (d0 : Dev nD) : Fin 3 → Nat :=
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c0_i32_115 : BitVec 32 := 0#32
  let c0_i32_116 : BitVec 32 := 0#32
  ![v51.toNat, 0, 0]
def k0_off7 (d0 : Dev nD) : Fin 1 → Nat :=
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  ![v60.toNat]
def k0_off8 (d0 : Dev nD) : Fin 3 → Nat :=
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c0_i32_122 : BitVec 32 := 0#32
  let c0_i32_123 : BitVec 32 := 0#32
  ![v60.toNat, 0, 0]
def k0_off9 (d0 : Dev nD) : Fin 3 → Nat :=
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c0_i32_129 : BitVec 32 := 0#32
  let c0_i32_130 : BitVec 32 := 0#32
  ![v60.toNat, 0, 0]
def k0_off10 (d0 : Dev nD) : Fin 1 → Nat :=
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  ![v69.toNat]
def k0_off11 (d0 : Dev nD) : Fin 3 → Nat :=
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c0_i32_136 : BitVec 32 := 0#32
  let c0_i32_137 : BitVec 32 := 0#32
  ![v69.toNat, 0, 0]
def k0_off12 (d0 : Dev nD) : Fin 3 → Nat :=
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c0_i32_143 : BitVec 32 := 0#32
  let c0_i32_144 : BitVec 32 := 0#32
  ![v69.toNat, 0, 0]
def k0_dev10 (d0 : Dev nD) : Nat :=
  let c0_i32_185 : BitVec 32 := 0#32
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_184 : BitVec 32 := 1#32
  let v270 : BitVec 32 := Scalar.muli v51 c1_i32_184
  let v271 : BitVec 32 := Scalar.addi c0_i32_185 v270
  v271.toNat
def k0_dev11 (d0 : Dev nD) : Nat :=
  let c0_i32_192 : BitVec 32 := 0#32
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_191 : BitVec 32 := 1#32
  let v280 : BitVec 32 := Scalar.muli v51 c1_i32_191
  let v281 : BitVec 32 := Scalar.addi c0_i32_192 v280
  v281.toNat
def k0_dev12 (d0 : Dev nD) : Nat :=
  let c0_i32_199 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_198 : BitVec 32 := 1#32
  let v290 : BitVec 32 := Scalar.muli v60 c1_i32_198
  let v291 : BitVec 32 := Scalar.addi c0_i32_199 v290
  v291.toNat
def k0_dev13 (d0 : Dev nD) : Nat :=
  let c0_i32_206 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_205 : BitVec 32 := 1#32
  let v300 : BitVec 32 := Scalar.muli v60 c1_i32_205
  let v301 : BitVec 32 := Scalar.addi c0_i32_206 v300
  v301.toNat
def k0_dev14 (d0 : Dev nD) : Nat :=
  let c0_i32_212 : BitVec 32 := 0#32
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_211 : BitVec 32 := 1#32
  let v310 : BitVec 32 := Scalar.muli v69 c1_i32_211
  let v311 : BitVec 32 := Scalar.addi c0_i32_212 v310
  v311.toNat
def k0_dev15 (d0 : Dev nD) : Nat :=
  let c0_i32_219 : BitVec 32 := 0#32
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_218 : BitVec 32 := 1#32
  let v320 : BitVec 32 := Scalar.muli v69 c1_i32_218
  let v321 : BitVec 32 := Scalar.addi c0_i32_219 v320
  v321.toNat
@[reducible] def k0_t1_loop : Scf.Loop 32 :=
  let c0_i32_224 : BitVec 32 := 0#32
  let c72_i32 : BitVec 32 := 72#32
  let v330 : BitVec 32 := Scalar.addi c0_i32_224 c72_i32
  let c1_i32_225 : BitVec 32 := 1#32
  ⟨c0_i32_224, v330, c1_i32_225⟩
def k0_off13 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v671 : Index := Scalar.indexCast v2
  let c0_i32_224 : BitVec 32 := 0#32
  let c1_i32_225 : BitVec 32 := 1#32
  let arg19 : BitVec 32 := Scf.iv c0_i32_224 c1_i32_225 k0_t1
  let c4_i32_540 : BitVec 32 := 4#32
  let v650 : BitVec 32 := Scalar.remsi arg19 c4_i32_540
  let c1024_i32_541 : BitVec 32 := 1024#32
  let v651 : BitVec 32 := Scalar.muli v650 c1024_i32_541
  let v672 : Index := Scalar.indexCast v651
  let c0 : Index := 0#32
  ![v671.toNat, v672.toNat, 0]
def k0_off14 (d0 : Dev nD) (k0_t1 : Fin k0_t1_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v675 : Index := Scalar.indexCast v2
  let c0_550 : Index := 0#32
  let c0_i32_224 : BitVec 32 := 0#32
  let c1_i32_225 : BitVec 32 := 1#32
  let arg19 : BitVec 32 := Scf.iv c0_i32_224 c1_i32_225 k0_t1
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v676 : Index := Scalar.indexCast v669
  ![v675.toNat, 0, v676.toNat]
def k0_off15 (d0 : Dev nD) (k0_t1 : Fin k0_t1_loop.trips) : Fin 3 → Nat :=
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let v681 : Index := Scalar.indexCast v51
  let c0_i32_224 : BitVec 32 := 0#32
  let c1_i32_225 : BitVec 32 := 1#32
  let arg19 : BitVec 32 := Scf.iv c0_i32_224 c1_i32_225 k0_t1
  let c4_i32_540 : BitVec 32 := 4#32
  let v650 : BitVec 32 := Scalar.remsi arg19 c4_i32_540
  let c1024_i32_541 : BitVec 32 := 1024#32
  let v651 : BitVec 32 := Scalar.muli v650 c1024_i32_541
  let v682 : Index := Scalar.indexCast v651
  let c0_552 : Index := 0#32
  ![v681.toNat, v682.toNat, 0]
def k0_off16 (d0 : Dev nD) (k0_t1 : Fin k0_t1_loop.trips) : Fin 3 → Nat :=
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let v685 : Index := Scalar.indexCast v51
  let c0_553 : Index := 0#32
  let c0_i32_224 : BitVec 32 := 0#32
  let c1_i32_225 : BitVec 32 := 1#32
  let arg19 : BitVec 32 := Scf.iv c0_i32_224 c1_i32_225 k0_t1
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v686 : Index := Scalar.indexCast v669
  ![v685.toNat, 0, v686.toNat]
def k0_off17 (d0 : Dev nD) (k0_t1 : Fin k0_t1_loop.trips) : Fin 3 → Nat :=
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let v691 : Index := Scalar.indexCast v60
  let c0_i32_224 : BitVec 32 := 0#32
  let c1_i32_225 : BitVec 32 := 1#32
  let arg19 : BitVec 32 := Scf.iv c0_i32_224 c1_i32_225 k0_t1
  let c4_i32_540 : BitVec 32 := 4#32
  let v650 : BitVec 32 := Scalar.remsi arg19 c4_i32_540
  let c1024_i32_541 : BitVec 32 := 1024#32
  let v651 : BitVec 32 := Scalar.muli v650 c1024_i32_541
  let v692 : Index := Scalar.indexCast v651
  let c0_555 : Index := 0#32
  ![v691.toNat, v692.toNat, 0]
def k0_off18 (d0 : Dev nD) (k0_t1 : Fin k0_t1_loop.trips) : Fin 3 → Nat :=
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let v695 : Index := Scalar.indexCast v60
  let c0_556 : Index := 0#32
  let c0_i32_224 : BitVec 32 := 0#32
  let c1_i32_225 : BitVec 32 := 1#32
  let arg19 : BitVec 32 := Scf.iv c0_i32_224 c1_i32_225 k0_t1
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v696 : Index := Scalar.indexCast v669
  ![v695.toNat, 0, v696.toNat]
def k0_off19 (d0 : Dev nD) (k0_t1 : Fin k0_t1_loop.trips) : Fin 3 → Nat :=
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let v701 : Index := Scalar.indexCast v69
  let c0_i32_224 : BitVec 32 := 0#32
  let c1_i32_225 : BitVec 32 := 1#32
  let arg19 : BitVec 32 := Scf.iv c0_i32_224 c1_i32_225 k0_t1
  let c4_i32_540 : BitVec 32 := 4#32
  let v650 : BitVec 32 := Scalar.remsi arg19 c4_i32_540
  let c1024_i32_541 : BitVec 32 := 1024#32
  let v651 : BitVec 32 := Scalar.muli v650 c1024_i32_541
  let v702 : Index := Scalar.indexCast v651
  let c0_558 : Index := 0#32
  ![v701.toNat, v702.toNat, 0]
def k0_off20 (d0 : Dev nD) (k0_t1 : Fin k0_t1_loop.trips) : Fin 3 → Nat :=
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let v705 : Index := Scalar.indexCast v69
  let c0_559 : Index := 0#32
  let c0_i32_224 : BitVec 32 := 0#32
  let c1_i32_225 : BitVec 32 := 1#32
  let arg19 : BitVec 32 := Scf.iv c0_i32_224 c1_i32_225 k0_t1
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v706 : Index := Scalar.indexCast v669
  ![v705.toNat, 0, v706.toNat]
def k0_cond1 (k0_t1 : Fin k0_t1_loop.trips) : BitVec 1 :=
  let c0_i32_224 : BitVec 32 := 0#32
  let c1_i32_225 : BitVec 32 := 1#32
  let arg19 : BitVec 32 := Scf.iv c0_i32_224 c1_i32_225 k0_t1
  let c4_i32_561 : BitVec 32 := 4#32
  let v711 : BitVec 1 := Scalar.cmpi .sge arg19 c4_i32_561
  let v712 : BitVec 32 := Scalar.extui v711
  let c0_i32_562 : BitVec 32 := 0#32
  let v713 : BitVec 1 := Scalar.cmpi .ne v712 c0_i32_562
  v713

def k0_off21 (k0_t1 : Fin k0_t1_loop.trips) : Fin 1 → Nat :=
  let c0_i32_224 : BitVec 32 := 0#32
  let c1_i32_225 : BitVec 32 := 1#32
  let arg19 : BitVec 32 := Scf.iv c0_i32_224 c1_i32_225 k0_t1
  let c4_i32_539 : BitVec 32 := 4#32
  let v649 : BitVec 32 := Scalar.remsi arg19 c4_i32_539
  ![v649.toNat]
def k0_off22 (k0_t1 : Fin k0_t1_loop.trips) : Fin 2 → Nat :=
  let c0_i32_224 : BitVec 32 := 0#32
  let c1_i32_225 : BitVec 32 := 1#32
  let arg19 : BitVec 32 := Scf.iv c0_i32_224 c1_i32_225 k0_t1
  let c4_i32_577 : BitVec 32 := 4#32
  let v743 : BitVec 32 := Scalar.subi arg19 c4_i32_577
  let c4_i32_578 : BitVec 32 := 4#32
  let v744 : BitVec 32 := Scalar.remsi v743 c4_i32_578
  let c1024_i32_579 : BitVec 32 := 1024#32
  let v745 : BitVec 32 := Scalar.muli v744 c1024_i32_579
  let c0_i32_581 : BitVec 32 := 0#32
  let v747 : BitVec 1 := Scalar.cmpi .sgt v743 c0_i32_581
  let v748 : BitVec 32 := Scalar.extui v747
  let c0_i32_582 : BitVec 32 := 0#32
  let v749 : BitVec 1 := Scalar.cmpi .slt v743 c0_i32_582
  let v750 : BitVec 32 := Scalar.extui v749
  let v751 : BitVec 32 := Scalar.subi v748 v750
  let c4_i32_580 : BitVec 32 := 4#32
  let c0_i32_583 : BitVec 32 := 0#32
  let v752 : BitVec 1 := Scalar.cmpi .sgt c4_i32_580 c0_i32_583
  let v753 : BitVec 32 := Scalar.extui v752
  let c0_i32_584 : BitVec 32 := 0#32
  let v754 : BitVec 1 := Scalar.cmpi .slt c4_i32_580 c0_i32_584
  let v755 : BitVec 32 := Scalar.extui v754
  let v756 : BitVec 32 := Scalar.subi v753 v755
  let v757 : BitVec 1 := Scalar.cmpi .ne v751 v756
  let v758 : BitVec 32 := Scalar.remsi v743 c4_i32_580
  let c0_i32_585 : BitVec 32 := 0#32
  let v759 : BitVec 1 := Scalar.cmpi .ne v758 c0_i32_585
  let v760 : BitVec 1 := Scalar.andi v757 v759
  let v746 : BitVec 32 := Scalar.divsi v743 c4_i32_580
  let c1_i32_586 : BitVec 32 := 1#32
  let v761 : BitVec 32 := Scalar.subi v746 c1_i32_586
  let v762 : BitVec 32 := Scalar.select v760 v761 v746
  let c256_i32_587 : BitVec 32 := 256#32
  let v763 : BitVec 32 := Scalar.muli v762 c256_i32_587
  ![v745.toNat, v763.toNat]
def k0_off23 (k0_t1 : Fin k0_t1_loop.trips) : Fin 3 → Nat :=
  let c0_i32_224 : BitVec 32 := 0#32
  let c1_i32_225 : BitVec 32 := 1#32
  let arg19 : BitVec 32 := Scf.iv c0_i32_224 c1_i32_225 k0_t1
  let c4_i32_539 : BitVec 32 := 4#32
  let v649 : BitVec 32 := Scalar.remsi arg19 c4_i32_539
  let c0_i32_588 : BitVec 32 := 0#32
  let c0_i32_589 : BitVec 32 := 0#32
  ![v649.toNat, 0, 0]
def k0_off24 (k0_t1 : Fin k0_t1_loop.trips) : Fin 3 → Nat :=
  let c0_i32_224 : BitVec 32 := 0#32
  let c1_i32_225 : BitVec 32 := 1#32
  let arg19 : BitVec 32 := Scf.iv c0_i32_224 c1_i32_225 k0_t1
  let c4_i32_539 : BitVec 32 := 4#32
  let v649 : BitVec 32 := Scalar.remsi arg19 c4_i32_539
  let v714 : Index := Scalar.indexCast v649
  let c0_563 : Index := 0#32
  let c0_564 : Index := 0#32
  ![v714.toNat, 0, 0]
def k0_off25 (k0_t1 : Fin k0_t1_loop.trips) : Fin 1 → Nat :=
  let c0_i32_224 : BitVec 32 := 0#32
  let c1_i32_225 : BitVec 32 := 1#32
  let arg19 : BitVec 32 := Scf.iv c0_i32_224 c1_i32_225 k0_t1
  let c4_i32_539 : BitVec 32 := 4#32
  let v649 : BitVec 32 := Scalar.remsi arg19 c4_i32_539
  ![v649.toNat]
def k0_off26 (k0_t1 : Fin k0_t1_loop.trips) : Fin 2 → Nat :=
  let c0_i32_224 : BitVec 32 := 0#32
  let c1_i32_225 : BitVec 32 := 1#32
  let arg19 : BitVec 32 := Scf.iv c0_i32_224 c1_i32_225 k0_t1
  let c4_i32_565 : BitVec 32 := 4#32
  let v718 : BitVec 32 := Scalar.remsi arg19 c4_i32_565
  let c1024_i32_566 : BitVec 32 := 1024#32
  let v719 : BitVec 32 := Scalar.muli v718 c1024_i32_566
  let c0_i32_568 : BitVec 32 := 0#32
  let v721 : BitVec 1 := Scalar.cmpi .sgt arg19 c0_i32_568
  let v722 : BitVec 32 := Scalar.extui v721
  let c0_i32_569 : BitVec 32 := 0#32
  let v723 : BitVec 1 := Scalar.cmpi .slt arg19 c0_i32_569
  let v724 : BitVec 32 := Scalar.extui v723
  let v725 : BitVec 32 := Scalar.subi v722 v724
  let c4_i32_567 : BitVec 32 := 4#32
  let c0_i32_570 : BitVec 32 := 0#32
  let v726 : BitVec 1 := Scalar.cmpi .sgt c4_i32_567 c0_i32_570
  let v727 : BitVec 32 := Scalar.extui v726
  let c0_i32_571 : BitVec 32 := 0#32
  let v728 : BitVec 1 := Scalar.cmpi .slt c4_i32_567 c0_i32_571
  let v729 : BitVec 32 := Scalar.extui v728
  let v730 : BitVec 32 := Scalar.subi v727 v729
  let v731 : BitVec 1 := Scalar.cmpi .ne v725 v730
  let v732 : BitVec 32 := Scalar.remsi arg19 c4_i32_567
  let c0_i32_572 : BitVec 32 := 0#32
  let v733 : BitVec 1 := Scalar.cmpi .ne v732 c0_i32_572
  let v734 : BitVec 1 := Scalar.andi v731 v733
  let v720 : BitVec 32 := Scalar.divsi arg19 c4_i32_567
  let c1_i32_573 : BitVec 32 := 1#32
  let v735 : BitVec 32 := Scalar.subi v720 c1_i32_573
  let v736 : BitVec 32 := Scalar.select v734 v735 v720
  let c256_i32_574 : BitVec 32 := 256#32
  let v737 : BitVec 32 := Scalar.muli v736 c256_i32_574
  ![v719.toNat, v737.toNat]
def k0_off27 (k0_t1 : Fin k0_t1_loop.trips) : Fin 3 → Nat :=
  let c0_i32_224 : BitVec 32 := 0#32
  let c1_i32_225 : BitVec 32 := 1#32
  let arg19 : BitVec 32 := Scf.iv c0_i32_224 c1_i32_225 k0_t1
  let c4_i32_539 : BitVec 32 := 4#32
  let v649 : BitVec 32 := Scalar.remsi arg19 c4_i32_539
  let c0_i32_575 : BitVec 32 := 0#32
  let c0_i32_576 : BitVec 32 := 0#32
  ![v649.toNat, 0, 0]
def k0_off28 (c68_i32 : BitVec 32) : Fin 2 → Nat :=
  let c4_i32_227 : BitVec 32 := 4#32
  let v331 : BitVec 32 := Scalar.remsi c68_i32 c4_i32_227
  let c1024_i32 : BitVec 32 := 1024#32
  let v332 : BitVec 32 := Scalar.muli v331 c1024_i32
  let c4352_i32 : BitVec 32 := 4352#32
  ![v332.toNat, 4352]
def k0_off29 (d0 : Dev nD) : Fin 1 → Nat :=
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_28 v19
  let c2_i32_29 : BitVec 32 := 2#32
  let c1_i32_27 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v71 : BitVec 32 := Scalar.subi c1_i32_27 v37
  let v73 : BitVec 32 := Scalar.muli c2_i32_29 v71
  let v74 : BitVec 32 := Scalar.addi v72 v73
  let c1_i32_26 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v70 : BitVec 32 := Scalar.subi c1_i32_26 v42
  let v75 : BitVec 32 := Scalar.addi v70 v71
  let c2_i32_30 : BitVec 32 := 2#32
  let v76 : BitVec 32 := Scalar.muli c2_i32_30 v70
  let v77 : BitVec 32 := Scalar.muli v76 v71
  let v78 : BitVec 32 := Scalar.subi v75 v77
  let v79 : BitVec 32 := Scalar.addi v74 v78
  ![v79.toNat]
def k0_off30 (d0 : Dev nD) : Fin 3 → Nat :=
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_28 v19
  let c2_i32_29 : BitVec 32 := 2#32
  let c1_i32_27 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v71 : BitVec 32 := Scalar.subi c1_i32_27 v37
  let v73 : BitVec 32 := Scalar.muli c2_i32_29 v71
  let v74 : BitVec 32 := Scalar.addi v72 v73
  let c1_i32_26 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v70 : BitVec 32 := Scalar.subi c1_i32_26 v42
  let v75 : BitVec 32 := Scalar.addi v70 v71
  let c2_i32_30 : BitVec 32 := 2#32
  let v76 : BitVec 32 := Scalar.muli c2_i32_30 v70
  let v77 : BitVec 32 := Scalar.muli v76 v71
  let v78 : BitVec 32 := Scalar.subi v75 v77
  let v79 : BitVec 32 := Scalar.addi v74 v78
  let c0_i32_256 : BitVec 32 := 0#32
  let c0_i32_257 : BitVec 32 := 0#32
  ![v79.toNat, 0, 0]
def k0_off31 (d0 : Dev nD) : Fin 3 → Nat :=
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_28 v19
  let c2_i32_29 : BitVec 32 := 2#32
  let c1_i32_27 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v71 : BitVec 32 := Scalar.subi c1_i32_27 v37
  let v73 : BitVec 32 := Scalar.muli c2_i32_29 v71
  let v74 : BitVec 32 := Scalar.addi v72 v73
  let c1_i32_26 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v70 : BitVec 32 := Scalar.subi c1_i32_26 v42
  let v75 : BitVec 32 := Scalar.addi v70 v71
  let c2_i32_30 : BitVec 32 := 2#32
  let v76 : BitVec 32 := Scalar.muli c2_i32_30 v70
  let v77 : BitVec 32 := Scalar.muli v76 v71
  let v78 : BitVec 32 := Scalar.subi v75 v77
  let v79 : BitVec 32 := Scalar.addi v74 v78
  let c0_i32_263 : BitVec 32 := 0#32
  let c0_i32_264 : BitVec 32 := 0#32
  ![v79.toNat, 0, 0]
def k0_off32 (d0 : Dev nD) : Fin 1 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_37 v19
  let v92 : BitVec 32 := Scalar.muli c4_i32_38 v91
  let c2_i32_39 : BitVec 32 := 2#32
  let c1_i32_36 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v90 : BitVec 32 := Scalar.subi c1_i32_36 v37
  let v93 : BitVec 32 := Scalar.muli c2_i32_39 v90
  let v94 : BitVec 32 := Scalar.addi v92 v93
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v95 : BitVec 32 := Scalar.addi v42 v90
  let c2_i32_40 : BitVec 32 := 2#32
  let v96 : BitVec 32 := Scalar.muli c2_i32_40 v42
  let v97 : BitVec 32 := Scalar.muli v96 v90
  let v98 : BitVec 32 := Scalar.subi v95 v97
  let v99 : BitVec 32 := Scalar.addi v94 v98
  ![v99.toNat]
def k0_off33 (d0 : Dev nD) : Fin 3 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_37 v19
  let v92 : BitVec 32 := Scalar.muli c4_i32_38 v91
  let c2_i32_39 : BitVec 32 := 2#32
  let c1_i32_36 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v90 : BitVec 32 := Scalar.subi c1_i32_36 v37
  let v93 : BitVec 32 := Scalar.muli c2_i32_39 v90
  let v94 : BitVec 32 := Scalar.addi v92 v93
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v95 : BitVec 32 := Scalar.addi v42 v90
  let c2_i32_40 : BitVec 32 := 2#32
  let v96 : BitVec 32 := Scalar.muli c2_i32_40 v42
  let v97 : BitVec 32 := Scalar.muli v96 v90
  let v98 : BitVec 32 := Scalar.subi v95 v97
  let v99 : BitVec 32 := Scalar.addi v94 v98
  let c0_i32_270 : BitVec 32 := 0#32
  let c0_i32_271 : BitVec 32 := 0#32
  ![v99.toNat, 0, 0]
def k0_off34 (d0 : Dev nD) : Fin 3 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_37 v19
  let v92 : BitVec 32 := Scalar.muli c4_i32_38 v91
  let c2_i32_39 : BitVec 32 := 2#32
  let c1_i32_36 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v90 : BitVec 32 := Scalar.subi c1_i32_36 v37
  let v93 : BitVec 32 := Scalar.muli c2_i32_39 v90
  let v94 : BitVec 32 := Scalar.addi v92 v93
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v95 : BitVec 32 := Scalar.addi v42 v90
  let c2_i32_40 : BitVec 32 := 2#32
  let v96 : BitVec 32 := Scalar.muli c2_i32_40 v42
  let v97 : BitVec 32 := Scalar.muli v96 v90
  let v98 : BitVec 32 := Scalar.subi v95 v97
  let v99 : BitVec 32 := Scalar.addi v94 v98
  let c0_i32_277 : BitVec 32 := 0#32
  let c0_i32_278 : BitVec 32 := 0#32
  ![v99.toNat, 0, 0]
def k0_off35 (d0 : Dev nD) : Fin 1 → Nat :=
  let c4_i32_33 : BitVec 32 := 4#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v81 : BitVec 32 := Scalar.subi c1_i32_32 v19
  let v82 : BitVec 32 := Scalar.muli c4_i32_33 v81
  let c2_i32_34 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v83 : BitVec 32 := Scalar.muli c2_i32_34 v37
  let v84 : BitVec 32 := Scalar.addi v82 v83
  let c1_i32_31 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v80 : BitVec 32 := Scalar.subi c1_i32_31 v42
  let v85 : BitVec 32 := Scalar.addi v80 v37
  let c2_i32_35 : BitVec 32 := 2#32
  let v86 : BitVec 32 := Scalar.muli c2_i32_35 v80
  let v87 : BitVec 32 := Scalar.muli v86 v37
  let v88 : BitVec 32 := Scalar.subi v85 v87
  let v89 : BitVec 32 := Scalar.addi v84 v88
  ![v89.toNat]
def k0_off36 (d0 : Dev nD) : Fin 3 → Nat :=
  let c4_i32_33 : BitVec 32 := 4#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v81 : BitVec 32 := Scalar.subi c1_i32_32 v19
  let v82 : BitVec 32 := Scalar.muli c4_i32_33 v81
  let c2_i32_34 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v83 : BitVec 32 := Scalar.muli c2_i32_34 v37
  let v84 : BitVec 32 := Scalar.addi v82 v83
  let c1_i32_31 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v80 : BitVec 32 := Scalar.subi c1_i32_31 v42
  let v85 : BitVec 32 := Scalar.addi v80 v37
  let c2_i32_35 : BitVec 32 := 2#32
  let v86 : BitVec 32 := Scalar.muli c2_i32_35 v80
  let v87 : BitVec 32 := Scalar.muli v86 v37
  let v88 : BitVec 32 := Scalar.subi v85 v87
  let v89 : BitVec 32 := Scalar.addi v84 v88
  let c0_i32_284 : BitVec 32 := 0#32
  let c0_i32_285 : BitVec 32 := 0#32
  ![v89.toNat, 0, 0]
def k0_off37 (d0 : Dev nD) : Fin 3 → Nat :=
  let c4_i32_33 : BitVec 32 := 4#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v81 : BitVec 32 := Scalar.subi c1_i32_32 v19
  let v82 : BitVec 32 := Scalar.muli c4_i32_33 v81
  let c2_i32_34 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v83 : BitVec 32 := Scalar.muli c2_i32_34 v37
  let v84 : BitVec 32 := Scalar.addi v82 v83
  let c1_i32_31 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v80 : BitVec 32 := Scalar.subi c1_i32_31 v42
  let v85 : BitVec 32 := Scalar.addi v80 v37
  let c2_i32_35 : BitVec 32 := 2#32
  let v86 : BitVec 32 := Scalar.muli c2_i32_35 v80
  let v87 : BitVec 32 := Scalar.muli v86 v37
  let v88 : BitVec 32 := Scalar.subi v85 v87
  let v89 : BitVec 32 := Scalar.addi v84 v88
  let c0_i32_291 : BitVec 32 := 0#32
  let c0_i32_292 : BitVec 32 := 0#32
  ![v89.toNat, 0, 0]
def k0_off38 (d0 : Dev nD) : Fin 3 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_37 v19
  let v92 : BitVec 32 := Scalar.muli c4_i32_38 v91
  let c2_i32_39 : BitVec 32 := 2#32
  let c1_i32_36 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v90 : BitVec 32 := Scalar.subi c1_i32_36 v37
  let v93 : BitVec 32 := Scalar.muli c2_i32_39 v90
  let v94 : BitVec 32 := Scalar.addi v92 v93
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v95 : BitVec 32 := Scalar.addi v42 v90
  let c2_i32_40 : BitVec 32 := 2#32
  let v96 : BitVec 32 := Scalar.muli c2_i32_40 v42
  let v97 : BitVec 32 := Scalar.muli v96 v90
  let v98 : BitVec 32 := Scalar.subi v95 v97
  let v99 : BitVec 32 := Scalar.addi v94 v98
  let c0_i32_335 : BitVec 32 := 0#32
  let c0_i32_336 : BitVec 32 := 0#32
  ![v99.toNat, 0, 0]
def k0_dev16 (d0 : Dev nD) : Nat :=
  let c0_i32_334 : BitVec 32 := 0#32
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_333 : BitVec 32 := 1#32
  let v443 : BitVec 32 := Scalar.muli v51 c1_i32_333
  let v444 : BitVec 32 := Scalar.addi c0_i32_334 v443
  v444.toNat
def k0_off39 (d0 : Dev nD) : Fin 3 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_37 v19
  let v92 : BitVec 32 := Scalar.muli c4_i32_38 v91
  let c2_i32_39 : BitVec 32 := 2#32
  let c1_i32_36 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v90 : BitVec 32 := Scalar.subi c1_i32_36 v37
  let v93 : BitVec 32 := Scalar.muli c2_i32_39 v90
  let v94 : BitVec 32 := Scalar.addi v92 v93
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v95 : BitVec 32 := Scalar.addi v42 v90
  let c2_i32_40 : BitVec 32 := 2#32
  let v96 : BitVec 32 := Scalar.muli c2_i32_40 v42
  let v97 : BitVec 32 := Scalar.muli v96 v90
  let v98 : BitVec 32 := Scalar.subi v95 v97
  let v99 : BitVec 32 := Scalar.addi v94 v98
  let c0_i32_343 : BitVec 32 := 0#32
  let c0_i32_344 : BitVec 32 := 0#32
  ![v99.toNat, 0, 0]
def k0_dev17 (d0 : Dev nD) : Nat :=
  let c0_i32_342 : BitVec 32 := 0#32
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_341 : BitVec 32 := 1#32
  let v453 : BitVec 32 := Scalar.muli v51 c1_i32_341
  let v454 : BitVec 32 := Scalar.addi c0_i32_342 v453
  v454.toNat
def k0_off40 (d0 : Dev nD) : Fin 3 → Nat :=
  let c4_i32_33 : BitVec 32 := 4#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v81 : BitVec 32 := Scalar.subi c1_i32_32 v19
  let v82 : BitVec 32 := Scalar.muli c4_i32_33 v81
  let c2_i32_34 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v83 : BitVec 32 := Scalar.muli c2_i32_34 v37
  let v84 : BitVec 32 := Scalar.addi v82 v83
  let c1_i32_31 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v80 : BitVec 32 := Scalar.subi c1_i32_31 v42
  let v85 : BitVec 32 := Scalar.addi v80 v37
  let c2_i32_35 : BitVec 32 := 2#32
  let v86 : BitVec 32 := Scalar.muli c2_i32_35 v80
  let v87 : BitVec 32 := Scalar.muli v86 v37
  let v88 : BitVec 32 := Scalar.subi v85 v87
  let v89 : BitVec 32 := Scalar.addi v84 v88
  let c2048_i32 : BitVec 32 := 2048#32
  let c0_i32_351 : BitVec 32 := 0#32
  ![v89.toNat, 2048, 0]
def k0_dev18 (d0 : Dev nD) : Nat :=
  let c0_i32_350 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_349 : BitVec 32 := 1#32
  let v463 : BitVec 32 := Scalar.muli v60 c1_i32_349
  let v464 : BitVec 32 := Scalar.addi c0_i32_350 v463
  v464.toNat
def k0_off41 (d0 : Dev nD) : Fin 3 → Nat :=
  let c4_i32_33 : BitVec 32 := 4#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v81 : BitVec 32 := Scalar.subi c1_i32_32 v19
  let v82 : BitVec 32 := Scalar.muli c4_i32_33 v81
  let c2_i32_34 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v83 : BitVec 32 := Scalar.muli c2_i32_34 v37
  let v84 : BitVec 32 := Scalar.addi v82 v83
  let c1_i32_31 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v80 : BitVec 32 := Scalar.subi c1_i32_31 v42
  let v85 : BitVec 32 := Scalar.addi v80 v37
  let c2_i32_35 : BitVec 32 := 2#32
  let v86 : BitVec 32 := Scalar.muli c2_i32_35 v80
  let v87 : BitVec 32 := Scalar.muli v86 v37
  let v88 : BitVec 32 := Scalar.subi v85 v87
  let v89 : BitVec 32 := Scalar.addi v84 v88
  let c128_i32 : BitVec 32 := 128#32
  let c0_i32_358 : BitVec 32 := 0#32
  ![v89.toNat, 128, 0]
def k0_dev19 (d0 : Dev nD) : Nat :=
  let c0_i32_357 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_356 : BitVec 32 := 1#32
  let v473 : BitVec 32 := Scalar.muli v60 c1_i32_356
  let v474 : BitVec 32 := Scalar.addi c0_i32_357 v473
  v474.toNat
def k0_off42 (d0 : Dev nD) : Fin 3 → Nat :=
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_28 v19
  let c2_i32_29 : BitVec 32 := 2#32
  let c1_i32_27 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v71 : BitVec 32 := Scalar.subi c1_i32_27 v37
  let v73 : BitVec 32 := Scalar.muli c2_i32_29 v71
  let v74 : BitVec 32 := Scalar.addi v72 v73
  let c1_i32_26 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v70 : BitVec 32 := Scalar.subi c1_i32_26 v42
  let v75 : BitVec 32 := Scalar.addi v70 v71
  let c2_i32_30 : BitVec 32 := 2#32
  let v76 : BitVec 32 := Scalar.muli c2_i32_30 v70
  let v77 : BitVec 32 := Scalar.muli v76 v71
  let v78 : BitVec 32 := Scalar.subi v75 v77
  let v79 : BitVec 32 := Scalar.addi v74 v78
  let c256_i32 : BitVec 32 := 256#32
  let c0_i32_365 : BitVec 32 := 0#32
  ![v79.toNat, 256, 0]
def k0_dev20 (d0 : Dev nD) : Nat :=
  let c0_i32_364 : BitVec 32 := 0#32
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_363 : BitVec 32 := 1#32
  let v483 : BitVec 32 := Scalar.muli v69 c1_i32_363
  let v484 : BitVec 32 := Scalar.addi c0_i32_364 v483
  v484.toNat
@[reducible] def k0_t2_loop : Scf.Loop 32 :=
  let c72_i32_368 : BitVec 32 := 72#32
  let c56_i32 : BitVec 32 := 56#32
  let v493 : BitVec 32 := Scalar.addi c72_i32_368 c56_i32
  let c1_i32_369 : BitVec 32 := 1#32
  ⟨c72_i32_368, v493, c1_i32_369⟩
def k0_off43 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v671 : Index := Scalar.indexCast v2
  let c72_i32_368 : BitVec 32 := 72#32
  let c1_i32_369 : BitVec 32 := 1#32
  let arg19 : BitVec 32 := Scf.iv c72_i32_368 c1_i32_369 k0_t2
  let c4_i32_540 : BitVec 32 := 4#32
  let v650 : BitVec 32 := Scalar.remsi arg19 c4_i32_540
  let c1024_i32_541 : BitVec 32 := 1024#32
  let v651 : BitVec 32 := Scalar.muli v650 c1024_i32_541
  let v672 : Index := Scalar.indexCast v651
  let c0 : Index := 0#32
  ![v671.toNat, v672.toNat, 0]
def k0_off44 (d0 : Dev nD) (k0_t2 : Fin k0_t2_loop.trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v675 : Index := Scalar.indexCast v2
  let c0_550 : Index := 0#32
  let c72_i32_368 : BitVec 32 := 72#32
  let c1_i32_369 : BitVec 32 := 1#32
  let arg19 : BitVec 32 := Scf.iv c72_i32_368 c1_i32_369 k0_t2
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v676 : Index := Scalar.indexCast v669
  ![v675.toNat, 0, v676.toNat]
def k0_off45 (d0 : Dev nD) (k0_t2 : Fin k0_t2_loop.trips) : Fin 3 → Nat :=
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let v681 : Index := Scalar.indexCast v51
  let c72_i32_368 : BitVec 32 := 72#32
  let c1_i32_369 : BitVec 32 := 1#32
  let arg19 : BitVec 32 := Scf.iv c72_i32_368 c1_i32_369 k0_t2
  let c4_i32_540 : BitVec 32 := 4#32
  let v650 : BitVec 32 := Scalar.remsi arg19 c4_i32_540
  let c1024_i32_541 : BitVec 32 := 1024#32
  let v651 : BitVec 32 := Scalar.muli v650 c1024_i32_541
  let v682 : Index := Scalar.indexCast v651
  let c0_552 : Index := 0#32
  ![v681.toNat, v682.toNat, 0]
def k0_off46 (d0 : Dev nD) (k0_t2 : Fin k0_t2_loop.trips) : Fin 3 → Nat :=
  let c4_i32_15 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v44 : BitVec 32 := Scalar.muli c4_i32_15 v19
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let v685 : Index := Scalar.indexCast v51
  let c0_553 : Index := 0#32
  let c72_i32_368 : BitVec 32 := 72#32
  let c1_i32_369 : BitVec 32 := 1#32
  let arg19 : BitVec 32 := Scf.iv c72_i32_368 c1_i32_369 k0_t2
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v686 : Index := Scalar.indexCast v669
  ![v685.toNat, 0, v686.toNat]
def k0_off47 (d0 : Dev nD) (k0_t2 : Fin k0_t2_loop.trips) : Fin 3 → Nat :=
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let v691 : Index := Scalar.indexCast v60
  let c72_i32_368 : BitVec 32 := 72#32
  let c1_i32_369 : BitVec 32 := 1#32
  let arg19 : BitVec 32 := Scf.iv c72_i32_368 c1_i32_369 k0_t2
  let c4_i32_540 : BitVec 32 := 4#32
  let v650 : BitVec 32 := Scalar.remsi arg19 c4_i32_540
  let c1024_i32_541 : BitVec 32 := 1024#32
  let v651 : BitVec 32 := Scalar.muli v650 c1024_i32_541
  let v692 : Index := Scalar.indexCast v651
  let c0_555 : Index := 0#32
  ![v691.toNat, v692.toNat, 0]
def k0_off48 (d0 : Dev nD) (k0_t2 : Fin k0_t2_loop.trips) : Fin 3 → Nat :=
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.muli c4_i32_19 v19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let v695 : Index := Scalar.indexCast v60
  let c0_556 : Index := 0#32
  let c72_i32_368 : BitVec 32 := 72#32
  let c1_i32_369 : BitVec 32 := 1#32
  let arg19 : BitVec 32 := Scf.iv c72_i32_368 c1_i32_369 k0_t2
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v696 : Index := Scalar.indexCast v669
  ![v695.toNat, 0, v696.toNat]
def k0_off49 (d0 : Dev nD) (k0_t2 : Fin k0_t2_loop.trips) : Fin 3 → Nat :=
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let v701 : Index := Scalar.indexCast v69
  let c72_i32_368 : BitVec 32 := 72#32
  let c1_i32_369 : BitVec 32 := 1#32
  let arg19 : BitVec 32 := Scf.iv c72_i32_368 c1_i32_369 k0_t2
  let c4_i32_540 : BitVec 32 := 4#32
  let v650 : BitVec 32 := Scalar.remsi arg19 c4_i32_540
  let c1024_i32_541 : BitVec 32 := 1024#32
  let v651 : BitVec 32 := Scalar.muli v650 c1024_i32_541
  let v702 : Index := Scalar.indexCast v651
  let c0_558 : Index := 0#32
  ![v701.toNat, v702.toNat, 0]
def k0_off50 (d0 : Dev nD) (k0_t2 : Fin k0_t2_loop.trips) : Fin 3 → Nat :=
  let c4_i32_23 : BitVec 32 := 4#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let v62 : BitVec 32 := Scalar.muli c4_i32_23 v61
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let v705 : Index := Scalar.indexCast v69
  let c0_559 : Index := 0#32
  let c72_i32_368 : BitVec 32 := 72#32
  let c1_i32_369 : BitVec 32 := 1#32
  let arg19 : BitVec 32 := Scf.iv c72_i32_368 c1_i32_369 k0_t2
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v706 : Index := Scalar.indexCast v669
  ![v705.toNat, 0, v706.toNat]
def k0_cond2 (k0_t2 : Fin k0_t2_loop.trips) : BitVec 1 :=
  let c72_i32_368 : BitVec 32 := 72#32
  let c1_i32_369 : BitVec 32 := 1#32
  let arg19 : BitVec 32 := Scf.iv c72_i32_368 c1_i32_369 k0_t2
  let c76_i32 : BitVec 32 := 76#32
  let v711 : BitVec 1 := Scalar.cmpi .sge arg19 c76_i32
  let v712 : BitVec 32 := Scalar.extui v711
  let c0_i32_561 : BitVec 32 := 0#32
  let v713 : BitVec 1 := Scalar.cmpi .ne v712 c0_i32_561
  v713

def k0_off51 (k0_t2 : Fin k0_t2_loop.trips) : Fin 1 → Nat :=
  let c72_i32_368 : BitVec 32 := 72#32
  let c1_i32_369 : BitVec 32 := 1#32
  let arg19 : BitVec 32 := Scf.iv c72_i32_368 c1_i32_369 k0_t2
  let c4_i32_539 : BitVec 32 := 4#32
  let v649 : BitVec 32 := Scalar.remsi arg19 c4_i32_539
  ![v649.toNat]
def k0_off52 (k0_t2 : Fin k0_t2_loop.trips) : Fin 2 → Nat :=
  let c72_i32_368 : BitVec 32 := 72#32
  let c1_i32_369 : BitVec 32 := 1#32
  let arg19 : BitVec 32 := Scf.iv c72_i32_368 c1_i32_369 k0_t2
  let c4_i32_576 : BitVec 32 := 4#32
  let v743 : BitVec 32 := Scalar.subi arg19 c4_i32_576
  let c4_i32_577 : BitVec 32 := 4#32
  let v744 : BitVec 32 := Scalar.remsi v743 c4_i32_577
  let c1024_i32_578 : BitVec 32 := 1024#32
  let v745 : BitVec 32 := Scalar.muli v744 c1024_i32_578
  let c0_i32_580 : BitVec 32 := 0#32
  let v747 : BitVec 1 := Scalar.cmpi .sgt v743 c0_i32_580
  let v748 : BitVec 32 := Scalar.extui v747
  let c0_i32_581 : BitVec 32 := 0#32
  let v749 : BitVec 1 := Scalar.cmpi .slt v743 c0_i32_581
  let v750 : BitVec 32 := Scalar.extui v749
  let v751 : BitVec 32 := Scalar.subi v748 v750
  let c4_i32_579 : BitVec 32 := 4#32
  let c0_i32_582 : BitVec 32 := 0#32
  let v752 : BitVec 1 := Scalar.cmpi .sgt c4_i32_579 c0_i32_582
  let v753 : BitVec 32 := Scalar.extui v752
  let c0_i32_583 : BitVec 32 := 0#32
  let v754 : BitVec 1 := Scalar.cmpi .slt c4_i32_579 c0_i32_583
  let v755 : BitVec 32 := Scalar.extui v754
  let v756 : BitVec 32 := Scalar.subi v753 v755
  let v757 : BitVec 1 := Scalar.cmpi .ne v751 v756
  let v758 : BitVec 32 := Scalar.remsi v743 c4_i32_579
  let c0_i32_584 : BitVec 32 := 0#32
  let v759 : BitVec 1 := Scalar.cmpi .ne v758 c0_i32_584
  let v760 : BitVec 1 := Scalar.andi v757 v759
  let v746 : BitVec 32 := Scalar.divsi v743 c4_i32_579
  let c1_i32_585 : BitVec 32 := 1#32
  let v761 : BitVec 32 := Scalar.subi v746 c1_i32_585
  let v762 : BitVec 32 := Scalar.select v760 v761 v746
  let c256_i32_586 : BitVec 32 := 256#32
  let v763 : BitVec 32 := Scalar.muli v762 c256_i32_586
  ![v745.toNat, v763.toNat]
def k0_off53 (k0_t2 : Fin k0_t2_loop.trips) : Fin 3 → Nat :=
  let c72_i32_368 : BitVec 32 := 72#32
  let c1_i32_369 : BitVec 32 := 1#32
  let arg19 : BitVec 32 := Scf.iv c72_i32_368 c1_i32_369 k0_t2
  let c4_i32_539 : BitVec 32 := 4#32
  let v649 : BitVec 32 := Scalar.remsi arg19 c4_i32_539
  let c0_i32_587 : BitVec 32 := 0#32
  let c0_i32_588 : BitVec 32 := 0#32
  ![v649.toNat, 0, 0]
def k0_off54 (k0_t2 : Fin k0_t2_loop.trips) : Fin 3 → Nat :=
  let c72_i32_368 : BitVec 32 := 72#32
  let c1_i32_369 : BitVec 32 := 1#32
  let arg19 : BitVec 32 := Scf.iv c72_i32_368 c1_i32_369 k0_t2
  let c4_i32_539 : BitVec 32 := 4#32
  let v649 : BitVec 32 := Scalar.remsi arg19 c4_i32_539
  let v714 : Index := Scalar.indexCast v649
  let c0_562 : Index := 0#32
  let c0_563 : Index := 0#32
  ![v714.toNat, 0, 0]
def k0_off55 (k0_t2 : Fin k0_t2_loop.trips) : Fin 1 → Nat :=
  let c72_i32_368 : BitVec 32 := 72#32
  let c1_i32_369 : BitVec 32 := 1#32
  let arg19 : BitVec 32 := Scf.iv c72_i32_368 c1_i32_369 k0_t2
  let c4_i32_539 : BitVec 32 := 4#32
  let v649 : BitVec 32 := Scalar.remsi arg19 c4_i32_539
  ![v649.toNat]
def k0_off56 (k0_t2 : Fin k0_t2_loop.trips) : Fin 2 → Nat :=
  let c72_i32_368 : BitVec 32 := 72#32
  let c1_i32_369 : BitVec 32 := 1#32
  let arg19 : BitVec 32 := Scf.iv c72_i32_368 c1_i32_369 k0_t2
  let c4_i32_564 : BitVec 32 := 4#32
  let v718 : BitVec 32 := Scalar.remsi arg19 c4_i32_564
  let c1024_i32_565 : BitVec 32 := 1024#32
  let v719 : BitVec 32 := Scalar.muli v718 c1024_i32_565
  let c0_i32_567 : BitVec 32 := 0#32
  let v721 : BitVec 1 := Scalar.cmpi .sgt arg19 c0_i32_567
  let v722 : BitVec 32 := Scalar.extui v721
  let c0_i32_568 : BitVec 32 := 0#32
  let v723 : BitVec 1 := Scalar.cmpi .slt arg19 c0_i32_568
  let v724 : BitVec 32 := Scalar.extui v723
  let v725 : BitVec 32 := Scalar.subi v722 v724
  let c4_i32_566 : BitVec 32 := 4#32
  let c0_i32_569 : BitVec 32 := 0#32
  let v726 : BitVec 1 := Scalar.cmpi .sgt c4_i32_566 c0_i32_569
  let v727 : BitVec 32 := Scalar.extui v726
  let c0_i32_570 : BitVec 32 := 0#32
  let v728 : BitVec 1 := Scalar.cmpi .slt c4_i32_566 c0_i32_570
  let v729 : BitVec 32 := Scalar.extui v728
  let v730 : BitVec 32 := Scalar.subi v727 v729
  let v731 : BitVec 1 := Scalar.cmpi .ne v725 v730
  let v732 : BitVec 32 := Scalar.remsi arg19 c4_i32_566
  let c0_i32_571 : BitVec 32 := 0#32
  let v733 : BitVec 1 := Scalar.cmpi .ne v732 c0_i32_571
  let v734 : BitVec 1 := Scalar.andi v731 v733
  let v720 : BitVec 32 := Scalar.divsi arg19 c4_i32_566
  let c1_i32_572 : BitVec 32 := 1#32
  let v735 : BitVec 32 := Scalar.subi v720 c1_i32_572
  let v736 : BitVec 32 := Scalar.select v734 v735 v720
  let c256_i32_573 : BitVec 32 := 256#32
  let v737 : BitVec 32 := Scalar.muli v736 c256_i32_573
  ![v719.toNat, v737.toNat]
def k0_off57 (k0_t2 : Fin k0_t2_loop.trips) : Fin 3 → Nat :=
  let c72_i32_368 : BitVec 32 := 72#32
  let c1_i32_369 : BitVec 32 := 1#32
  let arg19 : BitVec 32 := Scf.iv c72_i32_368 c1_i32_369 k0_t2
  let c4_i32_539 : BitVec 32 := 4#32
  let v649 : BitVec 32 := Scalar.remsi arg19 c4_i32_539
  let c0_i32_574 : BitVec 32 := 0#32
  let c0_i32_575 : BitVec 32 := 0#32
  ![v649.toNat, 0, 0]
def k0_off58 (c124_i32 : BitVec 32) : Fin 2 → Nat :=
  let c4_i32_371 : BitVec 32 := 4#32
  let v494 : BitVec 32 := Scalar.remsi c124_i32 c4_i32_371
  let c1024_i32_372 : BitVec 32 := 1024#32
  let v495 : BitVec 32 := Scalar.muli v494 c1024_i32_372
  let c7936_i32 : BitVec 32 := 7936#32
  ![v495.toNat, 7936]
def k0_off59 (d0 : Dev nD) : Fin 3 → Nat :=
  let c4_i32_44 : BitVec 32 := 4#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_43 v19
  let v103 : BitVec 32 := Scalar.muli c4_i32_44 v102
  let c2_i32_45 : BitVec 32 := 2#32
  let c1_i32_42 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v101 : BitVec 32 := Scalar.subi c1_i32_42 v37
  let v104 : BitVec 32 := Scalar.muli c2_i32_45 v101
  let v105 : BitVec 32 := Scalar.addi v103 v104
  let c1_i32_41 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v100 : BitVec 32 := Scalar.subi c1_i32_41 v42
  let v106 : BitVec 32 := Scalar.addi v100 v101
  let c2_i32_46 : BitVec 32 := 2#32
  let v107 : BitVec 32 := Scalar.muli c2_i32_46 v100
  let v108 : BitVec 32 := Scalar.muli v107 v101
  let v109 : BitVec 32 := Scalar.subi v106 v108
  let v110 : BitVec 32 := Scalar.addi v105 v109
  let c0_i32_402 : BitVec 32 := 0#32
  let c0_i32_403 : BitVec 32 := 0#32
  ![v110.toNat, 0, 0]
def k0_off60 (d0 : Dev nD) : Fin 3 → Nat :=
  let c4_i32_44 : BitVec 32 := 4#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_43 v19
  let v103 : BitVec 32 := Scalar.muli c4_i32_44 v102
  let c2_i32_45 : BitVec 32 := 2#32
  let c1_i32_42 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v101 : BitVec 32 := Scalar.subi c1_i32_42 v37
  let v104 : BitVec 32 := Scalar.muli c2_i32_45 v101
  let v105 : BitVec 32 := Scalar.addi v103 v104
  let c1_i32_41 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v100 : BitVec 32 := Scalar.subi c1_i32_41 v42
  let v106 : BitVec 32 := Scalar.addi v100 v101
  let c2_i32_46 : BitVec 32 := 2#32
  let v107 : BitVec 32 := Scalar.muli c2_i32_46 v100
  let v108 : BitVec 32 := Scalar.muli v107 v101
  let v109 : BitVec 32 := Scalar.subi v106 v108
  let v110 : BitVec 32 := Scalar.addi v105 v109
  let c0_i32_410 : BitVec 32 := 0#32
  let c0_i32_411 : BitVec 32 := 0#32
  ![v110.toNat, 0, 0]
def k0_off61 (d0 : Dev nD) : Fin 3 → Nat :=
  let c4_i32_44 : BitVec 32 := 4#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_43 v19
  let v103 : BitVec 32 := Scalar.muli c4_i32_44 v102
  let c2_i32_45 : BitVec 32 := 2#32
  let c1_i32_42 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v101 : BitVec 32 := Scalar.subi c1_i32_42 v37
  let v104 : BitVec 32 := Scalar.muli c2_i32_45 v101
  let v105 : BitVec 32 := Scalar.addi v103 v104
  let c1_i32_41 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v100 : BitVec 32 := Scalar.subi c1_i32_41 v42
  let v106 : BitVec 32 := Scalar.addi v100 v101
  let c2_i32_46 : BitVec 32 := 2#32
  let v107 : BitVec 32 := Scalar.muli c2_i32_46 v100
  let v108 : BitVec 32 := Scalar.muli v107 v101
  let v109 : BitVec 32 := Scalar.subi v106 v108
  let v110 : BitVec 32 := Scalar.addi v105 v109
  let c2048_i32_417 : BitVec 32 := 2048#32
  let c0_i32_418 : BitVec 32 := 0#32
  ![v110.toNat, 2048, 0]
def k0_off62 (d0 : Dev nD) : Fin 3 → Nat :=
  let c4_i32_44 : BitVec 32 := 4#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_43 v19
  let v103 : BitVec 32 := Scalar.muli c4_i32_44 v102
  let c2_i32_45 : BitVec 32 := 2#32
  let c1_i32_42 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v101 : BitVec 32 := Scalar.subi c1_i32_42 v37
  let v104 : BitVec 32 := Scalar.muli c2_i32_45 v101
  let v105 : BitVec 32 := Scalar.addi v103 v104
  let c1_i32_41 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v100 : BitVec 32 := Scalar.subi c1_i32_41 v42
  let v106 : BitVec 32 := Scalar.addi v100 v101
  let c2_i32_46 : BitVec 32 := 2#32
  let v107 : BitVec 32 := Scalar.muli c2_i32_46 v100
  let v108 : BitVec 32 := Scalar.muli v107 v101
  let v109 : BitVec 32 := Scalar.subi v106 v108
  let v110 : BitVec 32 := Scalar.addi v105 v109
  let c128_i32_425 : BitVec 32 := 128#32
  let c0_i32_426 : BitVec 32 := 0#32
  ![v110.toNat, 128, 0]
def k0_off63 (d0 : Dev nD) : Fin 3 → Nat :=
  let c4_i32_44 : BitVec 32 := 4#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_43 v19
  let v103 : BitVec 32 := Scalar.muli c4_i32_44 v102
  let c2_i32_45 : BitVec 32 := 2#32
  let c1_i32_42 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v101 : BitVec 32 := Scalar.subi c1_i32_42 v37
  let v104 : BitVec 32 := Scalar.muli c2_i32_45 v101
  let v105 : BitVec 32 := Scalar.addi v103 v104
  let c1_i32_41 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v100 : BitVec 32 := Scalar.subi c1_i32_41 v42
  let v106 : BitVec 32 := Scalar.addi v100 v101
  let c2_i32_46 : BitVec 32 := 2#32
  let v107 : BitVec 32 := Scalar.muli c2_i32_46 v100
  let v108 : BitVec 32 := Scalar.muli v107 v101
  let v109 : BitVec 32 := Scalar.subi v106 v108
  let v110 : BitVec 32 := Scalar.addi v105 v109
  let c256_i32_432 : BitVec 32 := 256#32
  let c0_i32_433 : BitVec 32 := 0#32
  ![v110.toNat, 256, 0]
def k0_off64 (c0_i32_471 : BitVec 32) : Fin 2 → Nat :=
  let c4_i32_472 : BitVec 32 := 4#32
  let v592 : BitVec 32 := Scalar.remsi c0_i32_471 c4_i32_472
  let c1024_i32_473 : BitVec 32 := 1024#32
  let v593 : BitVec 32 := Scalar.muli v592 c1024_i32_473
  let c0_i32_478 : BitVec 32 := 0#32
  ![v593.toNat, 0]
@[reducible] def k0_t3_loop : Scf.Loop 32 :=
  let c0_i32_503 : BitVec 32 := 0#32
  let c128_i32_504 : BitVec 32 := 128#32
  let v620 : BitVec 32 := Scalar.addi c0_i32_503 c128_i32_504
  let c1_i32_505 : BitVec 32 := 1#32
  ⟨c0_i32_503, v620, c1_i32_505⟩
def k0_off65 (d0 : Dev nD) (k0_t3 : Fin k0_t3_loop.trips) : Fin 3 → Nat :=
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_28 v19
  let c2_i32_29 : BitVec 32 := 2#32
  let c1_i32_27 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v71 : BitVec 32 := Scalar.subi c1_i32_27 v37
  let v73 : BitVec 32 := Scalar.muli c2_i32_29 v71
  let v74 : BitVec 32 := Scalar.addi v72 v73
  let c1_i32_26 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v70 : BitVec 32 := Scalar.subi c1_i32_26 v42
  let v75 : BitVec 32 := Scalar.addi v70 v71
  let c2_i32_30 : BitVec 32 := 2#32
  let v76 : BitVec 32 := Scalar.muli c2_i32_30 v70
  let v77 : BitVec 32 := Scalar.muli v76 v71
  let v78 : BitVec 32 := Scalar.subi v75 v77
  let v79 : BitVec 32 := Scalar.addi v74 v78
  let v671 : Index := Scalar.indexCast v79
  let c0_i32_503 : BitVec 32 := 0#32
  let c1_i32_505 : BitVec 32 := 1#32
  let arg19 : BitVec 32 := Scf.iv c0_i32_503 c1_i32_505 k0_t3
  let c4_i32_540 : BitVec 32 := 4#32
  let v650 : BitVec 32 := Scalar.remsi arg19 c4_i32_540
  let c1024_i32_541 : BitVec 32 := 1024#32
  let v651 : BitVec 32 := Scalar.muli v650 c1024_i32_541
  let v672 : Index := Scalar.indexCast v651
  let c0 : Index := 0#32
  ![v671.toNat, v672.toNat, 0]
def k0_off66 (d0 : Dev nD) (k0_t3 : Fin k0_t3_loop.trips) : Fin 3 → Nat :=
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_28 v19
  let c2_i32_29 : BitVec 32 := 2#32
  let c1_i32_27 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v71 : BitVec 32 := Scalar.subi c1_i32_27 v37
  let v73 : BitVec 32 := Scalar.muli c2_i32_29 v71
  let v74 : BitVec 32 := Scalar.addi v72 v73
  let c1_i32_26 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v70 : BitVec 32 := Scalar.subi c1_i32_26 v42
  let v75 : BitVec 32 := Scalar.addi v70 v71
  let c2_i32_30 : BitVec 32 := 2#32
  let v76 : BitVec 32 := Scalar.muli c2_i32_30 v70
  let v77 : BitVec 32 := Scalar.muli v76 v71
  let v78 : BitVec 32 := Scalar.subi v75 v77
  let v79 : BitVec 32 := Scalar.addi v74 v78
  let v675 : Index := Scalar.indexCast v79
  let c0_550 : Index := 0#32
  let c0_i32_503 : BitVec 32 := 0#32
  let c1_i32_505 : BitVec 32 := 1#32
  let arg19 : BitVec 32 := Scf.iv c0_i32_503 c1_i32_505 k0_t3
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v676 : Index := Scalar.indexCast v669
  ![v675.toNat, 0, v676.toNat]
def k0_off67 (d0 : Dev nD) (k0_t3 : Fin k0_t3_loop.trips) : Fin 3 → Nat :=
  let c4_i32_33 : BitVec 32 := 4#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v81 : BitVec 32 := Scalar.subi c1_i32_32 v19
  let v82 : BitVec 32 := Scalar.muli c4_i32_33 v81
  let c2_i32_34 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v83 : BitVec 32 := Scalar.muli c2_i32_34 v37
  let v84 : BitVec 32 := Scalar.addi v82 v83
  let c1_i32_31 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v80 : BitVec 32 := Scalar.subi c1_i32_31 v42
  let v85 : BitVec 32 := Scalar.addi v80 v37
  let c2_i32_35 : BitVec 32 := 2#32
  let v86 : BitVec 32 := Scalar.muli c2_i32_35 v80
  let v87 : BitVec 32 := Scalar.muli v86 v37
  let v88 : BitVec 32 := Scalar.subi v85 v87
  let v89 : BitVec 32 := Scalar.addi v84 v88
  let v681 : Index := Scalar.indexCast v89
  let c0_i32_503 : BitVec 32 := 0#32
  let c1_i32_505 : BitVec 32 := 1#32
  let arg19 : BitVec 32 := Scf.iv c0_i32_503 c1_i32_505 k0_t3
  let c4_i32_540 : BitVec 32 := 4#32
  let v650 : BitVec 32 := Scalar.remsi arg19 c4_i32_540
  let c1024_i32_541 : BitVec 32 := 1024#32
  let v651 : BitVec 32 := Scalar.muli v650 c1024_i32_541
  let v682 : Index := Scalar.indexCast v651
  let c0_552 : Index := 0#32
  ![v681.toNat, v682.toNat, 0]
def k0_off68 (d0 : Dev nD) (k0_t3 : Fin k0_t3_loop.trips) : Fin 3 → Nat :=
  let c4_i32_33 : BitVec 32 := 4#32
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v81 : BitVec 32 := Scalar.subi c1_i32_32 v19
  let v82 : BitVec 32 := Scalar.muli c4_i32_33 v81
  let c2_i32_34 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v83 : BitVec 32 := Scalar.muli c2_i32_34 v37
  let v84 : BitVec 32 := Scalar.addi v82 v83
  let c1_i32_31 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v80 : BitVec 32 := Scalar.subi c1_i32_31 v42
  let v85 : BitVec 32 := Scalar.addi v80 v37
  let c2_i32_35 : BitVec 32 := 2#32
  let v86 : BitVec 32 := Scalar.muli c2_i32_35 v80
  let v87 : BitVec 32 := Scalar.muli v86 v37
  let v88 : BitVec 32 := Scalar.subi v85 v87
  let v89 : BitVec 32 := Scalar.addi v84 v88
  let v685 : Index := Scalar.indexCast v89
  let c0_553 : Index := 0#32
  let c0_i32_503 : BitVec 32 := 0#32
  let c1_i32_505 : BitVec 32 := 1#32
  let arg19 : BitVec 32 := Scf.iv c0_i32_503 c1_i32_505 k0_t3
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v686 : Index := Scalar.indexCast v669
  ![v685.toNat, 0, v686.toNat]
def k0_off69 (d0 : Dev nD) (k0_t3 : Fin k0_t3_loop.trips) : Fin 3 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_37 v19
  let v92 : BitVec 32 := Scalar.muli c4_i32_38 v91
  let c2_i32_39 : BitVec 32 := 2#32
  let c1_i32_36 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v90 : BitVec 32 := Scalar.subi c1_i32_36 v37
  let v93 : BitVec 32 := Scalar.muli c2_i32_39 v90
  let v94 : BitVec 32 := Scalar.addi v92 v93
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v95 : BitVec 32 := Scalar.addi v42 v90
  let c2_i32_40 : BitVec 32 := 2#32
  let v96 : BitVec 32 := Scalar.muli c2_i32_40 v42
  let v97 : BitVec 32 := Scalar.muli v96 v90
  let v98 : BitVec 32 := Scalar.subi v95 v97
  let v99 : BitVec 32 := Scalar.addi v94 v98
  let v691 : Index := Scalar.indexCast v99
  let c0_i32_503 : BitVec 32 := 0#32
  let c1_i32_505 : BitVec 32 := 1#32
  let arg19 : BitVec 32 := Scf.iv c0_i32_503 c1_i32_505 k0_t3
  let c4_i32_540 : BitVec 32 := 4#32
  let v650 : BitVec 32 := Scalar.remsi arg19 c4_i32_540
  let c1024_i32_541 : BitVec 32 := 1024#32
  let v651 : BitVec 32 := Scalar.muli v650 c1024_i32_541
  let v692 : Index := Scalar.indexCast v651
  let c0_555 : Index := 0#32
  ![v691.toNat, v692.toNat, 0]
def k0_off70 (d0 : Dev nD) (k0_t3 : Fin k0_t3_loop.trips) : Fin 3 → Nat :=
  let c4_i32_38 : BitVec 32 := 4#32
  let c1_i32_37 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.subi c1_i32_37 v19
  let v92 : BitVec 32 := Scalar.muli c4_i32_38 v91
  let c2_i32_39 : BitVec 32 := 2#32
  let c1_i32_36 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v90 : BitVec 32 := Scalar.subi c1_i32_36 v37
  let v93 : BitVec 32 := Scalar.muli c2_i32_39 v90
  let v94 : BitVec 32 := Scalar.addi v92 v93
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v95 : BitVec 32 := Scalar.addi v42 v90
  let c2_i32_40 : BitVec 32 := 2#32
  let v96 : BitVec 32 := Scalar.muli c2_i32_40 v42
  let v97 : BitVec 32 := Scalar.muli v96 v90
  let v98 : BitVec 32 := Scalar.subi v95 v97
  let v99 : BitVec 32 := Scalar.addi v94 v98
  let v695 : Index := Scalar.indexCast v99
  let c0_556 : Index := 0#32
  let c0_i32_503 : BitVec 32 := 0#32
  let c1_i32_505 : BitVec 32 := 1#32
  let arg19 : BitVec 32 := Scf.iv c0_i32_503 c1_i32_505 k0_t3
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v696 : Index := Scalar.indexCast v669
  ![v695.toNat, 0, v696.toNat]
def k0_off71 (d0 : Dev nD) (k0_t3 : Fin k0_t3_loop.trips) : Fin 3 → Nat :=
  let c4_i32_44 : BitVec 32 := 4#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_43 v19
  let v103 : BitVec 32 := Scalar.muli c4_i32_44 v102
  let c2_i32_45 : BitVec 32 := 2#32
  let c1_i32_42 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v101 : BitVec 32 := Scalar.subi c1_i32_42 v37
  let v104 : BitVec 32 := Scalar.muli c2_i32_45 v101
  let v105 : BitVec 32 := Scalar.addi v103 v104
  let c1_i32_41 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v100 : BitVec 32 := Scalar.subi c1_i32_41 v42
  let v106 : BitVec 32 := Scalar.addi v100 v101
  let c2_i32_46 : BitVec 32 := 2#32
  let v107 : BitVec 32 := Scalar.muli c2_i32_46 v100
  let v108 : BitVec 32 := Scalar.muli v107 v101
  let v109 : BitVec 32 := Scalar.subi v106 v108
  let v110 : BitVec 32 := Scalar.addi v105 v109
  let v701 : Index := Scalar.indexCast v110
  let c0_i32_503 : BitVec 32 := 0#32
  let c1_i32_505 : BitVec 32 := 1#32
  let arg19 : BitVec 32 := Scf.iv c0_i32_503 c1_i32_505 k0_t3
  let c4_i32_540 : BitVec 32 := 4#32
  let v650 : BitVec 32 := Scalar.remsi arg19 c4_i32_540
  let c1024_i32_541 : BitVec 32 := 1024#32
  let v651 : BitVec 32 := Scalar.muli v650 c1024_i32_541
  let v702 : Index := Scalar.indexCast v651
  let c0_558 : Index := 0#32
  ![v701.toNat, v702.toNat, 0]
def k0_off72 (d0 : Dev nD) (k0_t3 : Fin k0_t3_loop.trips) : Fin 3 → Nat :=
  let c4_i32_44 : BitVec 32 := 4#32
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v102 : BitVec 32 := Scalar.subi c1_i32_43 v19
  let v103 : BitVec 32 := Scalar.muli c4_i32_44 v102
  let c2_i32_45 : BitVec 32 := 2#32
  let c1_i32_42 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v101 : BitVec 32 := Scalar.subi c1_i32_42 v37
  let v104 : BitVec 32 := Scalar.muli c2_i32_45 v101
  let v105 : BitVec 32 := Scalar.addi v103 v104
  let c1_i32_41 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v100 : BitVec 32 := Scalar.subi c1_i32_41 v42
  let v106 : BitVec 32 := Scalar.addi v100 v101
  let c2_i32_46 : BitVec 32 := 2#32
  let v107 : BitVec 32 := Scalar.muli c2_i32_46 v100
  let v108 : BitVec 32 := Scalar.muli v107 v101
  let v109 : BitVec 32 := Scalar.subi v106 v108
  let v110 : BitVec 32 := Scalar.addi v105 v109
  let v705 : Index := Scalar.indexCast v110
  let c0_559 : Index := 0#32
  let c0_i32_503 : BitVec 32 := 0#32
  let c1_i32_505 : BitVec 32 := 1#32
  let arg19 : BitVec 32 := Scf.iv c0_i32_503 c1_i32_505 k0_t3
  let c0_i32_543 : BitVec 32 := 0#32
  let v653 : BitVec 1 := Scalar.cmpi .sgt arg19 c0_i32_543
  let v654 : BitVec 32 := Scalar.extui v653
  let c0_i32_544 : BitVec 32 := 0#32
  let v655 : BitVec 1 := Scalar.cmpi .slt arg19 c0_i32_544
  let v656 : BitVec 32 := Scalar.extui v655
  let v657 : BitVec 32 := Scalar.subi v654 v656
  let c4_i32_542 : BitVec 32 := 4#32
  let c0_i32_545 : BitVec 32 := 0#32
  let v658 : BitVec 1 := Scalar.cmpi .sgt c4_i32_542 c0_i32_545
  let v659 : BitVec 32 := Scalar.extui v658
  let c0_i32_546 : BitVec 32 := 0#32
  let v660 : BitVec 1 := Scalar.cmpi .slt c4_i32_542 c0_i32_546
  let v661 : BitVec 32 := Scalar.extui v660
  let v662 : BitVec 32 := Scalar.subi v659 v661
  let v663 : BitVec 1 := Scalar.cmpi .ne v657 v662
  let v664 : BitVec 32 := Scalar.remsi arg19 c4_i32_542
  let c0_i32_547 : BitVec 32 := 0#32
  let v665 : BitVec 1 := Scalar.cmpi .ne v664 c0_i32_547
  let v666 : BitVec 1 := Scalar.andi v663 v665
  let v652 : BitVec 32 := Scalar.divsi arg19 c4_i32_542
  let c1_i32_548 : BitVec 32 := 1#32
  let v667 : BitVec 32 := Scalar.subi v652 c1_i32_548
  let v668 : BitVec 32 := Scalar.select v666 v667 v652
  let c256_i32_549 : BitVec 32 := 256#32
  let v669 : BitVec 32 := Scalar.muli v668 c256_i32_549
  let v706 : Index := Scalar.indexCast v669
  ![v705.toNat, 0, v706.toNat]
def k0_off73 (k0_t3 : Fin k0_t3_loop.trips) : Fin 1 → Nat :=
  let c0_i32_503 : BitVec 32 := 0#32
  let c1_i32_505 : BitVec 32 := 1#32
  let arg19 : BitVec 32 := Scf.iv c0_i32_503 c1_i32_505 k0_t3
  let c4_i32_539 : BitVec 32 := 4#32
  let v649 : BitVec 32 := Scalar.remsi arg19 c4_i32_539
  ![v649.toNat]
def k0_off74 (k0_t3 : Fin k0_t3_loop.trips) : Fin 3 → Nat :=
  let c0_i32_503 : BitVec 32 := 0#32
  let c1_i32_505 : BitVec 32 := 1#32
  let arg19 : BitVec 32 := Scf.iv c0_i32_503 c1_i32_505 k0_t3
  let c4_i32_539 : BitVec 32 := 4#32
  let v649 : BitVec 32 := Scalar.remsi arg19 c4_i32_539
  let c0_i32_571 : BitVec 32 := 0#32
  let c0_i32_572 : BitVec 32 := 0#32
  ![v649.toNat, 0, 0]
def k0_off75 (k0_t3 : Fin k0_t3_loop.trips) : Fin 2 → Nat :=
  let c0_i32_503 : BitVec 32 := 0#32
  let c1_i32_505 : BitVec 32 := 1#32
  let arg19 : BitVec 32 := Scf.iv c0_i32_503 c1_i32_505 k0_t3
  let c4_i32_561 : BitVec 32 := 4#32
  let v711 : BitVec 32 := Scalar.remsi arg19 c4_i32_561
  let c1024_i32_562 : BitVec 32 := 1024#32
  let v712 : BitVec 32 := Scalar.muli v711 c1024_i32_562
  let c0_i32_564 : BitVec 32 := 0#32
  let v714 : BitVec 1 := Scalar.cmpi .sgt arg19 c0_i32_564
  let v715 : BitVec 32 := Scalar.extui v714
  let c0_i32_565 : BitVec 32 := 0#32
  let v716 : BitVec 1 := Scalar.cmpi .slt arg19 c0_i32_565
  let v717 : BitVec 32 := Scalar.extui v716
  let v718 : BitVec 32 := Scalar.subi v715 v717
  let c4_i32_563 : BitVec 32 := 4#32
  let c0_i32_566 : BitVec 32 := 0#32
  let v719 : BitVec 1 := Scalar.cmpi .sgt c4_i32_563 c0_i32_566
  let v720 : BitVec 32 := Scalar.extui v719
  let c0_i32_567 : BitVec 32 := 0#32
  let v721 : BitVec 1 := Scalar.cmpi .slt c4_i32_563 c0_i32_567
  let v722 : BitVec 32 := Scalar.extui v721
  let v723 : BitVec 32 := Scalar.subi v720 v722
  let v724 : BitVec 1 := Scalar.cmpi .ne v718 v723
  let v725 : BitVec 32 := Scalar.remsi arg19 c4_i32_563
  let c0_i32_568 : BitVec 32 := 0#32
  let v726 : BitVec 1 := Scalar.cmpi .ne v725 c0_i32_568
  let v727 : BitVec 1 := Scalar.andi v724 v726
  let v713 : BitVec 32 := Scalar.divsi arg19 c4_i32_563
  let c1_i32_569 : BitVec 32 := 1#32
  let v728 : BitVec 32 := Scalar.subi v713 c1_i32_569
  let v729 : BitVec 32 := Scalar.select v727 v728 v713
  let c256_i32_570 : BitVec 32 := 256#32
  let v730 : BitVec 32 := Scalar.muli v729 c256_i32_570
  ![v712.toNat, v730.toNat]
def k0_off76 (k0_t3 : Fin k0_t3_loop.trips) : Fin 3 → Nat :=
  let c0_i32_503 : BitVec 32 := 0#32
  let c1_i32_505 : BitVec 32 := 1#32
  let arg19 : BitVec 32 := Scf.iv c0_i32_503 c1_i32_505 k0_t3
  let c4_i32_539 : BitVec 32 := 4#32
  let v649 : BitVec 32 := Scalar.remsi arg19 c4_i32_539
  let v736 : Index := Scalar.indexCast v649
  let c0_573 : Index := 0#32
  let c0_574 : Index := 0#32
  ![v736.toNat, 0, 0]
def k0_cond3 (k0_t3 : Fin k0_t3_loop.trips) : BitVec 1 :=
  let c0_i32_503 : BitVec 32 := 0#32
  let c1_i32_505 : BitVec 32 := 1#32
  let arg19 : BitVec 32 := Scf.iv c0_i32_503 c1_i32_505 k0_t3
  let c4_i32_575 : BitVec 32 := 4#32
  let v740 : BitVec 32 := Scalar.addi arg19 c4_i32_575
  let c128_i32_576 : BitVec 32 := 128#32
  let v741 : BitVec 1 := Scalar.cmpi .slt v740 c128_i32_576
  let v742 : BitVec 32 := Scalar.extui v741
  let c0_i32_577 : BitVec 32 := 0#32
  let v743 : BitVec 1 := Scalar.cmpi .ne v742 c0_i32_577
  v743

def k0_off77 (k0_t3 : Fin k0_t3_loop.trips) : Fin 1 → Nat :=
  let c0_i32_503 : BitVec 32 := 0#32
  let c1_i32_505 : BitVec 32 := 1#32
  let arg19 : BitVec 32 := Scf.iv c0_i32_503 c1_i32_505 k0_t3
  let c4_i32_539 : BitVec 32 := 4#32
  let v649 : BitVec 32 := Scalar.remsi arg19 c4_i32_539
  ![v649.toNat]
def k0_off78 (k0_t3 : Fin k0_t3_loop.trips) : Fin 3 → Nat :=
  let c0_i32_503 : BitVec 32 := 0#32
  let c1_i32_505 : BitVec 32 := 1#32
  let arg19 : BitVec 32 := Scf.iv c0_i32_503 c1_i32_505 k0_t3
  let c4_i32_539 : BitVec 32 := 4#32
  let v649 : BitVec 32 := Scalar.remsi arg19 c4_i32_539
  let c0_i32_608 : BitVec 32 := 0#32
  let c0_i32_609 : BitVec 32 := 0#32
  ![v649.toNat, 0, 0]
def k0_off79 (k0_t3 : Fin k0_t3_loop.trips) : Fin 2 → Nat :=
  let c0_i32_503 : BitVec 32 := 0#32
  let c1_i32_505 : BitVec 32 := 1#32
  let arg19 : BitVec 32 := Scf.iv c0_i32_503 c1_i32_505 k0_t3
  let c4_i32_597 : BitVec 32 := 4#32
  let v783 : BitVec 32 := Scalar.addi arg19 c4_i32_597
  let c4_i32_598 : BitVec 32 := 4#32
  let v784 : BitVec 32 := Scalar.remsi v783 c4_i32_598
  let c1024_i32_599 : BitVec 32 := 1024#32
  let v785 : BitVec 32 := Scalar.muli v784 c1024_i32_599
  let c0_i32_601 : BitVec 32 := 0#32
  let v787 : BitVec 1 := Scalar.cmpi .sgt v783 c0_i32_601
  let v788 : BitVec 32 := Scalar.extui v787
  let c0_i32_602 : BitVec 32 := 0#32
  let v789 : BitVec 1 := Scalar.cmpi .slt v783 c0_i32_602
  let v790 : BitVec 32 := Scalar.extui v789
  let v791 : BitVec 32 := Scalar.subi v788 v790
  let c4_i32_600 : BitVec 32 := 4#32
  let c0_i32_603 : BitVec 32 := 0#32
  let v792 : BitVec 1 := Scalar.cmpi .sgt c4_i32_600 c0_i32_603
  let v793 : BitVec 32 := Scalar.extui v792
  let c0_i32_604 : BitVec 32 := 0#32
  let v794 : BitVec 1 := Scalar.cmpi .slt c4_i32_600 c0_i32_604
  let v795 : BitVec 32 := Scalar.extui v794
  let v796 : BitVec 32 := Scalar.subi v793 v795
  let v797 : BitVec 1 := Scalar.cmpi .ne v791 v796
  let v798 : BitVec 32 := Scalar.remsi v783 c4_i32_600
  let c0_i32_605 : BitVec 32 := 0#32
  let v799 : BitVec 1 := Scalar.cmpi .ne v798 c0_i32_605
  let v800 : BitVec 1 := Scalar.andi v797 v799
  let v786 : BitVec 32 := Scalar.divsi v783 c4_i32_600
  let c1_i32_606 : BitVec 32 := 1#32
  let v801 : BitVec 32 := Scalar.subi v786 c1_i32_606
  let v802 : BitVec 32 := Scalar.select v800 v801 v786
  let c256_i32_607 : BitVec 32 := 256#32
  let v803 : BitVec 32 := Scalar.muli v802 c256_i32_607
  ![v785.toNat, v803.toNat]
def k0_cond4 (k0_t3 : Fin k0_t3_loop.trips) : BitVec 1 :=
  let c0_i32_503 : BitVec 32 := 0#32
  let c1_i32_505 : BitVec 32 := 1#32
  let arg19 : BitVec 32 := Scf.iv c0_i32_503 c1_i32_505 k0_t3
  let c4_i32_581 : BitVec 32 := 4#32
  let v751 : BitVec 1 := Scalar.cmpi .sge arg19 c4_i32_581
  let v752 : BitVec 32 := Scalar.extui v751
  let c0_i32_582 : BitVec 32 := 0#32
  let v753 : BitVec 1 := Scalar.cmpi .ne v752 c0_i32_582
  v753

def k0_off80 (k0_t3 : Fin k0_t3_loop.trips) : Fin 1 → Nat :=
  let c0_i32_503 : BitVec 32 := 0#32
  let c1_i32_505 : BitVec 32 := 1#32
  let arg19 : BitVec 32 := Scf.iv c0_i32_503 c1_i32_505 k0_t3
  let c4_i32_539 : BitVec 32 := 4#32
  let v649 : BitVec 32 := Scalar.remsi arg19 c4_i32_539
  ![v649.toNat]
def k0_off81 (k0_t3 : Fin k0_t3_loop.trips) : Fin 2 → Nat :=
  let c0_i32_503 : BitVec 32 := 0#32
  let c1_i32_505 : BitVec 32 := 1#32
  let arg19 : BitVec 32 := Scf.iv c0_i32_503 c1_i32_505 k0_t3
  let c4_i32_597 : BitVec 32 := 4#32
  let v783 : BitVec 32 := Scalar.subi arg19 c4_i32_597
  let c4_i32_598 : BitVec 32 := 4#32
  let v784 : BitVec 32 := Scalar.remsi v783 c4_i32_598
  let c1024_i32_599 : BitVec 32 := 1024#32
  let v785 : BitVec 32 := Scalar.muli v784 c1024_i32_599
  let c0_i32_601 : BitVec 32 := 0#32
  let v787 : BitVec 1 := Scalar.cmpi .sgt v783 c0_i32_601
  let v788 : BitVec 32 := Scalar.extui v787
  let c0_i32_602 : BitVec 32 := 0#32
  let v789 : BitVec 1 := Scalar.cmpi .slt v783 c0_i32_602
  let v790 : BitVec 32 := Scalar.extui v789
  let v791 : BitVec 32 := Scalar.subi v788 v790
  let c4_i32_600 : BitVec 32 := 4#32
  let c0_i32_603 : BitVec 32 := 0#32
  let v792 : BitVec 1 := Scalar.cmpi .sgt c4_i32_600 c0_i32_603
  let v793 : BitVec 32 := Scalar.extui v792
  let c0_i32_604 : BitVec 32 := 0#32
  let v794 : BitVec 1 := Scalar.cmpi .slt c4_i32_600 c0_i32_604
  let v795 : BitVec 32 := Scalar.extui v794
  let v796 : BitVec 32 := Scalar.subi v793 v795
  let v797 : BitVec 1 := Scalar.cmpi .ne v791 v796
  let v798 : BitVec 32 := Scalar.remsi v783 c4_i32_600
  let c0_i32_605 : BitVec 32 := 0#32
  let v799 : BitVec 1 := Scalar.cmpi .ne v798 c0_i32_605
  let v800 : BitVec 1 := Scalar.andi v797 v799
  let v786 : BitVec 32 := Scalar.divsi v783 c4_i32_600
  let c1_i32_606 : BitVec 32 := 1#32
  let v801 : BitVec 32 := Scalar.subi v786 c1_i32_606
  let v802 : BitVec 32 := Scalar.select v800 v801 v786
  let c256_i32_607 : BitVec 32 := 256#32
  let v803 : BitVec 32 := Scalar.muli v802 c256_i32_607
  ![v785.toNat, v803.toNat]
def k0_off82 (k0_t3 : Fin k0_t3_loop.trips) : Fin 3 → Nat :=
  let c0_i32_503 : BitVec 32 := 0#32
  let c1_i32_505 : BitVec 32 := 1#32
  let arg19 : BitVec 32 := Scf.iv c0_i32_503 c1_i32_505 k0_t3
  let c4_i32_539 : BitVec 32 := 4#32
  let v649 : BitVec 32 := Scalar.remsi arg19 c4_i32_539
  let c0_i32_608 : BitVec 32 := 0#32
  let c0_i32_609 : BitVec 32 := 0#32
  ![v649.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Same.lean ====
/- The program as compiled and its ideal reading have one text: the same body table and the same main function, for any
   float values. -/
module

public import proofs.«01_k».proof.Proof.Gen.Kernel
public import proofs.«01_k».proof.Proof.Gen.KernelIdeal

@[expose] public section

noncomputable section

namespace Cert.K

open Idealize.ShloMosaic Idealize.SL.Sem

variable {F : FTy → Type} [FloatOps F]

set_option maxHeartbeats 4000000 in
/-- The two programs' kernel functions are one. -/
theorem same_body : @Cert.Kernel.cc0_body F _ Cert.Kernel.Gen.facts = @Cert.KernelIdeal.cc0_body F _ Cert.KernelIdeal.Gen.facts := rfl

/-- So are their tables of bodies, -/
theorem same_defs₀ : Cert.Kernel.defs₀ (F := F) = Cert.KernelIdeal.defs₀ (F := F) := by
  funext p
  cases p with
  | tc =>
    funext l a
    match l, a with
    | ⟨0, _⟩, (t, s) =>
      exact congrArg (fun f => f (Memref.whole Cert.KernelIdeal.main_arg0) (Memref.isWhole_whole _) (Memref.whole Cert.KernelIdeal.main_arg1) (Memref.isWhole_whole _)
        (Cert.KernelIdeal.win0_0.stage (s 0)) (Cert.KernelIdeal.Facts₀.hstage0_0 0) (Cert.KernelIdeal.win0_1.stage (s 1)) (Cert.KernelIdeal.Facts₀.hstage0_1 0)
        (Memref.whole Cert.KernelIdeal.main_v1) (Memref.isWhole_whole _) (Memref.whole Cert.KernelIdeal.cc0_scratch0) (Memref.isWhole_whole _)
        (Memref.whole Cert.KernelIdeal.cc0_scratch1) (Memref.isWhole_whole _) Cert.KernelIdeal.cc0_scratch2 Cert.KernelIdeal.cc0_scratch3
        Cert.KernelIdeal.cc0_scratch4 Cert.KernelIdeal.cc0_scratch5 Cert.KernelIdeal.cc0_scratch6 Cert.KernelIdeal.cc0_scratch7 Cert.KernelIdeal.cc0_scratch8
        Cert.KernelIdeal.cc0_scratch9 (Memref.whole Cert.KernelIdeal.cc0_scratch10) (Memref.isWhole_whole _) (Memref.whole Cert.KernelIdeal.cc0_scratch11)
        (Memref.isWhole_whole _) Cert.KernelIdeal.cc0_scratch12 Cert.KernelIdeal.cc0_scratch13) (same_body (F := F))
    | ⟨n + 1, h⟩, _ => exact absurd h (Nat.not_lt.2 (Nat.le_add_left _ _))
  | scScalar _ => rfl
  | scVector _ _ => rfl

/-- with each call's region and pipeline; -/
theorem same_defs : Cert.Kernel.defs (F := F) = Cert.KernelIdeal.defs (F := F) :=
  congrArg (Pipeline.defs (Cert.KernelIdeal.pcfgs (F := F))) (same_defs₀ (F := F))

/-- and their main functions. -/
theorem same_main : Cert.Kernel.main (F := F) = Cert.KernelIdeal.main (F := F) := rfl

end Cert.K

end
-- ==== Proof.Devs.lean ====
/- The eight devices as a cube: a device's neighbours are its number with some bits flipped, and the offsets and
   device numbers the kernel computes, in closed form. -/
module

public import proofs.«01_k».proof.Proof.Gen.KernelIdeal

@[expose] public section

namespace Cert.K

open Cert.KernelIdeal Cert.KernelIdeal.Gen
open Idealize.ShloMosaic

/-- The device whose number differs from `c`'s in the bits of `k`: `1`, `3`, `4` are the neighbours along the three
    axes of the cube, `2`, `7`, `5` the devices across a face, `6` the opposite corner, `0` the device itself. -/
def xr (k : Fin 8) (c : Dev nD) : Dev nD := ⟨(c.val ^^^ k.val) % 8, Nat.mod_lt _ (by decide)⟩

/-- No bit flipped is the device itself. -/
theorem xr_zero : ∀ c : Dev nD, xr 0 c = c := by decide
/-- Flipping twice is the device itself. -/
theorem xr_xr : ∀ (k : Fin 8) (c : Dev nD), xr k (xr k c) = c := by decide
/-- Different flips lead to different devices. -/
theorem xr_inj : ∀ (k j : Fin 8) (c : Dev nD), xr k c = xr j c → k = j := by decide
/-- Two flips in a row are one. -/
theorem xr_comp : ∀ (k j : Fin 8) (c : Dev nD), xr k (xr j c) = xr ⟨(k.val ^^^ j.val) % 8, Nat.mod_lt _ (by decide)⟩ c := by decide

/-- For each device, the eight devices are its eight flips. -/
def xrEquiv (c : Dev nD) : Fin 8 ≃ Dev nD where
  toFun k := xr k c
  invFun d := ⟨(c.val ^^^ d.val) % 8, Nat.mod_lt _ (by decide)⟩
  left_inv := by revert c; decide
  right_inv := by revert c; decide

/-- For each flip, the devices correspond to their flips. -/
def xrPerm (k : Fin 8) : Dev nD ≃ Dev nD := ⟨xr k, xr k, xr_xr k, xr_xr k⟩

/-- Printed device 1 is the first neighbour. -/
theorem dev1_eq (c : Dev nD) : (⟨k0_dev1 c, k0_dev1_lt c⟩ : Dev nD) = xr 1 c := by revert c; decide +kernel
/-- Printed device 2 is the second neighbour. -/
theorem dev2_eq (c : Dev nD) : (⟨k0_dev2 c, k0_dev2_lt c⟩ : Dev nD) = xr 3 c := by revert c; decide +kernel
/-- Printed device 3 is the third neighbour. -/
theorem dev3_eq (c : Dev nD) : (⟨k0_dev3 c, k0_dev3_lt c⟩ : Dev nD) = xr 4 c := by revert c; decide +kernel
/-- Printed device 4 is the first neighbour. -/
theorem dev4_eq (c : Dev nD) : (⟨k0_dev4 c, k0_dev4_lt c⟩ : Dev nD) = xr 1 c := by revert c; decide +kernel
/-- Printed device 5 is the first neighbour. -/
theorem dev5_eq (c : Dev nD) : (⟨k0_dev5 c, k0_dev5_lt c⟩ : Dev nD) = xr 1 c := by revert c; decide +kernel
/-- Printed device 6 is the second neighbour. -/
theorem dev6_eq (c : Dev nD) : (⟨k0_dev6 c, k0_dev6_lt c⟩ : Dev nD) = xr 3 c := by revert c; decide +kernel
/-- Printed device 7 is the second neighbour. -/
theorem dev7_eq (c : Dev nD) : (⟨k0_dev7 c, k0_dev7_lt c⟩ : Dev nD) = xr 3 c := by revert c; decide +kernel
/-- Printed device 8 is the third neighbour. -/
theorem dev8_eq (c : Dev nD) : (⟨k0_dev8 c, k0_dev8_lt c⟩ : Dev nD) = xr 4 c := by revert c; decide +kernel
/-- Printed device 9 is the third neighbour. -/
theorem dev9_eq (c : Dev nD) : (⟨k0_dev9 c, k0_dev9_lt c⟩ : Dev nD) = xr 4 c := by revert c; decide +kernel
/-- Printed device 10 is the first neighbour. -/
theorem dev10_eq (c : Dev nD) : (⟨k0_dev10 c, k0_dev10_lt c⟩ : Dev nD) = xr 1 c := by revert c; decide +kernel
/-- Printed device 11 is the first neighbour. -/
theorem dev11_eq (c : Dev nD) : (⟨k0_dev11 c, k0_dev11_lt c⟩ : Dev nD) = xr 1 c := by revert c; decide +kernel
/-- Printed device 12 is the second neighbour. -/
theorem dev12_eq (c : Dev nD) : (⟨k0_dev12 c, k0_dev12_lt c⟩ : Dev nD) = xr 3 c := by revert c; decide +kernel
/-- Printed device 13 is the second neighbour. -/
theorem dev13_eq (c : Dev nD) : (⟨k0_dev13 c, k0_dev13_lt c⟩ : Dev nD) = xr 3 c := by revert c; decide +kernel
/-- Printed device 14 is the third neighbour. -/
theorem dev14_eq (c : Dev nD) : (⟨k0_dev14 c, k0_dev14_lt c⟩ : Dev nD) = xr 4 c := by revert c; decide +kernel
/-- Printed device 15 is the third neighbour. -/
theorem dev15_eq (c : Dev nD) : (⟨k0_dev15 c, k0_dev15_lt c⟩ : Dev nD) = xr 4 c := by revert c; decide +kernel
/-- Printed device 16 is the first neighbour. -/
theorem dev16_eq (c : Dev nD) : (⟨k0_dev16 c, k0_dev16_lt c⟩ : Dev nD) = xr 1 c := by revert c; decide +kernel
/-- Printed device 17 is the first neighbour. -/
theorem dev17_eq (c : Dev nD) : (⟨k0_dev17 c, k0_dev17_lt c⟩ : Dev nD) = xr 1 c := by revert c; decide +kernel
/-- Printed device 18 is the second neighbour. -/
theorem dev18_eq (c : Dev nD) : (⟨k0_dev18 c, k0_dev18_lt c⟩ : Dev nD) = xr 3 c := by revert c; decide +kernel
/-- Printed device 19 is the second neighbour. -/
theorem dev19_eq (c : Dev nD) : (⟨k0_dev19 c, k0_dev19_lt c⟩ : Dev nD) = xr 3 c := by revert c; decide +kernel
/-- Printed device 20 is the third neighbour. -/
theorem dev20_eq (c : Dev nD) : (⟨k0_dev20 c, k0_dev20_lt c⟩ : Dev nD) = xr 4 c := by revert c; decide +kernel

/-- Printed offset 4 starts at the slot of the first neighbour. -/
theorem off4_eq : ∀ c : Dev nD, k0_off4 c = ![(xr 1 c).val] := by decide +kernel
/-- Printed offset 7 starts at the slot of the second neighbour. -/
theorem off7_eq : ∀ c : Dev nD, k0_off7 c = ![(xr 3 c).val] := by decide +kernel
/-- Printed offset 10 starts at the slot of the third neighbour. -/
theorem off10_eq : ∀ c : Dev nD, k0_off10 c = ![(xr 4 c).val] := by decide +kernel
/-- Printed offset 29 starts at the slot of the device across the first face. -/
theorem off29_eq : ∀ c : Dev nD, k0_off29 c = ![(xr 2 c).val] := by decide +kernel
/-- Printed offset 32 starts at the slot of the device across the second face. -/
theorem off32_eq : ∀ c : Dev nD, k0_off32 c = ![(xr 7 c).val] := by decide +kernel
/-- Printed offset 35 starts at the slot of the device across the third face. -/
theorem off35_eq : ∀ c : Dev nD, k0_off35 c = ![(xr 5 c).val] := by decide +kernel
/-- Printed offset 5 starts at the slot of the first neighbour. -/
theorem off5_eq : ∀ c : Dev nD, k0_off5 c = ![(xr 1 c).val, 0, 0] := by decide +kernel
/-- Printed offset 6 starts at the slot of the first neighbour. -/
theorem off6_eq : ∀ c : Dev nD, k0_off6 c = ![(xr 1 c).val, 0, 0] := by decide +kernel
/-- Printed offset 8 starts at the slot of the second neighbour. -/
theorem off8_eq : ∀ c : Dev nD, k0_off8 c = ![(xr 3 c).val, 0, 0] := by decide +kernel
/-- Printed offset 9 starts at the slot of the second neighbour. -/
theorem off9_eq : ∀ c : Dev nD, k0_off9 c = ![(xr 3 c).val, 0, 0] := by decide +kernel
/-- Printed offset 11 starts at the slot of the third neighbour. -/
theorem off11_eq : ∀ c : Dev nD, k0_off11 c = ![(xr 4 c).val, 0, 0] := by decide +kernel
/-- Printed offset 12 starts at the slot of the third neighbour. -/
theorem off12_eq : ∀ c : Dev nD, k0_off12 c = ![(xr 4 c).val, 0, 0] := by decide +kernel
/-- Printed offset 30 starts at the slot of the device across the first face. -/
theorem off30_eq : ∀ c : Dev nD, k0_off30 c = ![(xr 2 c).val, 0, 0] := by decide +kernel
/-- Printed offset 31 starts at the slot of the device across the first face. -/
theorem off31_eq : ∀ c : Dev nD, k0_off31 c = ![(xr 2 c).val, 0, 0] := by decide +kernel
/-- Printed offset 33 starts at the slot of the device across the second face. -/
theorem off33_eq : ∀ c : Dev nD, k0_off33 c = ![(xr 7 c).val, 0, 0] := by decide +kernel
/-- Printed offset 34 starts at the slot of the device across the second face. -/
theorem off34_eq : ∀ c : Dev nD, k0_off34 c = ![(xr 7 c).val, 0, 0] := by decide +kernel
/-- Printed offset 36 starts at the slot of the device across the third face. -/
theorem off36_eq : ∀ c : Dev nD, k0_off36 c = ![(xr 5 c).val, 0, 0] := by decide +kernel
/-- Printed offset 37 starts at the slot of the device across the third face. -/
theorem off37_eq : ∀ c : Dev nD, k0_off37 c = ![(xr 5 c).val, 0, 0] := by decide +kernel
/-- Printed offset 38 starts at the slot of the device across the second face. -/
theorem off38_eq : ∀ c : Dev nD, k0_off38 c = ![(xr 7 c).val, 0, 0] := by decide +kernel
/-- Printed offset 39 starts at the slot of the device across the second face. -/
theorem off39_eq : ∀ c : Dev nD, k0_off39 c = ![(xr 7 c).val, 0, 0] := by decide +kernel
/-- Printed offset 40 starts at the slot of the device across the third face. -/
theorem off40_eq : ∀ c : Dev nD, k0_off40 c = ![(xr 5 c).val, 2048, 0] := by decide +kernel
/-- Printed offset 41 starts at the slot of the device across the third face. -/
theorem off41_eq : ∀ c : Dev nD, k0_off41 c = ![(xr 5 c).val, 128, 0] := by decide +kernel
/-- Printed offset 42 starts at the slot of the device across the first face. -/
theorem off42_eq : ∀ c : Dev nD, k0_off42 c = ![(xr 2 c).val, 256, 0] := by decide +kernel
/-- Printed offset 59 starts at the slot of the opposite corner. -/
theorem off59_eq : ∀ c : Dev nD, k0_off59 c = ![(xr 6 c).val, 0, 0] := by decide +kernel
/-- Printed offset 60 starts at the slot of the opposite corner. -/
theorem off60_eq : ∀ c : Dev nD, k0_off60 c = ![(xr 6 c).val, 0, 0] := by decide +kernel
/-- Printed offset 61 starts at the slot of the opposite corner. -/
theorem off61_eq : ∀ c : Dev nD, k0_off61 c = ![(xr 6 c).val, 2048, 0] := by decide +kernel
/-- Printed offset 62 starts at the slot of the opposite corner. -/
theorem off62_eq : ∀ c : Dev nD, k0_off62 c = ![(xr 6 c).val, 128, 0] := by decide +kernel
/-- Printed offset 63 starts at the slot of the opposite corner. -/
theorem off63_eq : ∀ c : Dev nD, k0_off63 c = ![(xr 6 c).val, 256, 0] := by decide +kernel

/-- Printed offset 13: a trip's row block in the slot of the device itself. -/
theorem off13_eq : ∀ (c : Dev nD) (t : Fin k0_t1_loop.trips), k0_off13 c t = ![(xr 0 c).val, 1024 * (t.val % 4), 0] := by decide +kernel
/-- Printed offset 14: a trip's column block in the slot of the device itself. -/
theorem off14_eq : ∀ (c : Dev nD) (t : Fin k0_t1_loop.trips), k0_off14 c t = ![(xr 0 c).val, 0, 256 * (t.val / 4)] := by decide +kernel
/-- Printed offset 15: a trip's row block in the slot of the first neighbour. -/
theorem off15_eq : ∀ (c : Dev nD) (t : Fin k0_t1_loop.trips), k0_off15 c t = ![(xr 1 c).val, 1024 * (t.val % 4), 0] := by decide +kernel
/-- Printed offset 16: a trip's column block in the slot of the first neighbour. -/
theorem off16_eq : ∀ (c : Dev nD) (t : Fin k0_t1_loop.trips), k0_off16 c t = ![(xr 1 c).val, 0, 256 * (t.val / 4)] := by decide +kernel
/-- Printed offset 17: a trip's row block in the slot of the second neighbour. -/
theorem off17_eq : ∀ (c : Dev nD) (t : Fin k0_t1_loop.trips), k0_off17 c t = ![(xr 3 c).val, 1024 * (t.val % 4), 0] := by decide +kernel
/-- Printed offset 18: a trip's column block in the slot of the second neighbour. -/
theorem off18_eq : ∀ (c : Dev nD) (t : Fin k0_t1_loop.trips), k0_off18 c t = ![(xr 3 c).val, 0, 256 * (t.val / 4)] := by decide +kernel
/-- Printed offset 19: a trip's row block in the slot of the third neighbour. -/
theorem off19_eq : ∀ (c : Dev nD) (t : Fin k0_t1_loop.trips), k0_off19 c t = ![(xr 4 c).val, 1024 * (t.val % 4), 0] := by decide +kernel
/-- Printed offset 20: a trip's column block in the slot of the third neighbour. -/
theorem off20_eq : ∀ (c : Dev nD) (t : Fin k0_t1_loop.trips), k0_off20 c t = ![(xr 4 c).val, 0, 256 * (t.val / 4)] := by decide +kernel
/-- Printed offset 43: a trip's row block in the slot of the device itself. -/
theorem off43_eq : ∀ (c : Dev nD) (t : Fin k0_t2_loop.trips), k0_off43 c t = ![(xr 0 c).val, 1024 * ((t.val + 72) % 4), 0] := by decide +kernel
/-- Printed offset 44: a trip's column block in the slot of the device itself. -/
theorem off44_eq : ∀ (c : Dev nD) (t : Fin k0_t2_loop.trips), k0_off44 c t = ![(xr 0 c).val, 0, 256 * ((t.val + 72) / 4)] := by decide +kernel
/-- Printed offset 45: a trip's row block in the slot of the first neighbour. -/
theorem off45_eq : ∀ (c : Dev nD) (t : Fin k0_t2_loop.trips), k0_off45 c t = ![(xr 1 c).val, 1024 * ((t.val + 72) % 4), 0] := by decide +kernel
/-- Printed offset 46: a trip's column block in the slot of the first neighbour. -/
theorem off46_eq : ∀ (c : Dev nD) (t : Fin k0_t2_loop.trips), k0_off46 c t = ![(xr 1 c).val, 0, 256 * ((t.val + 72) / 4)] := by decide +kernel
/-- Printed offset 47: a trip's row block in the slot of the second neighbour. -/
theorem off47_eq : ∀ (c : Dev nD) (t : Fin k0_t2_loop.trips), k0_off47 c t = ![(xr 3 c).val, 1024 * ((t.val + 72) % 4), 0] := by decide +kernel
/-- Printed offset 48: a trip's column block in the slot of the second neighbour. -/
theorem off48_eq : ∀ (c : Dev nD) (t : Fin k0_t2_loop.trips), k0_off48 c t = ![(xr 3 c).val, 0, 256 * ((t.val + 72) / 4)] := by decide +kernel
/-- Printed offset 49: a trip's row block in the slot of the third neighbour. -/
theorem off49_eq : ∀ (c : Dev nD) (t : Fin k0_t2_loop.trips), k0_off49 c t = ![(xr 4 c).val, 1024 * ((t.val + 72) % 4), 0] := by decide +kernel
/-- Printed offset 50: a trip's column block in the slot of the third neighbour. -/
theorem off50_eq : ∀ (c : Dev nD) (t : Fin k0_t2_loop.trips), k0_off50 c t = ![(xr 4 c).val, 0, 256 * ((t.val + 72) / 4)] := by decide +kernel
/-- Printed offset 65: a trip's row block in the slot of the device across the first face. -/
theorem off65_eq : ∀ (c : Dev nD) (t : Fin k0_t3_loop.trips), k0_off65 c t = ![(xr 2 c).val, 1024 * (t.val % 4), 0] := by decide +kernel
/-- Printed offset 66: a trip's column block in the slot of the device across the first face. -/
theorem off66_eq : ∀ (c : Dev nD) (t : Fin k0_t3_loop.trips), k0_off66 c t = ![(xr 2 c).val, 0, 256 * (t.val / 4)] := by decide +kernel
/-- Printed offset 67: a trip's row block in the slot of the device across the third face. -/
theorem off67_eq : ∀ (c : Dev nD) (t : Fin k0_t3_loop.trips), k0_off67 c t = ![(xr 5 c).val, 1024 * (t.val % 4), 0] := by decide +kernel
/-- Printed offset 68: a trip's column block in the slot of the device across the third face. -/
theorem off68_eq : ∀ (c : Dev nD) (t : Fin k0_t3_loop.trips), k0_off68 c t = ![(xr 5 c).val, 0, 256 * (t.val / 4)] := by decide +kernel
/-- Printed offset 69: a trip's row block in the slot of the device across the second face. -/
theorem off69_eq : ∀ (c : Dev nD) (t : Fin k0_t3_loop.trips), k0_off69 c t = ![(xr 7 c).val, 1024 * (t.val % 4), 0] := by decide +kernel
/-- Printed offset 70: a trip's column block in the slot of the device across the second face. -/
theorem off70_eq : ∀ (c : Dev nD) (t : Fin k0_t3_loop.trips), k0_off70 c t = ![(xr 7 c).val, 0, 256 * (t.val / 4)] := by decide +kernel
/-- Printed offset 71: a trip's row block in the slot of the opposite corner. -/
theorem off71_eq : ∀ (c : Dev nD) (t : Fin k0_t3_loop.trips), k0_off71 c t = ![(xr 6 c).val, 1024 * (t.val % 4), 0] := by decide +kernel
/-- Printed offset 72: a trip's column block in the slot of the opposite corner. -/
theorem off72_eq : ∀ (c : Dev nD) (t : Fin k0_t3_loop.trips), k0_off72 c t = ![(xr 6 c).val, 0, 256 * (t.val / 4)] := by decide +kernel

/-- The first loop takes 72 trips, -/
theorem trips1 : k0_t1_loop.trips = 72 := by decide +kernel
/-- The second 56, -/
theorem trips2 : k0_t2_loop.trips = 56 := by decide +kernel
/-- The third 128. -/
theorem trips3 : k0_t3_loop.trips = 128 := by decide +kernel

/-- The first loop waits for a copy out from its fifth trip on; -/
theorem cond1_iff : ∀ t : Fin k0_t1_loop.trips, k0_cond1 t = 1#1 ↔ 4 ≤ t.val := by decide +kernel
/-- So does the second. -/
theorem cond2_iff : ∀ t : Fin k0_t2_loop.trips, k0_cond2 t = 1#1 ↔ 4 ≤ t.val := by decide +kernel
/-- The third asks for a block in all but its last four trips, -/
theorem cond3_iff : ∀ t : Fin k0_t3_loop.trips, k0_cond3 t = 1#1 ↔ t.val + 4 < 128 := by decide +kernel
/-- And waits for a copy out from its fifth on. -/
theorem cond4_iff : ∀ t : Fin k0_t3_loop.trips, k0_cond4 t = 1#1 ↔ 4 ≤ t.val := by decide +kernel

/-- The block whose copy out is waited for in the first loop: four before this one. -/
theorem off22_eq : ∀ t : Fin k0_t1_loop.trips, 4 ≤ t.val → k0_off22 t = ![1024 * ((t.val - 4) % 4), 256 * ((t.val - 4) / 4)] := by decide +kernel
/-- The block a trip of the first loop sends out. -/
theorem off26_eq : ∀ t : Fin k0_t1_loop.trips, k0_off26 t = ![1024 * (t.val % 4), 256 * (t.val / 4)] := by decide +kernel
/-- The block a trip of the third loop sends out. -/
theorem off75_eq : ∀ t : Fin k0_t3_loop.trips, k0_off75 t = ![1024 * (t.val % 4), 256 * (t.val / 4)] := by decide +kernel
/-- The block whose copy out is waited for in the third loop: four before this one. -/
theorem off81_eq : ∀ t : Fin k0_t3_loop.trips, 4 ≤ t.val → k0_off81 t = ![1024 * ((t.val - 4) % 4), 256 * ((t.val - 4) / 4)] := by decide +kernel

end Cert.K

end
-- ==== Proof.Mem.lean ====
/- The buffers of the kernel, the sets of their elements that move together, and what those hold. -/
module

public import proofs.«01_k».proof.Proof.Devs
public import proofs.«01_k».proof.Proof.Gen.KernelIdeal.Skeleton
public import Idealize.ShloMosaic.Lib.Pipeline.Kit
public import Idealize.ShloMosaic.Lib.Pipeline.Value
public import Idealize.ShloMosaic.Lib.ValueIdxCore
public import Idealize.ShloMosaic.Lib.Tactic

@[expose] public section

noncomputable section

namespace Cert.K

open Cert.KernelIdeal Cert.KernelIdeal.Gen
open Idealize.ShloMosaic Idealize.ShloMosaic.TcCoe
open Idealize.ShloMosaic.ValueIdx (ix2 ix3)

variable {F : FTy → Type} [FloatOps F]

/-! ## Memrefs and semaphores -/

/-- The gathered `x`; -/
abbrev xM : Memref sig .tc .vmem S8x4096x512 .fp8e5m2 := Memref.whole cc0_scratch0
/-- the gathered `w`; -/
abbrev wM : Memref sig .tc .vmem S8x512x8192 .fp8e5m2 := Memref.whole cc0_scratch1
/-- the device's columns of `x`; -/
abbrev aM : Memref sig .tc .hbm S4096x512 .fp8e5m2 := Memref.whole main_arg0
/-- its rows of `w`; -/
abbrev bM : Memref sig .tc .hbm S512x8192 .fp8e5m2 := Memref.whole main_arg1
/-- the result; -/
abbrev oM : Memref sig .tc .hbm S4096x8192 .f32 := Memref.whole main_v1
/-- the ring of blocks read back; -/
abbrev pM : Memref sig .tc .vmem S4x1024x256 .f32 := Memref.whole cc0_scratch10
/-- the staging ring. -/
abbrev gM : Memref sig .tc .vmem S4x1024x256 .f32 := Memref.whole cc0_scratch11

/-- The runtime's barrier semaphore. -/
abbrev barS : Sem sig := (SemArray.scalar (sig.barrier 0 rfl) : Sems sig S_).sem

/-! ## Element sets -/

/-- Rows `lo` to `hi` of slot `d` of the gathered `x`; -/
def xS (d : Dev nD) (lo hi : ℕ) : Finset S8x4096x512.Idx :=
  Finset.univ.filter fun i => (i 0).val = d.val ∧ lo ≤ (i 1).val ∧ (i 1).val < hi
/-- of the gathered `w`; -/
def wS (d : Dev nD) (lo hi : ℕ) : Finset S8x512x8192.Idx :=
  Finset.univ.filter fun i => (i 0).val = d.val ∧ lo ≤ (i 1).val ∧ (i 1).val < hi
/-- slot `s` of a ring of four blocks; -/
def gS (s : ℕ) : Finset S4x1024x256.Idx := Finset.univ.filter fun i => (i 0).val = s
/-- block `i` of the result, the blocks counted down each column of blocks. -/
def oS (i : ℕ) : Finset S4096x8192.Idx :=
  Finset.univ.filter fun j => (j 0).val / 1024 = i % 4 ∧ (j 1).val / 256 = i / 4

/-- Which elements rows of a slot of `x` are, -/
theorem mem_xS {d : Dev nD} {lo hi : ℕ} {i : S8x4096x512.Idx} :
    i ∈ xS d lo hi ↔ (i 0).val = d.val ∧ lo ≤ (i 1).val ∧ (i 1).val < hi := by simp [xS]
/-- rows of a slot of `w`, -/
theorem mem_wS {d : Dev nD} {lo hi : ℕ} {i : S8x512x8192.Idx} :
    i ∈ wS d lo hi ↔ (i 0).val = d.val ∧ lo ≤ (i 1).val ∧ (i 1).val < hi := by simp [wS]
/-- a slot of a ring, -/
theorem mem_gS {s : ℕ} {i : S4x1024x256.Idx} : i ∈ gS s ↔ (i 0).val = s := by simp [gS]
/-- a block of the result. -/
theorem mem_oS {i : ℕ} {j : S4096x8192.Idx} : j ∈ oS i ↔ (j 0).val / 1024 = i % 4 ∧ (j 1).val / 256 = i / 4 := by simp [oS]

/-- A statement of three axes, one by one; -/
theorem forall3 {p : Fin 3 → Prop} : (∀ a, p a) ↔ p 0 ∧ p 1 ∧ p 2 :=
  ⟨fun h => ⟨h 0, h 1, h 2⟩, fun ⟨h0, h1, h2⟩ a => by fin_cases a <;> assumption⟩
/-- of two. -/
theorem forall2 {p : Fin 2 → Prop} : (∀ a, p a) ↔ p 0 ∧ p 1 :=
  ⟨fun h => ⟨h 0, h 1⟩, fun ⟨h0, h1⟩ a => by fin_cases a <;> assumption⟩

/-- The elements a window of slots names: the rectangle's. -/
theorem set_win (b : Ref sig .tc) (r : Rect b.ty.shape) (h) (s' : Shape) (hq : r.shape.Squeezes s') :
    (((Memref.whole b).slice r h).squeeze s' hq).view.set = r.set :=
  (View.set_reshape ((View.whole b).slice r) hq.numel_eq).trans (View.set_slice_whole b r)
/-- A rectangle of a whole buffer names the rectangle's elements. -/
theorem set_sl (b : Ref sig .tc) (r : Rect b.ty.shape) (h) : ((Memref.whole b).slice r h).view.set = r.set :=
  View.set_slice_whole b r

/-- The rectangle of rows of a slot of `x`; -/
theorem rect_x (d : Dev nD) (lo n : ℕ) (inb) :
    (Rect.unit (s := S8x4096x512) ![d.val, lo, 0] ![1, n, 512] inb).set = xS d lo (lo + n) := by
  ext i
  rw [mem_xS, Rect.mem_set_unit, forall3]
  have h2 : (i 2).val < 512 := (i 2).isLt
  simp only [Matrix.cons_val_zero, Matrix.cons_val_one, Matrix.cons_val]
  omega
/-- of a slot of `w`; -/
theorem rect_w (d : Dev nD) (lo n : ℕ) (inb) :
    (Rect.unit (s := S8x512x8192) ![d.val, lo, 0] ![1, n, 8192] inb).set = wS d lo (lo + n) := by
  ext i
  rw [mem_wS, Rect.mem_set_unit, forall3]
  have h2 : (i 2).val < 8192 := (i 2).isLt
  simp only [Matrix.cons_val_zero, Matrix.cons_val_one, Matrix.cons_val]
  omega
/-- of a slot of a ring; -/
theorem rect_g (s : ℕ) (inb) :
    (Rect.unit (s := S4x1024x256) ![s, 0, 0] S1x1024x256.size inb).set = gS s := by
  ext i
  rw [mem_gS, Rect.mem_set_unit, forall3]
  have h1 : (i 1).val < 1024 := (i 1).isLt
  have h2 : (i 2).val < 256 := (i 2).isLt
  simp only [Matrix.cons_val_zero, Matrix.cons_val_one, Matrix.cons_val]
  omega
/-- of a block of the result. -/
theorem rect_o (i : ℕ) (inb) :
    (Rect.unit (s := S4096x8192) ![1024 * (i % 4), 256 * (i / 4)] S1024x256.size inb).set = oS i := by
  ext j
  rw [mem_oS, Rect.mem_set_unit, forall2]
  simp only [Matrix.cons_val_zero, Matrix.cons_val_one, Matrix.cons_val]
  omega

/-! ## Contents -/

variable (m : (ℓ : Loc nD τ sig) → Buf (Elt F) ℓ)

/-- What device `d` starts with. -/
abbrev xIn (d : Dev nD) : S4096x512.Idx → Elt F .fp8e5m2 := m ((d : Thread nD τ).loc main_arg0)
/-- Its rows of `w`. -/
abbrev wIn (d : Dev nD) : S512x8192.Idx → Elt F .fp8e5m2 := m ((d : Thread nD τ).loc main_arg1)

/-- The gathered `x`: slot `d` is device `d`'s columns. Every device fills its slots with this same array. -/
def xFull : S8x4096x512.Idx → Elt F .fp8e5m2 := fun i => xIn m ⟨(i 0).val, (i 0).isLt⟩ (ix2 (i 1) (i 2))
/-- The gathered `w`: slot `d` is device `d`'s rows. -/
def wFull : S8x512x8192.Idx → Elt F .fp8e5m2 := fun i => wIn m ⟨(i 0).val, (i 0).isLt⟩ (ix2 (i 1) (i 2))

/-- Row block `r` of slot `d` of the gathered `x`, column block `q` of slot `d` of the gathered `w`, as loaded. -/
def xBlk (d : Dev nD) (r : Fin 4) : S1x1024x512.Idx → Elt F .fp8e5m2 := fun j =>
  xFull m (ix3 d ⟨1024 * r.val + (j 1).val, by have : (j 1).val < 1024 := (j 1).isLt; omega⟩ (j 2))
/-- The column block of `w`. -/
def wBlk (d : Dev nD) (q : Fin 32) : S1x512x256.Idx → Elt F .fp8e5m2 := fun j =>
  wFull m (ix3 d (j 1) ⟨256 * q.val + (j 2).val, by have : (j 2).val < 256 := (j 2).isLt; omega⟩)

/-- An index is determined by its three coordinates; -/
theorem eq_ix3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext k
  match k with
  | 0 => exact Fin.ext h0
  | 1 => exact Fin.ext h1
  | 2 => exact Fin.ext h2
/-- by its two. -/
theorem eq_ix2 {n0 n1 : ℕ} (i : (⟨2, ![n0, n1]⟩ : Shape).Idx) (a : Fin n0) (b : Fin n1)
    (h0 : (i 0).val = a.val) (h1 : (i 1).val = b.val) : i = ix2 a b := by
  funext k
  match k with
  | 0 => exact Fin.ext h0
  | 1 => exact Fin.ext h1

/-- Where a rectangle places an index: its offset and the index. -/
theorem idx_u {S : Shape} (off size : Fin S.rank → ℕ) (inb) (j) (a : Fin S.rank) (v : ℕ) (h : off a + (j a).val = v) :
    ((Rect.unit (s := S) off size inb).toLoadRect.idx j a).val = v := by
  rw [LoadRect.idx_apply]; show off a + 1 * (j a).val = v; omega

/-- A row block loaded from a slot of the gathered `x`; -/
theorem load_x (d : Dev nD) (r : Fin 4) (inb) :
    (xM : Memref sig .tc .vmem _ _).view.readAt (Elt F) (Rect.unit (s := S8x4096x512) ![d.val, 1024 * r.val, 0] S1x1024x512.size inb).toLoadRect (xFull m)
      = xBlk m d r := by
  funext j
  have h0 : (j 0).val < 1 := (j 0).isLt
  exact congrArg (xFull m) (eq_ix3 _ _ _ _ (idx_u _ _ inb j 0 _ (by show d.val + _ = d.val; omega))
    (idx_u _ _ inb j 1 _ rfl) (idx_u _ _ inb j 2 _ (Nat.zero_add _)))
/-- a column block loaded from a slot of the gathered `w`. -/
theorem load_w (d : Dev nD) (q : Fin 32) (inb) :
    (wM : Memref sig .tc .vmem _ _).view.readAt (Elt F) (Rect.unit (s := S8x512x8192) ![d.val, 0, 256 * q.val] S1x512x256.size inb).toLoadRect (wFull m)
      = wBlk m d q := by
  funext j
  have h0 : (j 0).val < 1 := (j 0).isLt
  exact congrArg (wFull m) (eq_ix3 _ _ _ _ (idx_u _ _ inb j 0 _ (by show d.val + _ = d.val; omega))
    (idx_u _ _ inb j 1 _ (Nat.zero_add _)) (idx_u _ _ inb j 2 _ rfl))

/-- A ring of blocks holding `v` in each slot. -/
def rep (v : S1x1024x256.Idx → Elt F .f32) : S4x1024x256.Idx → Elt F .f32 := fun i => v (ix3 0 (i 1) (i 2))
/-- The result assembled from its blocks. -/
def asm (B : ℕ → S1x1024x256.Idx → Elt F .f32) : S4096x8192.Idx → Elt F .f32 := fun j =>
  B ((j 0).val / 1024 + 4 * ((j 1).val / 256))
    (ix3 0 ⟨(j 0).val % 1024, Nat.mod_lt _ (by decide)⟩ ⟨(j 1).val % 256, Nat.mod_lt _ (by decide)⟩)

/-- A slot of the ring holding `v` everywhere, element by element. -/
theorem rep_idx (s : ℕ) (v : S1x1024x256.Idx → Elt F .f32) (inb) (j) :
    rep v ((Rect.unit (s := S4x1024x256) ![s, 0, 0] S1x1024x256.size inb).toLoadRect.idx j) = v j := by
  have h0 : (j 0).val < 1 := (j 0).isLt
  exact congrArg v (eq_ix3 _ _ _ _ (by show (j 0).val = 0; omega) (idx_u _ _ inb j 1 _ (Nat.zero_add _)).symm
    (idx_u _ _ inb j 2 _ (Nat.zero_add _)).symm).symm

/-- A slot loaded from the staging ring; -/
theorem load_g (s : ℕ) (v : S1x1024x256.Idx → Elt F .f32) (inb) :
    (gM : Memref sig .tc .vmem _ _).view.readAt (Elt F) (Rect.unit (s := S4x1024x256) ![s, 0, 0] S1x1024x256.size inb).toLoadRect (rep v) = v :=
  funext fun j => rep_idx s v inb j
/-- from the ring of blocks read back. -/
theorem load_p (s : ℕ) (v : S1x1024x256.Idx → Elt F .f32) (inb) :
    (pM : Memref sig .tc .vmem _ _).view.readAt (Elt F) (Rect.unit (s := S4x1024x256) ![s, 0, 0] S1x1024x256.size inb).toLoadRect (rep v) = v :=
  funext fun j => rep_idx s v inb j

/-- Storing a block in slot `s` leaves that slot holding it. -/
theorem store_g (s : ℕ) (v : S1x1024x256.Idx → Elt F .f32) (f : S4x1024x256.Idx → Elt F .f32) (inb) :
    ∀ i ∈ gS s, ((gM : Memref sig .tc .vmem S4x1024x256 .f32).access (Rect.unit (s := S4x1024x256) ![s, 0, 0] S1x1024x256.size inb) : View sig .tc _ _ _).write (Elt F) f v Finset.univ i = rep v i := by
  intro i hi
  rw [← rect_g s inb] at hi
  obtain ⟨j, rfl⟩ := LoadRect.exists_idx_of_mem _ hi
  have e := View.write_emb_of_mem (Val := Elt F) (v := ((gM : Memref sig .tc .vmem S4x1024x256 .f32).access (Rect.unit (s := S4x1024x256) ![s, 0, 0] S1x1024x256.size inb) : View sig .tc _ _ _)) f v (Finset.mem_univ j)
  exact e.trans (rep_idx s v inb j).symm

/-- A view's elements rewritten with what another view of the same shape reads: the value at each element. -/
theorem copy_at {sp sp' : Space} {s : Shape} {e : EltTy} (vs : View sig .tc sp s e) (vd : View sig .tc sp' s e)
    (fs : vs.ty.Contents (Elt F)) (fd g : vd.ty.Contents (Elt F))
    (h : ∀ x : s.Idx, vd.read (Elt F) g x = vs.read (Elt F) fs x) :
    ∀ i ∈ vd.set, vd.write (Elt F) fd (vs.read (Elt F) fs) Finset.univ i = g i := by
  intro i hi
  have : vs.read (Elt F) fs = vd.read (Elt F) g := funext fun x => (h x).symm
  rw [this, View.write_read_eq_piecewise]
  exact Finset.piecewise_eq_of_mem _ _ _ hi

/-- Where a window of one slot places an index: at the window's offset, the slot in front. -/
theorem sq_idx {a b c p q : ℕ} (off : Fin 3 → ℕ) (inb) (h : (⟨2, ![p, q]⟩ : Shape).numel = (⟨3, ![1, p, q]⟩ : Shape).numel)
    (x : (⟨2, ![p, q]⟩ : Shape).Idx) (i0 : Fin a) (i1 : Fin b) (i2 : Fin c) (h0 : off 0 = i0.val) (h1 : off 1 + (x 0).val = i1.val) (h2 : off 2 + (x 1).val = i2.val) :
    (Rect.unit (s := ⟨3, ![a, b, c]⟩) off ![1, p, q] inb).toLoadRect.idx (Shape.reshapeEquiv h x) = ix3 i0 i1 i2 := by
  rw [show Shape.reshapeEquiv h x = Fin.cons ⟨0, Nat.one_pos⟩ x from Shape.reshapeEquiv_cons_one h x]
  exact eq_ix3 _ _ _ _ (idx_u _ _ inb _ 0 _ (by rw [h0]; rfl)) (idx_u _ _ inb _ 1 _ h1) (idx_u _ _ inb _ 2 _ h2)

/-- The copy of a device's own columns into its slot leaves the slot at the gathered array. -/
theorem copy_x (c : Dev nD) (fd : S8x4096x512.Idx → Elt F .fp8e5m2) (inb) (h) (hq) :
    ∀ i ∈ xS c 0 4096, ((xM.slice (Rect.unit (s := S8x4096x512) ![c.val, 0, 0] S1x4096x512.size inb) h).squeeze S4096x512 hq).view.write (Elt F) fd
      (aM.view.read (Elt F) (xIn m c)) Finset.univ i = xFull m i := by
  intro i hi
  refine copy_at aM.view ((xM.slice (Rect.unit (s := S8x4096x512) ![c.val, 0, 0] S1x4096x512.size inb) h).squeeze S4096x512 hq).view (xIn m c) fd (xFull m) (fun x => ?_) i ?_
  · show xFull m ((Rect.unit (s := S8x4096x512) ![c.val, 0, 0] S1x4096x512.size inb).toLoadRect.idx (Shape.reshapeEquiv _ x)) = xIn m c x
    rw [sq_idx (a := 8) (b := 4096) (c := 512) (p := 4096) (q := 512) ![c.val, 0, 0] inb _ x c (x 0) (x 1) rfl (Nat.zero_add _) (Nat.zero_add _)]
    exact congrArg (xIn m c) (eq_ix2 x _ _ rfl rfl).symm
  · rw [set_win]; exact (rect_x c 0 4096 inb).symm ▸ hi
/-- The copy of a device's own rows of `w` too. -/
theorem copy_w (c : Dev nD) (fd : S8x512x8192.Idx → Elt F .fp8e5m2) (inb) (h) (hq) :
    ∀ i ∈ wS c 0 512, ((wM.slice (Rect.unit (s := S8x512x8192) ![c.val, 0, 0] S1x512x8192.size inb) h).squeeze S512x8192 hq).view.write (Elt F) fd
      (bM.view.read (Elt F) (wIn m c)) Finset.univ i = wFull m i := by
  intro i hi
  refine copy_at bM.view ((wM.slice (Rect.unit (s := S8x512x8192) ![c.val, 0, 0] S1x512x8192.size inb) h).squeeze S512x8192 hq).view (wIn m c) fd (wFull m) (fun x => ?_) i ?_
  · show wFull m ((Rect.unit (s := S8x512x8192) ![c.val, 0, 0] S1x512x8192.size inb).toLoadRect.idx (Shape.reshapeEquiv _ x)) = wIn m c x
    rw [sq_idx (a := 8) (b := 512) (c := 8192) (p := 512) (q := 8192) ![c.val, 0, 0] inb _ x c (x 0) (x 1) rfl (Nat.zero_add _) (Nat.zero_add _)]
    exact congrArg (wIn m c) (eq_ix2 x _ _ rfl rfl).symm
  · rw [set_win]; exact (rect_w c 0 512 inb).symm ▸ hi

/-- Reading a slot that holds `v`, its unit axis dropped. -/
theorem read_slot (s : Fin 4) (b : Ref sig .tc) (v : S1x1024x256.Idx → Elt F .f32) (inb) (h) (hq) (x : S1024x256.Idx) :
    ((gM.slice (Rect.unit (s := S4x1024x256) ![s.val, 0, 0] S1x1024x256.size inb) h).squeeze S1024x256 hq).view.read (Elt F) (rep v) x
      = v (ix3 0 (x 0) (x 1)) := by
  show rep v ((Rect.unit (s := S4x1024x256) ![s.val, 0, 0] S1x1024x256.size inb).toLoadRect.idx (Shape.reshapeEquiv _ x)) = _
  rw [sq_idx (a := 4) (b := 1024) (c := 256) (p := 1024) (q := 256) ![s.val, 0, 0] inb _ x s (x 0) (x 1) rfl (Nat.zero_add _) (Nat.zero_add _)]
  rfl

/-- Reading block `i` of the assembled result. -/
theorem read_blk (i : ℕ) (B : ℕ → S1x1024x256.Idx → Elt F .f32) (inb) (h) (x : S1024x256.Idx) :
    (oM.slice (Rect.unit (s := S4096x8192) ![1024 * (i % 4), 256 * (i / 4)] S1024x256.size inb) h : Memref sig .tc .hbm S1024x256 .f32).view.read (Elt F) (asm B) x
      = B i (ix3 0 (x 0) (x 1)) := by
  show asm B ((Rect.unit (s := S4096x8192) ![1024 * (i % 4), 256 * (i / 4)] S1024x256.size inb).toLoadRect.idx x) = _
  have e0 := idx_u (S := S4096x8192) ![1024 * (i % 4), 256 * (i / 4)] S1024x256.size inb x 0 (1024 * (i % 4) + (x 0).val) rfl
  have e1 := idx_u (S := S4096x8192) ![1024 * (i % 4), 256 * (i / 4)] S1024x256.size inb x 1 (256 * (i / 4) + (x 1).val) rfl
  have l0 : (x 0).val < 1024 := (x 0).isLt
  have l1 : (x 1).val < 256 := (x 1).isLt
  unfold asm
  have hb : ∀ (y : S4096x8192.Idx), (y 0).val = 1024 * (i % 4) + (x 0).val → (y 1).val = 256 * (i / 4) + (x 1).val →
      B ((y 0).val / 1024 + 4 * ((y 1).val / 256)) (ix3 0 ⟨(y 0).val % 1024, Nat.mod_lt _ (by decide)⟩ ⟨(y 1).val % 256, Nat.mod_lt _ (by decide)⟩)
        = B i (ix3 0 (x 0) (x 1)) := by
    intro y h0 h1
    rw [show (y 0).val / 1024 + 4 * ((y 1).val / 256) = i by omega]
    refine congrArg (B i) (eq_ix3 _ _ _ _ rfl ?_ ?_)
    · show (y 0).val % 1024 = (x 0).val; omega
    · show (y 1).val % 256 = (x 1).val; omega
  exact hb _ e0 e1

/-- The window of the result at block `i`. -/
abbrev oB (i : ℕ) (inb : ∀ a, ![1024 * (i % 4), 256 * (i / 4)] a + S1024x256.size a ≤ S4096x8192.size a)
    (h : ∀ a, (Rect.unit (s := S4096x8192) ![1024 * (i % 4), 256 * (i / 4)] S1024x256.size inb).stride a = 1) :
    Memref sig .tc .hbm S1024x256 .f32 :=
  oM.slice (Rect.unit (s := S4096x8192) ![1024 * (i % 4), 256 * (i / 4)] S1024x256.size inb) h

/-- The copy of a slot holding `B i` to block `i` leaves that block at the assembled result. -/
theorem copy_out (i : ℕ) (s : Fin 4) (B : ℕ → S1x1024x256.Idx → Elt F .f32) (fd : S4096x8192.Idx → Elt F .f32) (inb) (h) (hq) (inb') (h') :
    ∀ j ∈ oS i, ((oB i inb' h').view.write (Elt F) fd
      (((gM.slice (Rect.unit (s := S4x1024x256) ![s.val, 0, 0] S1x1024x256.size inb) h).squeeze S1024x256 hq).view.read (Elt F) (rep (B i))) Finset.univ : S4096x8192.Idx → Elt F .f32) j = asm B j := by
  intro j hj
  refine copy_at ((gM.slice (Rect.unit (s := S4x1024x256) ![s.val, 0, 0] S1x1024x256.size inb) h).squeeze S1024x256 hq).view
    (oB i inb' h').view (rep (B i)) fd (asm B) (fun x => ?_) j ?_
  · exact (read_blk i B inb' h' x).trans (read_slot s cc0_scratch11 (B i) inb h hq x).symm
  · exact (set_sl main_v1 _ h').symm ▸ (rect_o i inb').symm ▸ hj

/-- The copy of block `i` of the assembled result to a slot leaves the slot holding it. -/
theorem copy_pin (i : ℕ) (s : Fin 4) (B : ℕ → S1x1024x256.Idx → Elt F .f32) (fd : S4x1024x256.Idx → Elt F .f32) (inb) (h) (hq) (inb') (h') :
    ∀ j ∈ gS s.val, ((pM.slice (Rect.unit (s := S4x1024x256) ![s.val, 0, 0] S1x1024x256.size inb) h).squeeze S1024x256 hq).view.write (Elt F) fd
      ((oM.slice (Rect.unit (s := S4096x8192) ![1024 * (i % 4), 256 * (i / 4)] S1024x256.size inb') h' : Memref sig .tc .hbm S1024x256 .f32).view.read (Elt F) (asm B)) Finset.univ j = rep (B i) j := by
  intro j hj
  refine copy_at (oM.slice (Rect.unit (s := S4096x8192) ![1024 * (i % 4), 256 * (i / 4)] S1024x256.size inb') h' : Memref sig .tc .hbm S1024x256 .f32).view
    ((pM.slice (Rect.unit (s := S4x1024x256) ![s.val, 0, 0] S1x1024x256.size inb) h).squeeze S1024x256 hq).view (asm B) fd (rep (B i)) (fun x => ?_) j ?_
  · exact (read_slot s cc0_scratch10 (B i) inb h hq x).trans (read_blk i B inb' h' x).symm
  · exact (set_win cc0_scratch10 _ h _ hq).symm ▸ (rect_g s.val inb).symm ▸ hj

end Cert.K

end
-- ==== Proof.Sched.lean ====
/- The protocol between the devices: its cells, what each hands over, the levels, what a device owes. -/
module

public import proofs.«01_k».proof.Proof.Mem
public import Idealize.ShloMosaic.Lib.Pipeline.Launch

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the exchange's rounds, the counters of the device's own copies -/

/-- The exchange's rounds: up to three duties a cell. -/
abbrev UB : Type := URounds (GSem nD τ sig) (Fin 3)
/-- The pipeline's rounds, the exchange's and the counters. -/
abbrev UU : Type := UR sig nD τ × (UB × Counters)

local notation "𝕄" => MT nD τ sig Unit (Elt F) ℕ UU ℕ

/-- Where the pipeline's rounds live; -/
abbrev EP : Emb (UR sig nD τ) (MT nD τ sig Unit (Elt F) ℕ UU ℕ) := embL
/-- where the rest does; -/
abbrev EX : Emb (UB × Counters) (MT nD τ sig Unit (Elt F) ℕ UU ℕ) := embR
/-- where the exchange's rounds do; -/
def ER : Emb UB (MT nD τ sig Unit (Elt F) ℕ UU ℕ) := (Emb.inl : Emb UB (UB × Counters)).trans EX
/-- they lie within the program's resources; -/
instance ER_lands : (ER (F := F)).LandsIn (upEmb : UEmb _ 𝕄) := by unfold ER; infer_instance
/-- where the counters live. -/
abbrev EC : UEmb Counters (MT nD τ sig Unit (Elt F) ℕ UU ℕ) := countersEmb

/-! ## The tables of the exchange -/

/-- Which neighbour a transfer goes to: the device whose number differs by this pattern; -/
def pT : Fin 17 → Fin 8 := ![1, 1, 3, 3, 4, 4, 1, 1, 3, 3, 4, 4, 1, 1, 3, 3, 4]
/-- which slot it carries, relative to the sender; -/
def sT : Fin 17 → Fin 8 := ![0, 0, 0, 0, 0, 0, 3, 3, 4, 4, 1, 1, 7, 7, 5, 5, 2]
/-- the same slot, relative to the receiver; -/
def rT : Fin 17 → Fin 8 := ![1, 1, 3, 3, 4, 4, 2, 2, 7, 7, 5, 5, 6, 6, 6, 6, 6]
/-- whether it is a slot of `x`; -/
def isX : Fin 17 → Bool := ![true, false, true, false, true, false, true, false, true, false, true, false, true, false, true, false, false]
/-- the rows it carries, from -/
def loT : Fin 17 → ℕ := ![0, 0, 0, 0, 0, 0, 0, 0, 0, 0, 0, 0, 0, 0, 2048, 128, 256]
/-- to; -/
def hiT : Fin 17 → ℕ := ![4096, 512, 4096, 512, 4096, 512, 4096, 512, 4096, 512, 4096, 512, 2048, 128, 4096, 256, 512]
/-- the share of them the sender lends. -/
def qT : Fin 17 → PosShare TreeShare :=
  ![fullShare.left, fullShare.left, fullShare.right.left, fullShare.right.left, fullShare.right.right, fullShare.right.right,
    fullShare.left, fullShare.left, fullShare.left, fullShare.left, fullShare.left, fullShare.left,
    fullShare, fullShare, fullShare, fullShare, fullShare]
/-- The round of the exchange a transfer belongs to, as the level of its receive cell. -/
def lvT : Fin 17 → ℕ := ![2, 2, 2, 2, 2, 2, 3, 3, 3, 3, 3, 3, 4, 4, 4, 4, 4]

/-- The send semaphore of transfer `t`. -/
def sN : Fin 17 → Fin 57 := ![2, 9, 3, 10, 4, 11, 5, 12, 6, 13, 7, 14, 32, 33, 34, 35, 36]
/-- The receive semaphore of transfer `t` on the receiver `n`. -/
def rN (t : Fin 17) (n : Dev nD) : Fin 57 :=
  if t.val < 12 then (if isX t then ⟨16 + (xr (rT t) n).val, by have : (xr (rT t) n).val < 8 := (xr (rT t) n).isLt; omega⟩ else ⟨24 + (xr (rT t) n).val, by have : (xr (rT t) n).val < 8 := (xr (rT t) n).isLt; omega⟩)
  else ⟨30 + t.val, by omega⟩

/-- The amount a transfer completes with. -/
def amt (t : Fin 17) : ℕ :=
  (![Ref.dmaCredit cc0_scratch0 S4096x512 .fp8e5m2, Ref.dmaCredit cc0_scratch1 S512x8192 .fp8e5m2,
     Ref.dmaCredit cc0_scratch0 S4096x512 .fp8e5m2, Ref.dmaCredit cc0_scratch1 S512x8192 .fp8e5m2,
     Ref.dmaCredit cc0_scratch0 S4096x512 .fp8e5m2, Ref.dmaCredit cc0_scratch1 S512x8192 .fp8e5m2,
     Ref.dmaCredit cc0_scratch0 S4096x512 .fp8e5m2, Ref.dmaCredit cc0_scratch1 S512x8192 .fp8e5m2,
     Ref.dmaCredit cc0_scratch0 S4096x512 .fp8e5m2, Ref.dmaCredit cc0_scratch1 S512x8192 .fp8e5m2,
     Ref.dmaCredit cc0_scratch0 S4096x512 .fp8e5m2, Ref.dmaCredit cc0_scratch1 S512x8192 .fp8e5m2,
     Ref.dmaCredit cc0_scratch0 S2048x512 .fp8e5m2, Ref.dmaCredit cc0_scratch1 S128x8192 .fp8e5m2,
     Ref.dmaCredit cc0_scratch0 S2048x512 .fp8e5m2, Ref.dmaCredit cc0_scratch1 S128x8192 .fp8e5m2,
     Ref.dmaCredit cc0_scratch1 S256x8192 .fp8e5m2] : Fin 17 → ℕ) t
/-- Every transfer completes with something. -/
theorem amt_pos (t : Fin 17) : 0 < amt t := by
  fin_cases t <;> exact sig.dmaCredit_pos _ _ _ _ _ (by decide)

/-! ## The cells -/

/-- A device's cells: its barrier cell, the send (`false`) and receive (`true`) cell of each transfer. -/
abbrev CI : Type := Option (Bool × Fin 17)
/-- The send cell of a transfer; -/
abbrev snd (t : Fin 17) : CI := some (false, t)
/-- its receive cell. -/
abbrev rcv (t : Fin 17) : CI := some (true, t)

/-- A cell's semaphore on device `c`; -/
def csem (c : Dev nD) : CI → SemLoc sig
  | none => .reg barS
  | some (false, t) => .dma (sN t)
  | some (true, t) => .dma (rN t c)
/-- the semaphore with its device. -/
def kcell (ck : Dev nD × CI) : GSem nD τ sig := ((ck.1 : Thread nD τ), csem ck.1 ck.2)

/-- Transfers have different receive semaphores on a device, -/
theorem rN_inj : ∀ (c : Dev nD) (t t' : Fin 17), rN t c = rN t' c → t = t' := by decide +kernel
/-- different send semaphores, -/
theorem sN_inj : ∀ t t' : Fin 17, sN t = sN t' → t = t' := by decide +kernel
/-- and no semaphore is both, -/
theorem sN_ne_rN : ∀ (c : Dev nD) (t t' : Fin 17), sN t ≠ rN t' c := by decide +kernel

/-- so a device's cells are different semaphores, -/
theorem csem_inj (c : Dev nD) : Function.Injective (csem c) := by
  rintro (_ | ⟨_ | _, t⟩) (_ | ⟨_ | _, t'⟩) h
  · rfl
  · cases h
  · cases h
  · cases h
  · rw [sN_inj t t' (SemLoc.dma.inj h)]
  · exact absurd (SemLoc.dma.inj h) (sN_ne_rN c t t')
  · cases h
  · exact absurd (SemLoc.dma.inj h).symm (sN_ne_rN c t' t)
  · rw [rN_inj c t t' (SemLoc.dma.inj h)]
/-- and all the cells are. -/
theorem kcell_inj : Function.Injective kcell := by
  rintro ⟨c, k⟩ ⟨c', k'⟩ h
  have h1 : c = c' := congrArg (fun g : GSem nD τ sig => g.1.1) h
  subst h1
  exact congrArg (Prod.mk c) (csem_inj c (congrArg Prod.snd h))

open Classical in
/-- Which cell of the exchange a semaphore is, if one. -/
def pick (g : GSem nD τ sig) : Option (Dev nD × CI) := if h : ∃ ck, kcell ck = g then some h.choose else none
/-- A cell is found by its semaphore; -/
theorem pick_kcell (ck : Dev nD × CI) : pick (kcell ck) = some ck := by
  have h : ∃ ck', kcell ck' = kcell ck := ⟨ck, rfl⟩
  unfold pick; rw [dif_pos h]; exact congrArg some (kcell_inj h.choose_spec)
/-- a semaphore no transfer uses is no cell. -/
theorem pick_none (c : Dev nD) (q : DmaSem sig) (hs : ∀ t, sN t ≠ q) (hr : ∀ t, rN t c ≠ q) : pick ((c : Thread nD τ), .dma q) = none := by
  unfold pick; rw [dif_neg]
  rintro ⟨⟨c', k⟩, h⟩
  have h1 : c' = c := congrArg (fun g : GSem nD τ sig => g.1.1) h
  subst h1
  have h2 : csem c' k = .dma q := congrArg Prod.snd h
  rcases k with _ | ⟨_ | _, t⟩
  · cases h2
  · exact hs t (SemLoc.dma.inj h2)
  · exact hr t (SemLoc.dma.inj h2)

/-! ## What is handed over -/

variable (m : (ℓ : Loc nD τ sig) → Buf (Elt F) ℓ)

/-- Rows `lo` to `hi` of slot `d` of device `c`'s gathered `x`, holding the gathered array; -/
def xR (c d : Dev nD) (lo hi : ℕ) (q : PosShare TreeShare) : sProp 𝕄 := (c : Thread nD τ).loc cc0_scratch0 ↦[xS d lo hi]{q} xFull m
/-- of its gathered `w`; -/
def wR (c d : Dev nD) (lo hi : ℕ) (q : PosShare TreeShare) : sProp 𝕄 := (c : Thread nD τ).loc cc0_scratch1 ↦[wS d lo hi]{q} wFull m
/-- the same rows, holding anything. -/
def xE (c d : Dev nD) (lo hi : ℕ) : sProp 𝕄 := iprop(∃ f : Buf (Elt F) ((c : Thread nD τ).loc cc0_scratch0), (c : Thread nD τ).loc cc0_scratch0 ↦[xS d lo hi]{fullShare} f)
/-- Rows of `w` holding anything. -/
def wE (c d : Dev nD) (lo hi : ℕ) : sProp 𝕄 := iprop(∃ f : Buf (Elt F) ((c : Thread nD τ).loc cc0_scratch1), (c : Thread nD τ).loc cc0_scratch1 ↦[wS d lo hi]{fullShare} f)

/-- What transfer `t` of device `c` gives back to it; -/
def sndP (c : Dev nD) (t : Fin 17) : sProp 𝕄 := if isX t then xR m c (xr (sT t) c) (loT t) (hiT t) (qT t) else wR m c (xr (sT t) c) (loT t) (hiT t) (qT t)
/-- what transfer `t` brings the device `n` that receives it; -/
def rcvP (n : Dev nD) (t : Fin 17) : sProp 𝕄 := if isX t then xR m n (xr (rT t) n) (loT t) (hiT t) fullShare else wR m n (xr (rT t) n) (loT t) (hiT t) fullShare
/-- where transfer `t` lands on the device `n` that receives it, before. -/
def dstP (n : Dev nD) (t : Fin 17) : sProp 𝕄 := if isX t then xE n (xr (rT t) n) (loT t) (hiT t) else wE n (xr (rT t) n) (loT t) (hiT t)

/-- A list's assertions side by side. -/
def bl {α : Type} : List α → (α → sProp 𝕄) → sProp 𝕄
  | [], _ => iprop(emp)
  | a :: l, Φ => iprop(Φ a ∗ bl l Φ)

/-- The transfers to each of the three neighbours. -/
def toN : Fin 3 → List (Fin 17) := ![[0, 1, 6, 7, 12, 13], [2, 3, 8, 9, 14, 15], [4, 5, 10, 11, 16]]
/-- The three neighbours. -/
def nbr : Fin 3 → Fin 8 := ![1, 3, 4]

/-- What the signal of neighbour `i` of device `n` hands `n`: where `n`'s transfers to it land. -/
def barP (n : Dev nD) (i : Fin 3) : sProp 𝕄 := bl (toN i) (dstP (xr (nbr i) n))

/-- Rows of `x` may be kept in an invariant, -/
instance xR_storable (c d : Dev nD) (lo hi : ℕ) (q) : BI.Storable (upEmb : UEmb _ 𝕄) (xR m c d lo hi q) := by unfold xR; infer_instance
/-- rows of `w`, -/
instance wR_storable (c d : Dev nD) (lo hi : ℕ) (q) : BI.Storable (upEmb : UEmb _ 𝕄) (wR m c d lo hi q) := by unfold wR; infer_instance
/-- rows of `x` holding anything, -/
instance xE_storable (c d : Dev nD) (lo hi : ℕ) : BI.Storable (upEmb : UEmb _ 𝕄) (xE (F := F) c d lo hi) := by unfold xE; infer_instance
/-- rows of `w` holding anything, -/
instance wE_storable (c d : Dev nD) (lo hi : ℕ) : BI.Storable (upEmb : UEmb _ 𝕄) (wE (F := F) c d lo hi) := by unfold wE; infer_instance
/-- what a send gives back, -/
instance sndP_storable (c : Dev nD) (t) : BI.Storable (upEmb : UEmb _ 𝕄) (sndP m c t) := by unfold sndP; split <;> infer_instance
/-- what a receive brings, -/
instance rcvP_storable (c : Dev nD) (t) : BI.Storable (upEmb : UEmb _ 𝕄) (rcvP m c t) := by unfold rcvP; split <;> infer_instance
/-- where a transfer lands, -/
instance dstP_storable (c : Dev nD) (t) : BI.Storable (upEmb : UEmb _ 𝕄) (dstP (F := F) c t) := by unfold dstP; split <;> infer_instance
/-- several of these, -/
instance bl_storable {α : Type} (l : List α) (Φ : α → sProp 𝕄) [∀ a, BI.Storable (upEmb : UEmb _ 𝕄) (Φ a)] : BI.Storable (upEmb : UEmb _ 𝕄) (bl l Φ) := by
  induction l with
  | nil => unfold bl; infer_instance
  | cons a l ih => unfold bl; infer_instance
/-- and what a signal hands over. -/
instance barP_storable (c : Dev nD) (i) : BI.Storable (upEmb : UEmb _ 𝕄) (barP (F := F) c i) := by unfold barP; infer_instance

/-! ## The schedule: one round per cell -/

/-- A cell's duties: three for the barrier, one for a transfer; -/
def duC : CI → Finset (Fin 3) | none => Finset.univ | some _ => {0}
/-- the amount of each; -/
def amC : CI → ℕ | none => 1 | some (_, t) => amt t
/-- and what it hands over. -/
def paC (c : Dev nD) : CI → Fin 3 → sProp 𝕄
  | none, i => barP c i
  | some (false, t), _ => sndP m c t
  | some (true, t), _ => rcvP m c t
/-- Every amount is positive. -/
theorem amC_pos (k : CI) : 0 < amC k := by rcases k with _ | ⟨b, t⟩; exacts [Nat.one_pos, amt_pos t]
/-- What a duty hands over may be kept in an invariant. -/
instance paC_storable (c : Dev nD) (k d) : BI.Storable (upEmb : UEmb _ 𝕄) (paC m c k d) := by
  rcases k with _ | ⟨_ | _, t⟩ <;> unfold paC <;> infer_instance

/-- The exchange's schedule: each cell has one round. -/
def sched : Rounds.Schedule (GSem nD τ sig) (Fin 3) 𝕄 where
  duties g r := if r = 0 then (match pick g with | some ck => duC ck.2 | none => ∅) else ∅
  unitless _ := False
  amount g _ _ := match pick g with | some ck => amC ck.2 | none => 1
  payload g _ d := match pick g with | some ck => paC m ck.1 ck.2 d | none => iprop(emp)
  amount_pos g _ _ _ := by
    show 0 < (match pick g with | some ck => amC ck.2 | none => 1)
    split
    · exact amC_pos _
    · exact Nat.one_pos

/-- All its payloads may be kept in invariants. -/
instance sched_storable (g : GSem nD τ sig) (r : ℕ) (d : Fin 3) : BI.Storable (upEmb : UEmb _ 𝕄) ((sched m).payload g r d) := by
  show BI.Storable upEmb (match pick g with | some ck => paC m ck.1 ck.2 d | none => iprop(emp))
  split <;> infer_instance

/-- The duties of a cell's one round; -/
theorem duties_at (ck : Dev nD × CI) : (sched m).duties (kcell ck) 0 = duC ck.2 := by dsimp only [sched]; rw [if_pos rfl, pick_kcell]
/-- there is no later one. -/
theorem duties_later (g : GSem nD τ sig) : ∀ r, 1 ≤ r → (sched m).duties g r = ∅ := fun r hr => by dsimp only [sched]; exact if_neg (by omega)
/-- The amount of a duty; -/
theorem amount_at (ck : Dev nD × CI) (r d) : (sched m).amount (kcell ck) r d = amC ck.2 := by dsimp only [sched]; rw [pick_kcell]
/-- its payload. -/
theorem payload_at (ck : Dev nD × CI) (r d) : (sched m).payload (kcell ck) r d = paC m ck.1 ck.2 d := by dsimp only [sched]; rw [pick_kcell]
/-- The barrier waits for three units, -/
theorem expect_bar (c : Dev nD) : (sched m).expect (kcell (c, none)) 0 = 3 := by
  unfold Schedule.expect Schedule.amountOf
  rw [duties_at, Finset.sum_congr rfl fun d _ => amount_at m (c, none) 0 d]; rfl
/-- a transfer's cell for the transfer's amount. -/
theorem expect_dma (c : Dev nD) (bt : Bool × Fin 17) : (sched m).expect (kcell (c, some bt)) 0 = amt bt.2 := by
  unfold Schedule.expect Schedule.amountOf
  rw [duties_at, Finset.sum_congr rfl fun d _ => amount_at m (c, some bt) 0 d]; exact Finset.sum_singleton _ _
/-- What a transfer's cell hands over, -/
theorem rest_dma (c : Dev nD) (bt : Bool × Fin 17) :
    bigSep ((sched m).duties (kcell (c, some bt)) 0 \ ∅) (fun d => (sched m).payload (kcell (c, some bt)) 0 d) = paC m c (some bt) 0 := by
  rw [Finset.sdiff_empty, duties_at]; show bigSep {0} _ = _; rw [bigSep_singleton, payload_at]
/-- what the barrier does. -/
theorem rest_bar (c : Dev nD) :
    bigSep ((sched m).duties (kcell (c, none)) 0 \ ∅) (fun d => (sched m).payload (kcell (c, none)) 0 d) = iprop(barP c 0 ∗ barP c 1 ∗ barP c 2) := by
  rw [Finset.sdiff_empty, duties_at, show duC (c, (none : CI)).2 = Finset.univ from rfl, bigSep_univ_eq_bigSepL [0, 1, 2] (by decide) (by decide),
    bigSepL_cons_cons, bigSepL_cons_cons, bigSepL_singleton, payload_at, payload_at, payload_at]; rfl

/-! ## What a device owes; the levels -/

/-- The amounts owed, by cell. -/
def sumT : List (Dev nD × CI) → CellTallies nD τ sig Unit
  | [] => 0
  | e :: l => sumT l + tallyAt (kcell e) () (amC e.2)

/-- The transfers in the order of issue. -/
def allT : List (Fin 17) := [0, 1, 2, 3, 4, 5, 6, 7, 8, 9, 10, 11, 12, 13, 14, 15, 16]
/-- The receive cells still to be paid when `n` transfers have been issued. -/
def rem (c : Dev nD) (n : ℕ) : List (Dev nD × CI) := (allT.drop n).map fun t => (xr (pT t) c, rcv t)
/-- All that device `c` owes at launch: a unit to each neighbour, the credit of each transfer. -/
def owed (c : Dev nD) : List (Dev nD × CI) := (xr 1 c, none) :: (xr 3 c, none) :: (xr 4 c, none) :: rem c 0

/-- A cell's level: sends lowest, the barrier next, then the receives round by round. -/
def lvC : CI → ℕ | none => 1 | some (false, _) => 0 | some (true, t) => lvT t
/-- The labels of a semaphore: one on the devices' main threads; -/
def L (g : GSem nD τ sig) : Finset Unit := if g.1.2 = .tc then {()} else ∅
/-- its level. -/
def lv (g : GSem nD τ sig) (_ : Unit) : ℕ := match pick g with | some ck => lvC ck.2 | none => 0

/-- Other threads have no labels; -/
theorem L_of_ne (g : GSem nD τ sig) (h : g.1.2 ≠ .tc) : L g = ∅ := if_neg h
/-- a main thread's semaphore has the one. -/
theorem L_tc (c : Dev nD) (sm : SemLoc sig) : L ((c : Thread nD τ), sm) = {()} := if_pos rfl
/-- The level of a cell. -/
theorem lv_at (ck : Dev nD × CI) (u) : lv (kcell ck) u = lvC ck.2 := by unfold lv; rw [pick_kcell]

/-- What is owed somewhere is owed to a cell of the list; -/
theorem sumT_pos (l : List (Dev nD × CI)) (g : GSem nD τ sig) (u : Unit) (h : 0 < sumT l g u) : ∃ e ∈ l, g = kcell e := by
  induction l with
  | nil => exact absurd h (Nat.lt_irrefl 0)
  | cons e l ih =>
    unfold sumT at h
    rw [Pi.add_apply, Finsupp.add_apply, tallyAt_apply] at h
    by_cases hg : g = kcell e
    · exact ⟨e, List.mem_cons_self, hg⟩
    · rw [if_neg (fun h' => hg h'.1), Nat.add_zero] at h
      obtain ⟨e', he, rfl⟩ := ih h
      exact ⟨e', List.mem_cons_of_mem _ he, rfl⟩

/-- the amount is the cell's, as often as the list names it. -/
theorem sumT_at (l : List (Dev nD × CI)) (ck : Dev nD × CI) : sumT l (kcell ck) () = l.count ck * amC ck.2 := by
  induction l with
  | nil => simp [sumT]
  | cons e l ih =>
    unfold sumT
    rw [Pi.add_apply, Finsupp.add_apply, tallyAt_apply, ih, List.count_cons]
    by_cases h : e = ck
    · subst h; rw [if_pos ⟨rfl, rfl⟩, if_pos (by simp), Nat.add_one_mul]
    · rw [if_neg (fun h' => h (kcell_inj h'.1.symm)), if_neg (by simpa using h)]; rfl

/-- A device may wait at a level below all it owes. -/
theorem mayWait (c : Dev nD) (sm : SemLoc sig) (l : List (Dev nD × CI)) (b : ℕ) (hb : lv ((c : Thread nD τ), sm) () ≤ b) (h : ∀ e ∈ l, b < lvC e.2) :
    (levAts L lv : sProp 𝕄) ⊢ MayWait (c : Thread nD τ) sm () (sumT l) :=
  MayOwe.of_cut (L := L) (lev := lv) b (fun p hp => by rw [Finset.mem_singleton.mp hp, L_tc]; exact Finset.mem_singleton_self _)
    (fun g u hg => by obtain ⟨e, _, rfl⟩ := sumT_pos l g u hg; exact (L_tc e.1 _) ▸ Finset.mem_singleton_self _)
    (fun p hp => by rw [Finset.mem_singleton.mp hp]; exact hb)
    (fun g u hg => by obtain ⟨e, he, rfl⟩ := sumT_pos l g u hg; rw [lv_at]; exact h e he)

/-- The receives still to be paid lie above a level that lies below each of them. -/
theorem rem_above (c : Dev nD) (n b : ℕ) (h : ∀ t ∈ allT.drop n, b < lvT t) : ∀ e ∈ rem c n, b < lvC e.2 := by
  intro e he
  obtain ⟨t, ht, rfl⟩ := List.mem_map.mp he
  exact h t ht

end Cert.K

end
-- ==== Proof.Rules.lean ====
/- One rule per kind of step of the exchange: a send, a wait, a signal, the barrier wait. -/
module

public import proofs.«01_k».proof.Proof.Sched
public import Idealize.ShloMosaic.Lib.Transfers

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-- The program has no loop whose end needs an argument of its own. -/
abbrev 𝒱₀ : Variants := Variants.none

variable (m : (ℓ : Loc nD τ sig) → Buf (Elt F) ℓ) (K : Dev nD × CI → ℕ)

/-- What every device knows: each cell's invariant, and that each cell is at its round. -/
def records : sProp 𝕄 :=
  iprop((bigSep Finset.univ fun ck : Dev nD × CI => cellInv ER (sched m) (K ck) (kcell ck)) ∗ bigSep Finset.univ fun ck : Dev nD × CI => reached ER (kcell ck) 0)
/-- The record may be used again and again. -/
instance records_persistent : BI.Persistent (records m K) := by unfold records; infer_instance
/-- A cell's invariant, from the record; -/
theorem inv_at (ck : Dev nD × CI) : records m K ⊢ cellInv ER (sched m) (K ck) (kcell ck) := by
  unfold records; iintro ⟨H, -⟩; iapply (show (bigSep Finset.univ fun ck : Dev nD × CI => (cellInv ER (sched m) (K ck) (kcell ck) : sProp 𝕄)) ⊢ cellInv ER (sched m) (K ck) (kcell ck) from bigSep_elim (Finset.mem_univ ck)); iexact H
/-- that it is at its round. -/
theorem reached_at (ck : Dev nD × CI) : records m K ⊢ reached ER (kcell ck) 0 := by
  unfold records; iintro ⟨-, H⟩; iapply (show (bigSep Finset.univ fun ck : Dev nD × CI => (reached ER (kcell ck) 0 : sProp 𝕄)) ⊢ reached ER (kcell ck) 0 from bigSep_elim (Finset.mem_univ ck)); iexact H

/-- What device `c` issues transfer `t` with; -/
def sndK (c : Dev nD) (t : Fin 17) : sProp 𝕄 :=
  iprop(atPos ER (kcell (c, snd t)) 0 ∅ 0 ∗ dutyTok ER (kcell (c, snd t)) 0 0 ∗ dutyTok ER (kcell (xr (pT t) c, rcv t)) 0 0)
/-- what it waits for a cell of its own with; -/
def wtK (c : Dev nD) (bt : Bool × Fin 17) : sProp 𝕄 :=
  iprop(cred (tallyAt (kcell (c, some bt)) () (amt bt.2)) ∗ atPos ER (kcell (c, some bt)) 0 ∅ 0)
/-- a cell closed; -/
def zc (c : Dev nD) (k : CI) : sProp 𝕄 := semVal (kcell (c, k)) 0
/-- what it owes. -/
def ow (c : Dev nD) (l : List (Dev nD × CI)) : sProp 𝕄 := iprop(∃ W : Waits sig Unit, owes (c : Thread nD τ) (sumT l) W)

/-- The wait on one of the device's transfer cells: what the transfer hands over, the cell closed. -/
theorem wait_cell {c : Dev nD} (bt : Bool × Fin 17) {sem : DmaSem sig} (hs : sem = (if bt.1 then rN bt.2 c else sN bt.2))
    {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hA : dstw.view.dmaCredit = amt bt.2) (l : List (Dev nD × CI)) (h : ∀ e ∈ l, lvC (some bt) < lvC e.2)
    {α : Type} {Q : α → sProp 𝕄} {k : PUnit → Prog (TpuEff nD τ sig (Elt F) Λ₀ .tc) α} :
    iprop(records m K ∗ levAts L lv ∗ wtK c bt ∗ ow c l)
      ⊢ iprop(((paC m c (some bt) 0 ∗ zc c (some bt) ∗ ow c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  have hc : kcell (c, some bt) = ((c : Thread nD τ), SemLoc.dma sem) := by
    rw [hs]; rcases bt with ⟨_ | _, t⟩ <;> rfl
  unfold wtK ow
  iintro ⟨#HR, #Hlev, ⟨Hc, Hat⟩, ⟨%W, HO⟩⟩ Hk
  ihave #HI := (inv_at m K (c, some bt)) $$ HR
  iapply (Rounds.wp_wait_rest_token 𝒱₀ ER (sched m) (c : Thread nD τ) none (κ := K (c, some bt))
      (wpE_waitDma2_eq 𝒱₀ (c : Thread nD τ) none Set.univ) (Set.mem_univ _) () (O := sumT l) (W := W) (R := 0) (m := 0) (T := ∅)
      (by rw [← hc, expect_dma, Nat.zero_add]; exact hA)) $$ [Hc HO Hat]
  · rw [← hc, hA]
    isplitr; · iexact HI
    isplitl [Hc]; · iexact Hc
    isplitl [HO]; · iexact HO
    isplitr
    · iapply (mayWait c (.dma sem) l (lvC (some bt)) (le_of_eq (by rw [← hc, lv_at])) h); iexact Hlev
    iexact Hat
  rw [← hc]
  iintro ⟨HO, Hat, -, Hpay⟩
  ihave Hpay := (Entails.of_eq (rest_dma m c bt)) $$ Hpay
  imod (Rounds.cell_close ER (sched m) (Set.mem_univ (K (c, some bt))) (fun h => h) (R := 0 + 1) (duties_later m (kcell (c, some bt)))) $$ [Hat] with Hz
  · isplitr; · iexact HI
    iexact Hat
  iapply Hk
  isplitl [Hpay]; · iexact Hpay
  isplitl [Hz]; · unfold zc; iexact Hz
  iexists _; iexact HO

/-- Transfer `t` of a slot of `x` to its neighbour: the rows lent, where they land and what is owed for it go in. -/
theorem send_x0 {c : Dev nD} (t : Fin 17) (d : Dev nD) (lo len : ℕ) {q : PosShare TreeShare} {n : Dev nD} (hn : n = xr (pT t) c)
    {off size : Fin 3 → ℕ} (hoff : off = ![d.val, lo, 0]) (hsize : size = ![1, len, 512])
    {sS rS : DmaSem sig} (hs : sS = sN t) (hr : rS = rN t (xr (pT t) c))
    (hp : sndP m c t = xR m c d lo (lo + len) q) (hp' : rcvP m (xr (pT t) c) t = xR m (xr (pT t) c) d lo (lo + len) fullShare)
    {inb inb' : ∀ a, off a + size a ≤ S8x4096x512.size a} {h : ∀ a, (Rect.unit (s := S8x4096x512) off size inb).stride a = 1} {h' : ∀ a, (Rect.unit (s := S8x4096x512) off size inb').stride a = 1} {s' : Shape}
    {hq : (Rect.unit (s := S8x4096x512) off size inb).shape.Squeezes s'} {hq' : (Rect.unit (s := S8x4096x512) off size inb').shape.Squeezes s'}
    (hA : Ref.dmaCredit cc0_scratch0 s' .fp8e5m2 = amt t) (l : List (Dev nD × CI))
    {hsc} {hsrc : ((xM.slice (Rect.unit (s := S8x4096x512) off size inb) h).squeeze s' hq).view.WordExact}
    {hdst : ((xM.slice (Rect.unit (s := S8x4096x512) off size inb') h').squeeze s' hq').view.WordExact}
    {hsem : DmaTarget.Typed .vmem (.dma rS) (.remote (Dev.tc n : Thread nD τ) ((xM.slice (Rect.unit (s := S8x4096x512) off size inb') h').squeeze s' hq') (.dma sS) hsc)}
    {α : Type} {Q : α → sProp 𝕄} {k : PUnit → Prog (TpuEff nD τ sig (Elt F) Λ₀ .tc) α} :
    iprop(records m K ∗ sndK c t ∗ xR m c d lo (lo + len) q ∗ xE (xr (pT t) c) d lo (lo + len) ∗ ow c ((xr (pT t) c, rcv t) :: l))
      ⊢ iprop(((wtK c (false, t) ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((xM.slice (Rect.unit (s := S8x4096x512) off size inb) h).squeeze s' hq)
                (.remote (Dev.tc n : Thread nD τ) ((xM.slice (Rect.unit (s := S8x4096x512) off size inb') h').squeeze s' hq') (.dma sS) hsc) (.dma rS) hsrc hdst hsem) k) Q) := by
  subst hn hoff hsize hs hr
  have hset : ((xM.slice (Rect.unit (s := S8x4096x512) ![d.val, lo, 0] ![1, len, 512] inb) h).squeeze s' hq).view.set = xS d lo (lo + len) :=
    (set_win cc0_scratch0 _ h _ hq).trans (rect_x d lo len inb)
  unfold sndK ow
  iintro ⟨#HR, ⟨Hat, Hts, Htr⟩, Hsrc, Hdst, ⟨%W, HO⟩⟩ Hk
  ihave #HI := (inv_at m K (c, snd t)) $$ HR
  ihave #HI' := (inv_at m K (xr (pT t) c, rcv t)) $$ HR
  ihave #Hr := (reached_at m K (c, snd t)) $$ HR
  ihave #Hr' := (reached_at m K (xr (pT t) c, rcv t)) $$ HR
  unfold xE
  icases Hdst with ⟨%fd, Hdst⟩
  iapply (Rounds.wp_send_pointsTo 𝒱₀ ER (sched m) (c : Thread nD τ) none (κ₁ := K (c, snd t)) (κ₂ := K (xr (pT t) c, rcv t))
    (r₁ := 0) (r₂ := 0) (d₁ := 0) (d₂ := 0) (fs := xFull m) (fd := fd) (q := q)
    (by show 0 ∈ (sched m).duties (kcell (c, snd t)) 0; rw [duties_at]; exact Finset.mem_singleton_self _)
    (by show 0 ∈ (sched m).duties (kcell (xr (pT t) c, rcv t)) 0; rw [duties_at]; exact Finset.mem_singleton_self _)
    () () (amt t) (by exact hA) (amount_at m (c, snd t) 0 0) (amount_at m (xr (pT t) c, rcv t) 0 0) (sumT l) rfl (W := W)
    (by
      show _ ⊢ (sched m).payload (kcell (c, snd t)) 0 0
      rw [payload_at, hset]; show _ ⊢ sndP m c t; rw [hp]; unfold xR; exact BI.Entails.refl _)
    (by
      show _ ⊢ (sched m).payload (kcell (xr (pT t) c, rcv t)) 0 0
      rw [payload_at]; show _ ⊢ rcvP m (xr (pT t) c) t; rw [hp']; unfold xR
      rw [show ((xM.slice (Rect.unit (s := S8x4096x512) ![d.val, lo, 0] ![1, len, 512] inb') h').squeeze s' hq').view.set = xS d lo (lo + len) from hset]
      refine Entails.of_eq (pointsTo_congr fun i hi => ?_)
      rw [← hset] at hi
      exact copy_at ((xM.slice (Rect.unit (s := S8x4096x512) ![d.val, lo, 0] ![1, len, 512] inb) h).squeeze s' hq).view
        ((xM.slice (Rect.unit (s := S8x4096x512) ![d.val, lo, 0] ![1, len, 512] inb) h).squeeze s' hq).view (xFull m) fd (xFull m) (fun _ => rfl) i hi)) $$ [Hsrc Hdst HO Hts Htr]
  · isplitr; · iexact HI
    isplitr; · iexact HI'
    isplitl [Hsrc]; · rw [hset]; unfold xR; iexact Hsrc
    isplitl [Hdst]
    · rw [show ((xM.slice (Rect.unit (s := S8x4096x512) ![d.val, lo, 0] ![1, len, 512] inb') h').squeeze s' hq').view.set = xS d lo (lo + len) from hset]
      iexact Hdst
    isplitl [HO]; · iexact HO
    isplitl [Hts]; · iexact Hts
    isplitr; · iexact Hr
    isplitl [Htr]; · iexact Htr
    iexact Hr'
  iintro ⟨Hc, HO⟩
  iapply Hk
  unfold wtK
  isplitl [Hc Hat]
  · isplitl [Hc]; · iexact Hc
    iexact Hat
  iexists W; iexact HO

/-- Transfer `t` of a slot of `w` to its neighbour: the rows lent, where they land and what is owed for it go in. -/
theorem send_w0 {c : Dev nD} (t : Fin 17) (d : Dev nD) (lo len : ℕ) {q : PosShare TreeShare} {n : Dev nD} (hn : n = xr (pT t) c)
    {off size : Fin 3 → ℕ} (hoff : off = ![d.val, lo, 0]) (hsize : size = ![1, len, 8192])
    {sS rS : DmaSem sig} (hs : sS = sN t) (hr : rS = rN t (xr (pT t) c))
    (hp : sndP m c t = wR m c d lo (lo + len) q) (hp' : rcvP m (xr (pT t) c) t = wR m (xr (pT t) c) d lo (lo + len) fullShare)
    {inb inb' : ∀ a, off a + size a ≤ S8x512x8192.size a} {h : ∀ a, (Rect.unit (s := S8x512x8192) off size inb).stride a = 1} {h' : ∀ a, (Rect.unit (s := S8x512x8192) off size inb').stride a = 1} {s' : Shape}
    {hq : (Rect.unit (s := S8x512x8192) off size inb).shape.Squeezes s'} {hq' : (Rect.unit (s := S8x512x8192) off size inb').shape.Squeezes s'}
    (hA : Ref.dmaCredit cc0_scratch1 s' .fp8e5m2 = amt t) (l : List (Dev nD × CI))
    {hsc} {hsrc : ((wM.slice (Rect.unit (s := S8x512x8192) off size inb) h).squeeze s' hq).view.WordExact}
    {hdst : ((wM.slice (Rect.unit (s := S8x512x8192) off size inb') h').squeeze s' hq').view.WordExact}
    {hsem : DmaTarget.Typed .vmem (.dma rS) (.remote (Dev.tc n : Thread nD τ) ((wM.slice (Rect.unit (s := S8x512x8192) off size inb') h').squeeze s' hq') (.dma sS) hsc)}
    {α : Type} {Q : α → sProp 𝕄} {k : PUnit → Prog (TpuEff nD τ sig (Elt F) Λ₀ .tc) α} :
    iprop(records m K ∗ sndK c t ∗ wR m c d lo (lo + len) q ∗ wE (xr (pT t) c) d lo (lo + len) ∗ ow c ((xr (pT t) c, rcv t) :: l))
      ⊢ iprop(((wtK c (false, t) ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((wM.slice (Rect.unit (s := S8x512x8192) off size inb) h).squeeze s' hq)
                (.remote (Dev.tc n : Thread nD τ) ((wM.slice (Rect.unit (s := S8x512x8192) off size inb') h').squeeze s' hq') (.dma sS) hsc) (.dma rS) hsrc hdst hsem) k) Q) := by
  subst hn hoff hsize hs hr
  have hset : ((wM.slice (Rect.unit (s := S8x512x8192) ![d.val, lo, 0] ![1, len, 8192] inb) h).squeeze s' hq).view.set = wS d lo (lo + len) :=
    (set_win cc0_scratch1 _ h _ hq).trans (rect_w d lo len inb)
  unfold sndK ow
  iintro ⟨#HR, ⟨Hat, Hts, Htr⟩, Hsrc, Hdst, ⟨%W, HO⟩⟩ Hk
  ihave #HI := (inv_at m K (c, snd t)) $$ HR
  ihave #HI' := (inv_at m K (xr (pT t) c, rcv t)) $$ HR
  ihave #Hr := (reached_at m K (c, snd t)) $$ HR
  ihave #Hr' := (reached_at m K (xr (pT t) c, rcv t)) $$ HR
  unfold wE
  icases Hdst with ⟨%fd, Hdst⟩
  iapply (Rounds.wp_send_pointsTo 𝒱₀ ER (sched m) (c : Thread nD τ) none (κ₁ := K (c, snd t)) (κ₂ := K (xr (pT t) c, rcv t))
    (r₁ := 0) (r₂ := 0) (d₁ := 0) (d₂ := 0) (fs := wFull m) (fd := fd) (q := q)
    (by show 0 ∈ (sched m).duties (kcell (c, snd t)) 0; rw [duties_at]; exact Finset.mem_singleton_self _)
    (by show 0 ∈ (sched m).duties (kcell (xr (pT t) c, rcv t)) 0; rw [duties_at]; exact Finset.mem_singleton_self _)
    () () (amt t) (by exact hA) (amount_at m (c, snd t) 0 0) (amount_at m (xr (pT t) c, rcv t) 0 0) (sumT l) rfl (W := W)
    (by
      show _ ⊢ (sched m).payload (kcell (c, snd t)) 0 0
      rw [payload_at, hset]; show _ ⊢ sndP m c t; rw [hp]; unfold wR; exact BI.Entails.refl _)
    (by
      show _ ⊢ (sched m).payload (kcell (xr (pT t) c, rcv t)) 0 0
      rw [payload_at]; show _ ⊢ rcvP m (xr (pT t) c) t; rw [hp']; unfold wR
      rw [show ((wM.slice (Rect.unit (s := S8x512x8192) ![d.val, lo, 0] ![1, len, 8192] inb') h').squeeze s' hq').view.set = wS d lo (lo + len) from hset]
      refine Entails.of_eq (pointsTo_congr fun i hi => ?_)
      rw [← hset] at hi
      exact copy_at ((wM.slice (Rect.unit (s := S8x512x8192) ![d.val, lo, 0] ![1, len, 8192] inb) h).squeeze s' hq).view
        ((wM.slice (Rect.unit (s := S8x512x8192) ![d.val, lo, 0] ![1, len, 8192] inb) h).squeeze s' hq).view (wFull m) fd (wFull m) (fun _ => rfl) i hi)) $$ [Hsrc Hdst HO Hts Htr]
  · isplitr; · iexact HI
    isplitr; · iexact HI'
    isplitl [Hsrc]; · rw [hset]; unfold wR; iexact Hsrc
    isplitl [Hdst]
    · rw [show ((wM.slice (Rect.unit (s := S8x512x8192) ![d.val, lo, 0] ![1, len, 8192] inb') h').squeeze s' hq').view.set = wS d lo (lo + len) from hset]
      iexact Hdst
    isplitl [HO]; · iexact HO
    isplitl [Hts]; · iexact Hts
    isplitr; · iexact Hr
    isplitl [Htr]; · iexact Htr
    iexact Hr'
  iintro ⟨Hc, HO⟩
  iapply Hk
  unfold wtK
  isplitl [Hc Hat]
  · isplitl [Hc]; · iexact Hc
    iexact Hat
  iexists W; iexact HO

/-- The receive cell paid by the next transfer to be issued comes first in what is still owed. -/
theorem rem_cons (c : Dev nD) : ∀ t : Fin 17, rem c t.val = (xr (pT t) c, rcv t) :: rem c (t.val + 1) := by
  intro t; fin_cases t <;> rfl
/-- The slot a transfer carries is the same for sender and receiver. -/
theorem slot_eq : ∀ (t : Fin 17) (c : Dev nD), xr (rT t) (xr (pT t) c) = xr (sT t) c := by decide +kernel

/-- Transfer `t` of `x` issued, in the order of issue. -/
theorem send_x {c : Dev nD} (t : Fin 17) (ht : isX t = true) (len : ℕ) (hl : loT t + len = hiT t) {n : Dev nD} (hn : n = xr (pT t) c)
    {off size : Fin 3 → ℕ} (hoff : off = ![(xr (sT t) c).val, loT t, 0]) (hsize : size = ![1, len, 512])
    {sS rS : DmaSem sig} (hs : sS = sN t) (hr : rS = rN t (xr (pT t) c)) (a b : ℕ) (ha : t.val = a) (hb : t.val + 1 = b)
    {inb inb' : ∀ a, off a + size a ≤ S8x4096x512.size a} {h : ∀ a, (Rect.unit (s := S8x4096x512) off size inb).stride a = 1} {h' : ∀ a, (Rect.unit (s := S8x4096x512) off size inb').stride a = 1} {s' : Shape}
    {hq : (Rect.unit (s := S8x4096x512) off size inb).shape.Squeezes s'} {hq' : (Rect.unit (s := S8x4096x512) off size inb').shape.Squeezes s'}
    (hA : Ref.dmaCredit cc0_scratch0 s' .fp8e5m2 = amt t)
    {hsc} {hsrc : ((xM.slice (Rect.unit (s := S8x4096x512) off size inb) h).squeeze s' hq).view.WordExact}
    {hdst : ((xM.slice (Rect.unit (s := S8x4096x512) off size inb') h').squeeze s' hq').view.WordExact}
    {hsem : DmaTarget.Typed .vmem (.dma rS) (.remote (Dev.tc n : Thread nD τ) ((xM.slice (Rect.unit (s := S8x4096x512) off size inb') h').squeeze s' hq') (.dma sS) hsc)}
    {α : Type} {Q : α → sProp 𝕄} {k : PUnit → Prog (TpuEff nD τ sig (Elt F) Λ₀ .tc) α} :
    iprop(records m K)
      ⊢ iprop((sndK c t ∗ sndP m c t ∗ dstP (xr (pT t) c) t) -∗ ow c (rem c a)
        -∗ ((wtK c (false, t) ∗ ow c (rem c b)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((xM.slice (Rect.unit (s := S8x4096x512) off size inb) h).squeeze s' hq)
                (.remote (Dev.tc n : Thread nD τ) ((xM.slice (Rect.unit (s := S8x4096x512) off size inb') h').squeeze s' hq') (.dma sS) hsc) (.dma rS) hsrc hdst hsem) k) Q) := by
  have e1 : sndP m c t = xR m c (xr (sT t) c) (loT t) (loT t + len) (qT t) := by unfold sndP; rw [if_pos ht, hl]
  have e2 : rcvP m (xr (pT t) c) t = xR m (xr (pT t) c) (xr (sT t) c) (loT t) (loT t + len) fullShare := by unfold rcvP; rw [if_pos ht, hl, slot_eq]
  have e3 : dstP (F := F) (xr (pT t) c) t = xE (xr (pT t) c) (xr (sT t) c) (loT t) (loT t + len) := by unfold dstP; rw [if_pos ht, hl, slot_eq]
  subst ha hb
  rw [rem_cons c t]
  iintro HR ⟨Hk, Hs, Hd⟩ HO Hc
  ihave Hs := (Entails.of_eq e1) $$ Hs
  ihave Hd := (Entails.of_eq e3) $$ Hd
  iapply (send_x0 m K t (xr (sT t) c) (loT t) len hn hoff hsize hs hr e1 e2 hA (rem c (t.val + 1))) $$ [HR Hk Hs Hd HO] Hc
  iframe

/-- Transfer `t` of `w` issued, in the order of issue. -/
theorem send_w {c : Dev nD} (t : Fin 17) (ht : isX t = false) (len : ℕ) (hl : loT t + len = hiT t) {n : Dev nD} (hn : n = xr (pT t) c)
    {off size : Fin 3 → ℕ} (hoff : off = ![(xr (sT t) c).val, loT t, 0]) (hsize : size = ![1, len, 8192])
    {sS rS : DmaSem sig} (hs : sS = sN t) (hr : rS = rN t (xr (pT t) c)) (a b : ℕ) (ha : t.val = a) (hb : t.val + 1 = b)
    {inb inb' : ∀ a, off a + size a ≤ S8x512x8192.size a} {h : ∀ a, (Rect.unit (s := S8x512x8192) off size inb).stride a = 1} {h' : ∀ a, (Rect.unit (s := S8x512x8192) off size inb').stride a = 1} {s' : Shape}
    {hq : (Rect.unit (s := S8x512x8192) off size inb).shape.Squeezes s'} {hq' : (Rect.unit (s := S8x512x8192) off size inb').shape.Squeezes s'}
    (hA : Ref.dmaCredit cc0_scratch1 s' .fp8e5m2 = amt t)
    {hsc} {hsrc : ((wM.slice (Rect.unit (s := S8x512x8192) off size inb) h).squeeze s' hq).view.WordExact}
    {hdst : ((wM.slice (Rect.unit (s := S8x512x8192) off size inb') h').squeeze s' hq').view.WordExact}
    {hsem : DmaTarget.Typed .vmem (.dma rS) (.remote (Dev.tc n : Thread nD τ) ((wM.slice (Rect.unit (s := S8x512x8192) off size inb') h').squeeze s' hq') (.dma sS) hsc)}
    {α : Type} {Q : α → sProp 𝕄} {k : PUnit → Prog (TpuEff nD τ sig (Elt F) Λ₀ .tc) α} :
    iprop(records m K)
      ⊢ iprop((sndK c t ∗ sndP m c t ∗ dstP (xr (pT t) c) t) -∗ ow c (rem c a)
        -∗ ((wtK c (false, t) ∗ ow c (rem c b)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((wM.slice (Rect.unit (s := S8x512x8192) off size inb) h).squeeze s' hq)
                (.remote (Dev.tc n : Thread nD τ) ((wM.slice (Rect.unit (s := S8x512x8192) off size inb') h').squeeze s' hq') (.dma sS) hsc) (.dma rS) hsrc hdst hsem) k) Q) := by
  have e1 : sndP m c t = wR m c (xr (sT t) c) (loT t) (loT t + len) (qT t) := by unfold sndP; rw [if_neg (by rw [ht]; decide), hl]
  have e2 : rcvP m (xr (pT t) c) t = wR m (xr (pT t) c) (xr (sT t) c) (loT t) (loT t + len) fullShare := by unfold rcvP; rw [if_neg (by rw [ht]; decide), hl, slot_eq]
  have e3 : dstP (F := F) (xr (pT t) c) t = wE (xr (pT t) c) (xr (sT t) c) (loT t) (loT t + len) := by unfold dstP; rw [if_neg (by rw [ht]; decide), hl, slot_eq]
  subst ha hb
  rw [rem_cons c t]
  iintro HR ⟨Hk, Hs, Hd⟩ HO Hc
  ihave Hs := (Entails.of_eq e1) $$ Hs
  ihave Hd := (Entails.of_eq e3) $$ Hd
  iapply (send_w0 m K t (xr (sT t) c) (loT t) len hn hoff hsize hs hr e1 e2 hA (rem c (t.val + 1))) $$ [HR Hk Hs Hd HO] Hc
  iframe

/-- A transfer cell waited for. -/
theorem wait_t {c : Dev nD} (bt : Bool × Fin 17) {sem : DmaSem sig} (hs : sem = (if bt.1 then rN bt.2 c else sN bt.2))
    {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hA : dstw.view.dmaCredit = amt bt.2) (a : ℕ) (h : ∀ t ∈ allT.drop a, lvC (some bt) < lvT t)
    {α : Type} {Q : α → sProp 𝕄} {k : PUnit → Prog (TpuEff nD τ sig (Elt F) Λ₀ .tc) α} :
    iprop(records m K ∗ levAts L lv)
      ⊢ iprop(wtK c bt -∗ ow c (rem c a) -∗ ((paC m c (some bt) 0 ∗ zc c (some bt) ∗ ow c (rem c a)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  iintro ⟨HR, HL⟩ Hw HO Hc
  iapply (wait_cell m K bt hs hA (rem c a) (rem_above c a _ h)) $$ [HR HL Hw HO] Hc
  iframe

/-- The signal to neighbour `i`: the device's own landing regions go with it. -/
theorem signal_n {c : Dev nD} (i : Fin 3) {n : Dev nD} (hn : n = xr (nbr i) c) (l : List (Dev nD × CI)) {k' : ℕ} (hk' : k' = 1)
    {α : Type} {Q : α → sProp 𝕄} {k : PUnit → Prog (TpuEff nD τ sig (Elt F) Λ₀ .tc) α} :
    iprop(records m K)
      ⊢ iprop(dutyTok ER (kcell (xr (nbr i) c, none)) 0 i -∗ bl (toN i) (dstP c) -∗ ow c ((xr (nbr i) c, none) :: l)
        -∗ (ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  unfold ow
  iintro #HR Ht Hd ⟨%W, HO⟩ Hk
  ihave #HI := (inv_at m K (xr (nbr i) c, none)) $$ HR
  ihave #Hr := (reached_at m K (xr (nbr i) c, none)) $$ HR
  iapply (Rounds.wp_signal 𝒱₀ ER (sched m) (c : Thread nD τ) none (dst := (xr (nbr i) c : Thread nD τ)) (κ := K (xr (nbr i) c, none))
      (d := i) (by show i ∈ (sched m).duties (kcell (xr (nbr i) c, none)) 0; rw [duties_at]; exact Finset.mem_univ _)
      (amount_at m (xr (nbr i) c, none) 0 i) () (sumT l) rfl (W := W)) $$ [HO Ht Hd]
  · isplitr; · iexact HI
    isplitl [HO]; · iexact HO
    isplitl [Ht]; · iexact Ht
    isplitl [Hd]
    · iapply (show bl (toN i) (dstP c) ⊢ (sched m).payload ((xr (nbr i) c : Thread nD τ), SemLoc.reg barS) 0 i from
        Entails.of_eq (by show _ = (sched m).payload (kcell (xr (nbr i) c, none)) 0 i; rw [payload_at]; show _ = barP (xr (nbr i) c) i; unfold barP; rw [xr_xr]))
      iexact Hd
    iexact Hr
  iintro HO
  iapply Hk
  iexists W; iexact HO

/-- The wait for the three neighbours' signals: where this device's transfers land comes with it. -/
theorem wait_bar {c : Dev nD} {k' : ℕ} (hk' : k' = 3)
    {α : Type} {Q : α → sProp 𝕄} {k : PUnit → Prog (TpuEff nD τ sig (Elt F) Λ₀ .tc) α} :
    iprop(records m K ∗ levAts L lv)
      ⊢ iprop((cred (tallyAt (kcell (c, none)) () 3) ∗ atPos ER (kcell (c, none)) 0 ∅ 0) -∗ ow c (rem c 0)
        -∗ ((barP c 0 ∗ barP c 1 ∗ barP c 2 ∗ zc c none ∗ ow c (rem c 0)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold ow
  iintro ⟨#HR, #Hlev⟩ ⟨Hc, Hat⟩ ⟨%W, HO⟩ Hk
  ihave #HI := (inv_at m K (c, none)) $$ HR
  iapply (Rounds.wp_wait_rest_token 𝒱₀ ER (sched m) (c : Thread nD τ) none (κ := K (c, none))
      (wpE_semWait_eq 𝒱₀ (c : Thread nD τ) none Set.univ) (Set.mem_univ _) () (O := sumT (rem c 0)) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr
    · iapply (mayWait c (.reg barS) (rem c 0) 1 (le_of_eq (lv_at (c, none) ())) (rem_above c 0 1 (by decide))); iexact Hlev
    iexact Hat
  iintro ⟨HO, Hat, -, Hpay⟩
  ihave Hpay := (show bigSep ((sched m).duties ((c : Thread nD τ), SemLoc.reg barS) 0 \ ∅) (fun d => (sched m).payload ((c : Thread nD τ), SemLoc.reg barS) 0 d)
      ⊢ iprop(barP c 0 ∗ barP c 1 ∗ barP c 2) from Entails.of_eq (rest_bar m c)) $$ Hpay
  imod (Rounds.cell_close ER (sched m) (Set.mem_univ (K (c, none))) (fun h => h) (R := 0 + 1) (duties_later m (kcell (c, none)))) $$ [Hat] with Hz
  · isplitr; · iexact HI
    iexact Hat
  icases Hpay with ⟨H0, H1, H2⟩
  iapply Hk
  isplitl [H0]; · iexact H0
  isplitl [H1]; · iexact H1
  isplitl [H2]; · iexact H2
  isplitl [Hz]; · unfold zc; iexact Hz
  iexists _; iexact HO

/-! ## The device's own copies -/

/-- The send semaphores come before those of the own copies; -/
theorem sN_lt : ∀ t, (sN t).val < 47 := by decide
/-- so do the receive semaphores. -/
theorem rN_lt : ∀ (c : Dev nD) t, (rN t c).val < 47 := by decide +kernel
/-- The semaphores of the device's own copies are no cells of the exchange: their level is the lowest. -/
theorem lv_own (c : Dev nD) (q : DmaSem sig) (hq : 47 ≤ q.val) : lv ((c : Thread nD τ), .dma q) () = 0 := by
  unfold lv
  rw [pick_none c q (fun t h => by have := sN_lt t; rw [h] at this; exact absurd this (by omega)) (fun t h => by have := rN_lt c t; rw [h] at this; exact absurd this (by omega))]

/-- The wait for a copy of the device's own. -/
theorem wait_own {c : Dev nD} {q : DmaSem sig} (hq : 47 ≤ q.val) {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    {N : ℕ} (hN : dstw.view.dmaCredit = N) (a : ℕ) {D : sProp 𝕄}
    {α : Type} {Q : α → sProp 𝕄} {k : PUnit → Prog (TpuEff nD τ sig (Elt F) Λ₀ .tc) α} :
    iprop(levAts L lv)
      ⊢ iprop(Flight EC (c : Thread nD τ) (.dma q) () N D -∗ ow c (rem c a)
        -∗ ((D ∗ semVal ((c : Thread nD τ), .dma q) 0 ∗ ow c (rem c a)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  unfold ow
  iintro #Hlev Hf ⟨%W, HO⟩ Hk
  iapply (wp_waitLocalO EC 𝒱₀ (c : Thread nD τ) none () hN (W := W)) $$ [Hf HO]
  · isplitl [Hf]; · iexact Hf
    isplitl [HO]; · iexact HO
    iapply (mayWait c (.dma q) (rem c a) 0 (le_of_eq (lv_own c q hq)) (rem_above c a 0 (fun t ht => (by decide : ∀ t, 0 < lvT t) t))); iexact Hlev
  iintro ⟨HD, Hz, HO⟩
  iapply Hk
  isplitl [HD]; · iexact HD
  isplitl [Hz]; · iexact Hz
  iexists _; iexact HO

end Cert.K

end
-- ==== Proof.Ring.lean ====
/- The device's own copies: the ring of staged blocks on its way to the result, the ring of blocks read back, and the
   loads of the gathered slots. -/
module

public import proofs.«01_k».proof.Proof.Rules

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A device's program `p` runs safely to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## The semaphores of the rings -/

/-- The semaphores of the staging ring's slots; -/
def soF : Fin 4 → DmaSem sig := ![(53 : Fin 57), (54 : Fin 57), (55 : Fin 57), (56 : Fin 57)]
/-- of the other ring's. -/
def piF : Fin 4 → DmaSem sig := ![(49 : Fin 57), (50 : Fin 57), (51 : Fin 57), (52 : Fin 57)]
/-- The slot of block `i`; -/
abbrev sl (i : ℕ) : Fin 4 := ⟨i % 4, Nat.mod_lt _ (by decide)⟩
/-- the semaphore of its copy out, of its copy back in. -/
abbrev soS (i : ℕ) : DmaSem sig := soF (sl i)
/-- The semaphore of its copy back in. -/
abbrev piS (i : ℕ) : DmaSem sig := piF (sl i)
/-- The rings' semaphores are no cells of the exchange: -/
theorem soF_ge : ∀ s, 47 ≤ (soF s).val := by decide
/-- neither ring's. -/
theorem piF_ge : ∀ s, 47 ≤ (piF s).val := by decide

/-- The semaphore of a slot of the staging ring, as the program names it; -/
theorem so_at (s : Fin 4) {off : Fin 1 → ℕ} (h : off = ![s.val]) (inb) :
    (((cc0_scratch13 : DmaSems sig S4).slice (Rect.unit (s := S4) off S1.size inb)).squeeze S_ squeezes_S1_S_).sem = soF s := by
  subst h; revert inb; revert s; decide +kernel
/-- of the other ring. -/
theorem pi_at (s : Fin 4) {off : Fin 1 → ℕ} (h : off = ![s.val]) (inb) :
    (((cc0_scratch12 : DmaSems sig S4).slice (Rect.unit (s := S4) off S1.size inb)).squeeze S_ squeezes_S1_S_).sem = piF s := by
  subst h; revert inb; revert s; decide +kernel

/-! ## What the rings hold -/

variable (B : ℕ → S1x1024x256.Idx → Elt F .f32)

/-- Block `i` of the result at the assembled array; -/
def home (c : Dev nD) (i : ℕ) : sProp 𝕄 := (c : Thread nD τ).loc main_v1 ↦[oS i]{fullShare} asm B
/-- holding anything. -/
def anyO (c : Dev nD) (i : ℕ) : sProp 𝕄 := iprop(∃ f : Buf (Elt F) ((c : Thread nD τ).loc main_v1), (c : Thread nD τ).loc main_v1 ↦[oS i]{fullShare} f)
/-- A slot of the staging ring holding a block; anything. -/
def stV (c : Dev nD) (i : ℕ) (v : S1x1024x256.Idx → Elt F .f32) : sProp 𝕄 := (c : Thread nD τ).loc cc0_scratch11 ↦[gS (i % 4)]{fullShare} rep v
/-- A slot of the staging ring holding anything. -/
def stE (c : Dev nD) (i : ℕ) : sProp 𝕄 := iprop(∃ f : Buf (Elt F) ((c : Thread nD τ).loc cc0_scratch11), (c : Thread nD τ).loc cc0_scratch11 ↦[gS (i % 4)]{fullShare} f)
/-- A slot of the ring of blocks read back holding a block; anything. -/
def piV (c : Dev nD) (i : ℕ) (v : S1x1024x256.Idx → Elt F .f32) : sProp 𝕄 := (c : Thread nD τ).loc cc0_scratch10 ↦[gS (i % 4)]{fullShare} rep v
/-- A slot of the other ring holding anything. -/
def piE (c : Dev nD) (i : ℕ) : sProp 𝕄 := iprop(∃ f : Buf (Elt F) ((c : Thread nD τ).loc cc0_scratch10), (c : Thread nD τ).loc cc0_scratch10 ↦[gS (i % 4)]{fullShare} f)
/-- The semaphore of a block's copy out, at zero; -/
def soZ (c : Dev nD) (i : ℕ) : sProp 𝕄 := semVal ((c : Thread nD τ), SemLoc.dma (soS i)) 0
/-- of its copy back in. -/
def piZ (c : Dev nD) (i : ℕ) : sProp 𝕄 := semVal ((c : Thread nD τ), SemLoc.dma (piS i)) 0
/-- The slot block `i` uses, idle. -/
def freeG (c : Dev nD) (i : ℕ) : sProp 𝕄 := iprop(stE c i ∗ soZ c i)
/-- The slot block `i` is read back into, idle. -/
def freeP (c : Dev nD) (i : ℕ) : sProp 𝕄 := iprop(piE c i ∗ piZ c i)

/-- What a copy out completes with; -/
abbrev NO : ℕ := Ref.dmaCredit main_v1 S1024x256 .f32
/-- what a copy back in does. -/
abbrev NP : ℕ := Ref.dmaCredit cc0_scratch10 S1024x256 .f32
/-- Block `i` on its way out; -/
def flO (c : Dev nD) (i : ℕ) : sProp 𝕄 := Flight EC (c : Thread nD τ) (.dma (soS i)) () NO iprop(home B c i ∗ stE c i)
/-- on its way back in. -/
def flP (c : Dev nD) (i : ℕ) : sProp 𝕄 := Flight EC (c : Thread nD τ) (.dma (piS i)) () NP iprop(piV c i (B i) ∗ home B c i)

/-- Blocks four apart use one slot of the staging ring, -/
theorem freeG_add (c : Dev nD) (i : ℕ) : freeG (F := F) c (i + 4) = freeG c i := by
  have h : sl (i + 4) = sl i := Fin.ext (Nat.add_mod_right i 4)
  unfold freeG stE soZ soS; rw [h, Nat.add_mod_right]
/-- and of the other. -/
theorem freeP_add (c : Dev nD) (i : ℕ) : freeP (F := F) c (i + 4) = freeP c i := by
  have h : sl (i + 4) = sl i := Fin.ext (Nat.add_mod_right i 4)
  unfold freeP piE piZ piS; rw [h, Nat.add_mod_right]

/-- A copy out completes with something, -/
theorem NO_pos : 0 < NO := sig.dmaCredit_pos _ _ _ _ _ (by decide)
/-- and so does a copy back in. -/
theorem NP_pos : 0 < NP := sig.dmaCredit_pos _ _ _ _ _ (by decide)

/-! ## The rules -/

/-- The copy of a staged block to its place in the result is issued. -/
theorem issue_out {c : Dev nD} (i : ℕ) {o1 : Fin 3 → ℕ} (h1 : o1 = ![i % 4, 0, 0]) {o2 : Fin 2 → ℕ} (h2 : o2 = ![1024 * (i % 4), 256 * (i / 4)])
    {q : DmaSem sig} (hq : q = soS i) {inb1 : ∀ a, o1 a + S1x1024x256.size a ≤ S4x1024x256.size a} {inb2 : ∀ a, o2 a + S1024x256.size a ≤ S4096x8192.size a}
    {hs1 : ∀ a, (Rect.unit (s := S4x1024x256) o1 S1x1024x256.size inb1).stride a = 1} {hs2 : ∀ a, (Rect.unit (s := S4096x8192) o2 S1024x256.size inb2).stride a = 1}
    {hz : (Rect.unit (s := S4x1024x256) o1 S1x1024x256.size inb1).shape.Squeezes S1024x256}
    {hsrc : ((gM.slice (Rect.unit (s := S4x1024x256) o1 S1x1024x256.size inb1) hs1).squeeze S1024x256 hz).view.WordExact}
    {hdst : (oM.slice (Rect.unit (s := S4096x8192) o2 S1024x256.size inb2) hs2 : Memref sig .tc .hbm S1024x256 .f32).view.WordExact}
    {hsem : DmaTarget.Typed (nD := nD) (τ := τ) .vmem (.dma q) (.here (p := (.tc : Proc τ)) (oM.slice (Rect.unit (s := S4096x8192) o2 S1024x256.size inb2) hs2 : Memref sig .tc .hbm S1024x256 .f32))}
    {α : Type} {Q : α → sProp 𝕄} {k : PUnit → Prog (TpuEff nD τ sig (Elt F) Λ₀ .tc) α} :
    stV c i (B i) ⊢ iprop(soZ c i -∗ anyO c i -∗ (flO B c i -∗ WP c (k ⟨⟩) Q)
      -∗ WP c (.op (.enqueueDma ((gM.slice (Rect.unit (s := S4x1024x256) o1 S1x1024x256.size inb1) hs1).squeeze S1024x256 hz)
          (.here (p := (.tc : Proc τ)) (oM.slice (Rect.unit (s := S4096x8192) o2 S1024x256.size inb2) hs2 : Memref sig .tc .hbm S1024x256 .f32)) (.dma q) hsrc hdst hsem) k) Q) := by
  subst h1 h2 hq
  have e1 : ((gM.slice (Rect.unit (s := S4x1024x256) ![i % 4, 0, 0] S1x1024x256.size inb1) hs1).squeeze S1024x256 hz).view.set = gS (i % 4) :=
    (set_win cc0_scratch11 _ hs1 _ hz).trans (rect_g (i % 4) inb1)
  have e2 : (oM.slice (Rect.unit (s := S4096x8192) ![1024 * (i % 4), 256 * (i / 4)] S1024x256.size inb2) hs2 : Memref sig .tc .hbm S1024x256 .f32).view.set = oS i :=
    (set_sl main_v1 _ hs2).trans (rect_o i inb2)
  unfold stV soZ anyO flO
  iintro Hs Hz ⟨%f, Ho⟩ Hk
  iapply (wp_dmaLocal EC 𝒱₀ (c : Thread nD τ) none (dst := (oM.slice (Rect.unit (s := S4096x8192) ![1024 * (i % 4), 256 * (i / 4)] S1024x256.size inb2) hs2 : Memref sig .tc .hbm S1024x256 .f32))
      (src := (gM.slice (Rect.unit (s := S4x1024x256) ![i % 4, 0, 0] S1x1024x256.size inb1) hs1).squeeze S1024x256 hz) (fs := rep (B i)) (fd := f) (q := fullShare) (Sd := oS i) () NO rfl NO_pos (subset_of_eq e2)) $$ [Hs Hz Ho]
  · isplitl [Hs]; · rw [e1]; iexact Hs
    isplitl [Ho]; · iexact Ho
    iexact Hz
  iintro Hf
  iapply Hk
  iapply (Flight_mono EC (c : Thread nD τ) (D' := iprop(home B c i ∗ stE c i)) ?_) $$ Hf
  iintro ⟨Ho, Hs⟩
  unfold home stE
  isplitl [Ho]
  · iapply (Entails.of_eq (pointsTo_congr (copy_out i (sl i) B f inb1 hs1 hz inb2 hs2))); iexact Ho
  iexists (rep (B i)); rw [e1]; iexact Hs

/-- A block's copy out has landed. -/
theorem wait_out {c : Dev nD} (i : ℕ) {q : DmaSem sig} (hq : q = soS i) {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hN : dstw.view.dmaCredit = NO) (a : ℕ)
    {α : Type} {Q : α → sProp 𝕄} {k : PUnit → Prog (TpuEff nD τ sig (Elt F) Λ₀ .tc) α} :
    iprop(levAts L lv) ⊢ iprop(flO B c i -∗ ow c (rem c a) -∗ ((home B c i ∗ freeG c i ∗ ow c (rem c a)) -∗ WP c (k ⟨⟩) Q)
      -∗ WP c (.op (.waitDma2 q srcw dstw hsrc hdst) k) Q) := by
  subst hq
  unfold flO
  iintro HL Hf HO Hk
  iapply (wait_own (soF_ge (sl i)) hN a) $$ HL Hf HO
  iintro ⟨⟨Hh, Hs⟩, Hz, HO⟩
  iapply Hk
  unfold freeG soZ
  isplitl [Hh]; · iexact Hh
  isplitl [Hs Hz]
  · isplitl [Hs]; · iexact Hs
    iexact Hz
  iexact HO

/-- The copy of block `i` of the result back into its slot is issued. -/
theorem issue_pin {c : Dev nD} (i : ℕ) {o1 : Fin 3 → ℕ} (h1 : o1 = ![i % 4, 0, 0]) {o2 : Fin 2 → ℕ} (h2 : o2 = ![1024 * (i % 4), 256 * (i / 4)])
    {q : DmaSem sig} (hq : q = piS i) {inb1 : ∀ a, o1 a + S1x1024x256.size a ≤ S4x1024x256.size a} {inb2 : ∀ a, o2 a + S1024x256.size a ≤ S4096x8192.size a}
    {hs1 : ∀ a, (Rect.unit (s := S4x1024x256) o1 S1x1024x256.size inb1).stride a = 1} {hs2 : ∀ a, (Rect.unit (s := S4096x8192) o2 S1024x256.size inb2).stride a = 1}
    {hz : (Rect.unit (s := S4x1024x256) o1 S1x1024x256.size inb1).shape.Squeezes S1024x256}
    {hsrc : (oM.slice (Rect.unit (s := S4096x8192) o2 S1024x256.size inb2) hs2 : Memref sig .tc .hbm S1024x256 .f32).view.WordExact}
    {hdst : ((pM.slice (Rect.unit (s := S4x1024x256) o1 S1x1024x256.size inb1) hs1).squeeze S1024x256 hz).view.WordExact}
    {hsem : DmaTarget.Typed (nD := nD) (τ := τ) .hbm (.dma q) (.here (p := (.tc : Proc τ)) ((pM.slice (Rect.unit (s := S4x1024x256) o1 S1x1024x256.size inb1) hs1).squeeze S1024x256 hz))}
    {α : Type} {Q : α → sProp 𝕄} {k : PUnit → Prog (TpuEff nD τ sig (Elt F) Λ₀ .tc) α} :
    home B c i ⊢ iprop(freeP c i -∗ (flP B c i -∗ WP c (k ⟨⟩) Q)
      -∗ WP c (.op (.enqueueDma (oM.slice (Rect.unit (s := S4096x8192) o2 S1024x256.size inb2) hs2 : Memref sig .tc .hbm S1024x256 .f32)
          (.here (p := (.tc : Proc τ)) ((pM.slice (Rect.unit (s := S4x1024x256) o1 S1x1024x256.size inb1) hs1).squeeze S1024x256 hz)) (.dma q) hsrc hdst hsem) k) Q) := by
  subst h1 h2 hq
  have e1 : ((pM.slice (Rect.unit (s := S4x1024x256) ![i % 4, 0, 0] S1x1024x256.size inb1) hs1).squeeze S1024x256 hz).view.set = gS (i % 4) :=
    (set_win cc0_scratch10 _ hs1 _ hz).trans (rect_g (i % 4) inb1)
  have e2 : (oM.slice (Rect.unit (s := S4096x8192) ![1024 * (i % 4), 256 * (i / 4)] S1024x256.size inb2) hs2 : Memref sig .tc .hbm S1024x256 .f32).view.set = oS i :=
    (set_sl main_v1 _ hs2).trans (rect_o i inb2)
  unfold freeP piE piZ home flP
  iintro Ho ⟨⟨%f, Hs⟩, Hz⟩ Hk
  iapply (wp_dmaLocal EC 𝒱₀ (c : Thread nD τ) none (src := (oM.slice (Rect.unit (s := S4096x8192) ![1024 * (i % 4), 256 * (i / 4)] S1024x256.size inb2) hs2 : Memref sig .tc .hbm S1024x256 .f32))
      (dst := (pM.slice (Rect.unit (s := S4x1024x256) ![i % 4, 0, 0] S1x1024x256.size inb1) hs1).squeeze S1024x256 hz) (fs := asm B) (fd := f) (q := fullShare) (Sd := gS (i % 4)) () NP rfl NP_pos (subset_of_eq e1)) $$ [Hs Hz Ho]
  · isplitl [Ho]; · rw [e2]; iexact Ho
    isplitl [Hs]; · iexact Hs
    iexact Hz
  iintro Hf
  iapply Hk
  iapply (Flight_mono EC (c : Thread nD τ) (D' := iprop(piV c i (B i) ∗ home B c i)) ?_) $$ Hf
  iintro ⟨Hs, Ho⟩
  unfold home piV
  isplitl [Hs]
  · iapply (Entails.of_eq (pointsTo_congr (copy_pin i (sl i) B f inb1 hs1 hz inb2 hs2))); iexact Hs
  rw [e2]; iexact Ho

/-- A block read back has landed. -/
theorem wait_pin {c : Dev nD} (i : ℕ) {q : DmaSem sig} (hq : q = piS i) {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hN : dstw.view.dmaCredit = NP) (a : ℕ)
    {α : Type} {Q : α → sProp 𝕄} {k : PUnit → Prog (TpuEff nD τ sig (Elt F) Λ₀ .tc) α} :
    iprop(levAts L lv) ⊢ iprop(flP B c i -∗ ow c (rem c a) -∗ ((piV c i (B i) ∗ home B c i ∗ piZ c i ∗ ow c (rem c a)) -∗ WP c (k ⟨⟩) Q)
      -∗ WP c (.op (.waitDma2 q srcw dstw hsrc hdst) k) Q) := by
  subst hq
  unfold flP
  iintro HL Hf HO Hk
  iapply (wait_own (piF_ge (sl i)) hN a) $$ HL Hf HO
  iintro ⟨⟨Hs, Hh⟩, Hz, HO⟩
  iapply Hk
  unfold piZ
  isplitl [Hs]; · iexact Hs
  isplitl [Hh]; · iexact Hh
  isplitl [Hz]; · iexact Hz
  iexact HO

/-- A chunk: slot `xr k c` of both gathered arrays on device `c`, complete. -/
def chunk (c : Dev nD) (q : PosShare TreeShare) (k : Fin 8) : sProp 𝕄 := iprop(xR m c (xr k c) 0 4096 q ∗ wR m c (xr k c) 0 512 q)

/-- The row block of block `i`; -/
abbrev rI (i : ℕ) : Fin 4 := ⟨i % 4, Nat.mod_lt _ (by decide)⟩
/-- its column block. -/
abbrev qI (i : ℕ) : Fin 32 := ⟨i / 4 % 32, Nat.mod_lt _ (by decide)⟩

/-- A rectangle of a whole buffer, as loads name it. -/
theorem on_whole (b : Ref sig .tc) (r : Rect b.ty.shape) : (View.whole b : View sig .tc _ _ _).setOn r.toLoadRect.set = r.set :=
  (View.set_slice (View.whole b) r).symm.trans (View.set_slice_whole b r)
/-- The row block loaded lies in its slot; -/
theorem sub_x (d : Dev nD) (r : Fin 4) (inb) :
    (xM : Memref sig .tc .vmem _ _).view.setOn (Rect.unit (s := S8x4096x512) ![d.val, 1024 * r.val, 0] S1x1024x512.size inb).toLoadRect.set ⊆ xS d 0 4096 := by
  have e : (xM : Memref sig .tc .vmem _ _).view.setOn (Rect.unit (s := S8x4096x512) ![d.val, 1024 * r.val, 0] S1x1024x512.size inb).toLoadRect.set
      = xS d (1024 * r.val) (1024 * r.val + 1024) :=
    (on_whole cc0_scratch0 (Rect.unit (s := S8x4096x512) ![d.val, 1024 * r.val, 0] S1x1024x512.size inb)).trans (rect_x d (1024 * r.val) 1024 inb)
  rw [e]; intro i hi; rw [mem_xS] at hi ⊢; omega

/-- so does the column block. -/
theorem sub_w (d : Dev nD) (q : Fin 32) (inb) :
    (wM : Memref sig .tc .vmem _ _).view.setOn (Rect.unit (s := S8x512x8192) ![d.val, 0, 256 * q.val] S1x512x256.size inb).toLoadRect.set ⊆ wS d 0 512 := by
  have e : (wM : Memref sig .tc .vmem _ _).view.setOn (Rect.unit (s := S8x512x8192) ![d.val, 0, 256 * q.val] S1x512x256.size inb).toLoadRect.set
      = (Rect.unit (s := S8x512x8192) ![d.val, 0, 256 * q.val] S1x512x256.size inb).set :=
    on_whole cc0_scratch1 (Rect.unit (s := S8x512x8192) ![d.val, 0, 256 * q.val] S1x512x256.size inb)
  rw [e]; intro i hi; rw [Rect.mem_set_unit, forall3] at hi; rw [mem_wS]
  simp only [Matrix.cons_val_zero, Matrix.cons_val_one, Matrix.cons_val] at hi
  omega

/-- The two loads of a chunk for block `i`: the row block of `x`, the column block of `w`. -/
theorem load_chunk {c : Dev nD} (k : Fin 8) (i : ℕ) (hi : i < 128) {q : PosShare TreeShare}
    {o1 o2 : Fin 3 → ℕ} (h1 : o1 = ![(xr k c).val, 1024 * (i % 4), 0]) (h2 : o2 = ![(xr k c).val, 0, 256 * (i / 4)])
    {inb1 : ∀ a, o1 a + S1x1024x512.size a ≤ S8x4096x512.size a} {inb2 : ∀ a, o2 a + S1x512x256.size a ≤ S8x512x8192.size a} {hl1} {hl2}
    {α : Type} {Q : α → sProp 𝕄} {K : Vec F S1x1024x512 .fp8e5m2 → Vec F S1x512x256 .fp8e5m2 → Prog (TpuEff nD τ sig (Elt F) Λ₀ .tc) α} :
    chunk m c q k ⊢ iprop((chunk m c q k -∗ WP c (K (xBlk m (xr k c) (rI i)) (wBlk m (xr k c) (qI i))) Q)
      -∗ WP c (.op (.load (xM : Memref sig .tc .vmem _ _) (Rect.unit (s := S8x4096x512) o1 S1x1024x512.size inb1).toLoadRect hl1)
            fun a => .op (.load (wM : Memref sig .tc .vmem _ _) (Rect.unit (s := S8x512x8192) o2 S1x512x256.size inb2).toLoadRect hl2) fun b => K a b) Q) := by
  have hq : i / 4 = (qI i).val := (Nat.mod_eq_of_lt (by omega)).symm
  rw [hq] at h2
  subst h1 h2
  unfold chunk xR wR
  iintro ⟨Hx, Hw⟩ Hk
  iapply (wp_load 𝒱₀ (c : Thread nD τ) none Set.univ (m := xM) (sub_x (xr k c) (rI i) inb1)) $$ Hx; iintro Hx
  iapply (wp_load 𝒱₀ (c : Thread nD τ) none Set.univ (m := wM) (sub_w (xr k c) (qI i) inb2)) $$ Hw; iintro Hw
  rw [load_x m (xr k c) (rI i) inb1, load_w m (xr k c) (qI i) inb2]
  iapply Hk
  isplitl [Hx]; · iexact Hx
  iexact Hw

/-- A block stored in its slot of the staging ring, over whatever it held. -/
theorem store_blk {c : Dev nD} (i : ℕ) (v : S1x1024x256.Idx → Elt F .f32) {o1 : Fin 3 → ℕ} (h1 : o1 = ![i % 4, 0, 0])
    {inb1 inb2 : ∀ a, o1 a + S1x1024x256.size a ≤ S4x1024x256.size a} {hl} {hx} {hm}
    {α : Type} {Q : α → sProp 𝕄} {K : PUnit → Prog (TpuEff nD τ sig (Elt F) Λ₀ .tc) α} :
    stE c i ⊢ iprop((stV c i v -∗ WP c (K ⟨⟩) Q)
      -∗ WP c (.op (.load (gM : Memref sig .tc .vmem _ _) (Rect.unit (s := S4x1024x256) o1 S1x1024x256.size inb1).toLoadRect hl)
            fun _ => .op (.store (gM : Memref sig .tc .vmem _ _) (Rect.unit (s := S4x1024x256) o1 S1x1024x256.size inb2) v Finset.univ hx hm) fun u => K u) Q) := by
  subst h1
  have e : (gM : Memref sig .tc .vmem _ _).view.setOn (Rect.unit (s := S4x1024x256) ![i % 4, 0, 0] S1x1024x256.size inb1).toLoadRect.set = gS (i % 4) :=
    (on_whole cc0_scratch11 (Rect.unit (s := S4x1024x256) ![i % 4, 0, 0] S1x1024x256.size inb1)).trans (rect_g (i % 4) inb1)
  unfold stE stV
  iintro ⟨%f, Hs⟩ Hk
  iapply (wp_load 𝒱₀ (c : Thread nD τ) none Set.univ (m := gM) (S := gS (i % 4)) (subset_of_eq e)) $$ Hs; iintro Hs
  iapply (wp_store 𝒱₀ (c : Thread nD τ) none Set.univ (m := gM) (r := Rect.unit (s := S4x1024x256) ![i % 4, 0, 0] S1x1024x256.size inb2) (Mk := Finset.univ)
    (S := gS (i % 4)) (subset_of_eq ((View.set_slice_whole cc0_scratch11 _).trans (rect_g (i % 4) inb2)))) $$ Hs; iintro Hs
  iapply Hk
  iapply (Entails.of_eq (pointsTo_congr (store_g (i % 4) v f inb2))); iexact Hs

/-- A block read back, loaded from its slot. -/
theorem load_pin {c : Dev nD} (i : ℕ) (v : S1x1024x256.Idx → Elt F .f32) {o1 : Fin 3 → ℕ} (h1 : o1 = ![i % 4, 0, 0])
    {inb1 : ∀ a, o1 a + S1x1024x256.size a ≤ S4x1024x256.size a} {hl}
    {α : Type} {Q : α → sProp 𝕄} {K : Vec F S1x1024x256 .f32 → Prog (TpuEff nD τ sig (Elt F) Λ₀ .tc) α} :
    piV c i v ⊢ iprop((piE c i -∗ WP c (K v) Q)
      -∗ WP c (.op (.load (pM : Memref sig .tc .vmem _ _) (Rect.unit (s := S4x1024x256) o1 S1x1024x256.size inb1).toLoadRect hl) K) Q) := by
  subst h1
  have e : (pM : Memref sig .tc .vmem _ _).view.setOn (Rect.unit (s := S4x1024x256) ![i % 4, 0, 0] S1x1024x256.size inb1).toLoadRect.set = gS (i % 4) :=
    (on_whole cc0_scratch10 (Rect.unit (s := S4x1024x256) ![i % 4, 0, 0] S1x1024x256.size inb1)).trans (rect_g (i % 4) inb1)
  unfold piE piV
  iintro Hs Hk
  iapply (wp_load 𝒱₀ (c : Thread nD τ) none Set.univ (m := pM) (S := gS (i % 4)) (subset_of_eq e)) $$ Hs; iintro Hs
  rw [load_p (i % 4) v inb1]
  iapply Hk
  iexists (rep v); iexact Hs

/-! ## The rings' state -/

/-- A range with its first number apart; -/
theorem ico_head {Φ : ℕ → sProp 𝕄} {a b : ℕ} (h : a < b) : bigSep (Finset.Ico a b) Φ = iprop(Φ a ∗ bigSep (Finset.Ico (a + 1) b) Φ) := by
  rw [show Finset.Ico a b = insert a (Finset.Ico (a + 1) b) by ext x; simp only [Finset.mem_insert, Finset.mem_Ico]; omega, bigSep_insert (by simp)]; rfl
/-- with its last apart; -/
theorem ico_snoc {Φ : ℕ → sProp 𝕄} {a b : ℕ} (h : a ≤ b) : bigSep (Finset.Ico a (b + 1)) Φ = iprop(Φ b ∗ bigSep (Finset.Ico a b) Φ) := by
  rw [show Finset.Ico a (b + 1) = insert b (Finset.Ico a b) by ext x; simp only [Finset.mem_insert, Finset.mem_Ico]; omega, bigSep_insert (by simp)]; rfl
/-- an empty range. -/
theorem ico_empty {Φ : ℕ → sProp 𝕄} {a b : ℕ} (h : b ≤ a) : bigSep (Finset.Ico a b) Φ = iprop(emp) := by
  rw [Finset.Ico_eq_empty (by omega)]; rfl

/-- The staging ring: the blocks below `w` have landed, those below `t` are on their way, and the slots of blocks `t` to
    `w + 4` are idle. -/
def RingS (c : Dev nD) (w t : ℕ) : sProp 𝕄 :=
  iprop(bigSep (Finset.Ico 0 w) (home B c) ∗ bigSep (Finset.Ico w t) (flO B c) ∗ bigSep (Finset.Ico t (w + 4)) (freeG c))

/-- The oldest block on its way is taken out, and put back as home with its slot idle. -/
theorem ringS_wait (c : Dev nD) (w t : ℕ) (h : w < t) (ht : t ≤ w + 4) :
    RingS B c w t ⊢ iprop(flO B c w ∗ ((home B c w ∗ freeG c w) -∗ RingS B c (w + 1) t)) := by
  unfold RingS
  rw [ico_head h, ico_snoc (Nat.zero_le w), show w + 1 + 4 = (w + 4) + 1 by omega, ico_snoc (Φ := freeG c) ht, freeG_add]
  iintro ⟨Hd, ⟨Hf, Hfs⟩, Hg⟩
  isplitl [Hf]; · iexact Hf
  iintro ⟨Hh, Hz⟩
  iframe
/-- The next block's idle slot is taken out, and put back as a block on its way. -/
theorem ringS_issue (c : Dev nD) (w t : ℕ) (h : w ≤ t) (ht : t < w + 4) :
    RingS B c w t ⊢ iprop(freeG c t ∗ (flO B c t -∗ RingS B c w (t + 1))) := by
  unfold RingS
  rw [ico_head (Φ := freeG c) ht, ico_snoc h]
  iintro ⟨Hd, Hf, ⟨Hg, Hgs⟩⟩
  isplitl [Hg]; · iexact Hg
  iintro H
  iframe

/-- The oldest block on its way has landed. -/
theorem step_wait {c : Dev nD} (w t : ℕ) (h : w < t) (ht : t ≤ w + 4) {q : DmaSem sig} (hq : q = soS w) {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hN : dstw.view.dmaCredit = NO) (a : ℕ)
    {α : Type} {Q : α → sProp 𝕄} {k : PUnit → Prog (TpuEff nD τ sig (Elt F) Λ₀ .tc) α} :
    iprop(levAts L lv) ⊢ iprop(RingS B c w t -∗ ow c (rem c a) -∗ ((RingS B c (w + 1) t ∗ ow c (rem c a)) -∗ WP c (k ⟨⟩) Q)
      -∗ WP c (.op (.waitDma2 q srcw dstw hsrc hdst) k) Q) := by
  iintro HL HR HO Hk
  ihave HR := (ringS_wait B c w t h ht) $$ HR
  icases HR with ⟨Hf, HR⟩
  iapply (wait_out B w hq hN a) $$ HL Hf HO
  iintro ⟨Hh, Hz, HO⟩
  iapply Hk
  isplitl [Hh Hz HR]
  · iapply HR
    isplitl [Hh]; · iexact Hh
    iexact Hz
  iexact HO

/-- A trip's wait, of all trips of a pass but the first four. -/
theorem opt_wait {c : Dev nD} (lo t : ℕ) {p : Prop} [Decidable p] (hp : p ↔ 4 ≤ t) {q : p → DmaSem sig} (hq : ∀ h, q h = soS (lo + t)) {sp sp' : Space} {s s' : Shape} {e e' : EltTy} {κ' : Kind}
    {srcw : p → Memref sig (c : Thread nD τ).2.kind sp' s' e'} {dstw : p → Memref sig κ' sp s e} {hsrc : ∀ h, (srcw h).view.WordExact} {hdst : ∀ h, (dstw h).view.WordExact}
    (hN : ∀ h, (dstw h).view.dmaCredit = NO) (a : ℕ)
    {α β : Type} {Q : α → sProp 𝕄} {K : PUnit → Prog (TpuEff nD τ sig (Elt F) Λ₀ .tc) β} {k : β → Prog (TpuEff nD τ sig (Elt F) Λ₀ .tc) α} :
    iprop(levAts L lv) ⊢ iprop(RingS B c (lo + (t - 4)) (lo + t) -∗ ow c (rem c a) -∗ ((RingS B c (lo + (t + 1 - 4)) (lo + t) ∗ ow c (rem c a)) -∗ WP c (K ⟨⟩ >>= k) Q)
      -∗ WP c ((dite p (fun h => Prog.op (.waitDma2 (q h) (srcw h) (dstw h) (hsrc h) (hdst h)) K) (fun _ => K ⟨⟩)) >>= k) Q) := by
  by_cases h : 4 ≤ t
  · rw [dif_pos (hp.mpr h), Prog.bind_op, show lo + (t + 1 - 4) = lo + (t - 4) + 1 by omega]
    have e : soS (lo + t) = soS (lo + (t - 4)) := congrArg soF (Fin.ext (by show (lo + t) % 4 = (lo + (t - 4)) % 4; omega))
    exact step_wait (k := fun x => K x >>= k) B (lo + (t - 4)) (lo + t) (by omega) (by omega) ((hq (hp.mpr h)).trans e) (hN (hp.mpr h)) a
  · rw [dif_neg (fun h' => h (hp.mp h')), show lo + (t + 1 - 4) = lo + (t - 4) by omega]
    iintro HL HR HO Hk
    iapply Hk
    iframe

/-- A program that has ended. -/
theorem fin_ret {c : Dev nD} {α : Type} {Q : α → sProp 𝕄} {a : α} : Q a ⊢ WP (F := F) c (.ret a) Q := by
  unfold WP
  rw [wp_ret]
  iintro H; imodintro; iexact H

/-- A computed block stored in its slot and sent on its way. -/
theorem step_issue {c : Dev nD} (w t : ℕ) (h : w ≤ t) (ht : t < w + 4) {v : S1x1024x256.Idx → Elt F .f32} (hv : v = B t) {o1 o3 : Fin 3 → ℕ} (h1 : o1 = ![t % 4, 0, 0]) (h3 : o3 = ![t % 4, 0, 0])
    {o2 : Fin 2 → ℕ} (h2 : o2 = ![1024 * (t % 4), 256 * (t / 4)]) {q : DmaSem sig} (hq : q = soS t)
    {inb inb' inb1 inb2 hl hx hm hs1 hs2} {hz : (Rect.unit (s := S4x1024x256) o3 S1x1024x256.size inb1).shape.Squeezes S1024x256} {hsrc} {hdst} {hsem}
    {α : Type} {Q : α → sProp 𝕄} {k : PUnit → Prog (TpuEff nD τ sig (Elt F) Λ₀ .tc) α} :
    RingS B c w t ⊢ iprop(anyO c t -∗ (RingS B c w (t + 1) -∗ WP c (k ⟨⟩) Q)
      -∗ WP c (.op (.load (gM : Memref sig .tc .vmem _ _) (Rect.unit (s := S4x1024x256) o1 S1x1024x256.size inb).toLoadRect hl)
            fun _ => .op (.store (gM : Memref sig .tc .vmem _ _) (Rect.unit (s := S4x1024x256) o1 S1x1024x256.size inb') v Finset.univ hx hm) fun _ =>
              .op (.enqueueDma ((gM.slice (Rect.unit (s := S4x1024x256) o3 S1x1024x256.size inb1) hs1).squeeze S1024x256 hz)
                (.here (p := (.tc : Proc τ)) (oM.slice (Rect.unit (s := S4096x8192) o2 S1024x256.size inb2) hs2 : Memref sig .tc .hbm S1024x256 .f32)) (.dma q) hsrc hdst hsem) k) Q) := by
  subst hv
  iintro HR Ho Hk
  ihave HR := (ringS_issue B c w t h ht) $$ HR
  icases HR with ⟨Hg, HR⟩
  ihave Hg := (Entails.of_eq (show freeG (F := F) c t = iprop(stE c t ∗ soZ c t) from rfl)) $$ Hg
  icases Hg with ⟨Hs, Hz⟩
  iapply (store_blk t (B t) h1) $$ Hs; iintro Hs
  iapply (issue_out B t h3 h2 hq) $$ Hs Hz Ho
  iintro Hf
  iapply Hk
  iapply HR $$ Hf

end Cert.K
end
-- ==== Proof.Near.lean ====
/- The first two passes: each block's product over the device's own chunk and its neighbours', staged and sent on its way. -/
module

public import proofs.«01_k».proof.Proof.Ring

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable {s2 s3 : Memref sig .tc .smem S1 .f32} {hs2 : s2.IsWhole} {hs3 : s3.IsWhole}

/-- Block `i` of the products over the device's own chunk and its three neighbours'. -/
def P1blk (c : Dev nD) (i : ℕ) : S1x1024x256.Idx → Elt F .f32 :=
  k0_pay3 (k0_pay1 (xBlk m (xr 0 c) (rI i)) (wBlk m (xr 0 c) (qI i))) (k0_pay2 (xBlk m (xr 1 c) (rI i)) (wBlk m (xr 1 c) (qI i)))
    (xBlk m (xr 3 c) (rI i)) (wBlk m (xr 3 c) (qI i)) (xBlk m (xr 4 c) (rI i)) (wBlk m (xr 4 c) (qI i))

/-- The chunks of the first two passes, at the shares held. -/
def near (c : Dev nD) (qs : Fin 8 → PosShare TreeShare) : sProp 𝕄 :=
  iprop(chunk m c (qs 0) 0 ∗ chunk m c (qs 1) 1 ∗ chunk m c (qs 3) 3 ∗ chunk m c (qs 4) 4)

set_option maxHeartbeats 1600000 in
/-- A trip of the first pass. -/
theorem trip1 {c : Dev nD} (t : Fin k0_t1_loop.trips) (qs : Fin 8 → PosShare TreeShare) {v2 v51 v60 v69 e1 e2 : BitVec 32} {Q : Unit → sProp 𝕄} :
    iprop(levAts L lv) ⊢ iprop(near m c qs -∗ RingS (P1blk m c) c (0 + (t.val - 4)) (0 + t.val) -∗ anyO c (0 + t.val) -∗ ow c (rem c 12)
      -∗ ((near m c qs ∗ RingS (P1blk m c) c (0 + (t.val + 1 - 4)) (0 + t.val + 1) ∗ ow c (rem c 12)) -∗ Q ())
      -∗ WP c (k0_t1_body (F := F) aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v2 v51 v60 v69 e1 e2 t ()) Q) := by
  have ht : t.val < 72 := trips1 ▸ t.isLt
  have hz : 0 + t.val = t.val := Nat.zero_add _
  unfold k0_t1_body
  simp only [k0_part1_eq_skeleton, k0_part2_eq_skeleton]
  unfold k0_part1_skel k0_part2_skel
  simp only [Prog.lift, Prog.bind_op, Prog.bind_ret, Prog.pure_eq_ret]
  unfold near
  iintro #HL ⟨H0, H1, H3, H4⟩ HR Ho HO Hk
  iapply (load_chunk m 0 t.val (by omega) (off13_eq c t) (off14_eq c t)) $$ H0; iintro H0
  iapply (load_chunk m 1 t.val (by omega) (off15_eq c t) (off16_eq c t)) $$ H1; iintro H1
  iapply (load_chunk m 3 t.val (by omega) (off17_eq c t) (off18_eq c t)) $$ H3; iintro H3
  iapply (load_chunk m 4 t.val (by omega) (off19_eq c t) (off20_eq c t)) $$ H4; iintro H4
  iapply (opt_wait (P1blk m c) 0 t.val (cond1_iff t) (fun h => so_at (sl (0 + t.val)) ((k0_off21_eq t).trans (by rw [hz])) _) (fun h => rfl) 12) $$ HL HR HO
  iintro ⟨HR, HO⟩
  simp only [Prog.bind_op, Prog.bind_ret]
  iapply (step_issue (P1blk m c) (0 + (t.val + 1 - 4)) (0 + t.val) (by omega) (by omega) (by rw [hz]; rfl) ((k0_off24_eq t).trans (by rw [hz])) ((k0_off27_eq t).trans (by rw [hz]))
    ((off26_eq t).trans (by rw [hz])) (so_at (sl (0 + t.val)) ((k0_off25_eq t).trans (by rw [hz])) _)) $$ HR Ho
  iintro HR
  iapply fin_ret
  iapply Hk
  iframe

set_option maxHeartbeats 1600000 in
/-- A trip of the second pass. -/
theorem trip2 {c : Dev nD} (t : Fin k0_t2_loop.trips) (qs : Fin 8 → PosShare TreeShare) {v2 v51 v60 v69 e1 : BitVec 32} {Q : Unit → sProp 𝕄} :
    iprop(levAts L lv) ⊢ iprop(near m c qs -∗ RingS (P1blk m c) c (72 + (t.val - 4)) (72 + t.val) -∗ anyO c (72 + t.val) -∗ ow c (rem c 17)
      -∗ ((near m c qs ∗ RingS (P1blk m c) c (72 + (t.val + 1 - 4)) (72 + t.val + 1) ∗ ow c (rem c 17)) -∗ Q ())
      -∗ WP c (k0_t2_body (F := F) aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v2 v51 v60 v69 e1 t ()) Q) := by
  have ht : t.val < 56 := trips2 ▸ t.isLt
  have hz : t.val + 72 = 72 + t.val := Nat.add_comm _ _
  unfold k0_t2_body
  simp only [k0_part3_eq_skeleton, k0_part4_eq_skeleton]
  unfold k0_part3_skel k0_part4_skel
  simp only [Prog.lift, Prog.bind_op, Prog.bind_ret, Prog.pure_eq_ret]
  unfold near
  iintro #HL ⟨H0, H1, H3, H4⟩ HR Ho HO Hk
  iapply (load_chunk m 0 (72 + t.val) (by omega) ((off43_eq c t).trans (by rw [hz])) ((off44_eq c t).trans (by rw [hz]))) $$ H0; iintro H0
  iapply (load_chunk m 1 (72 + t.val) (by omega) ((off45_eq c t).trans (by rw [hz])) ((off46_eq c t).trans (by rw [hz]))) $$ H1; iintro H1
  iapply (load_chunk m 3 (72 + t.val) (by omega) ((off47_eq c t).trans (by rw [hz])) ((off48_eq c t).trans (by rw [hz]))) $$ H3; iintro H3
  iapply (load_chunk m 4 (72 + t.val) (by omega) ((off49_eq c t).trans (by rw [hz])) ((off50_eq c t).trans (by rw [hz]))) $$ H4; iintro H4
  iapply (opt_wait (P1blk m c) 72 t.val (cond2_iff t) (fun h => so_at (sl (72 + t.val)) ((k0_off51_eq t).trans (by rw [hz])) _) (fun h => rfl) 17) $$ HL HR HO
  iintro ⟨HR, HO⟩
  simp only [Prog.bind_op, Prog.bind_ret]
  iapply (step_issue (P1blk m c) (72 + (t.val + 1 - 4)) (72 + t.val) (by omega) (by omega) (rfl) ((k0_off54_eq t).trans (by rw [hz])) ((k0_off57_eq t).trans (by rw [hz]))
    ((k0_off56_eq t).trans (by rw [hz])) (so_at (sl (72 + t.val)) ((k0_off55_eq t).trans (by rw [hz])) _)) $$ HR Ho
  iintro HR
  iapply fin_ret
  iapply Hk
  iframe

/-- A pass over the first two passes' chunks, from its trips. -/
theorem loopN {c : Dev nD} (lo n a : ℕ) (l : Scf.Loop 32) (hok : l.OK) (hl : l.trips = n) (qs : Fin 8 → PosShare TreeShare)
    (body : Fin l.trips → Unit → Prog (TpuEff nD τ sig (Elt F) Λ₀ .tc) Unit)
    (trip : ∀ (t : Fin l.trips) {Q : Unit → sProp 𝕄},
      iprop(levAts L lv) ⊢ iprop(near m c qs -∗ RingS (P1blk m c) c (lo + (t.val - 4)) (lo + t.val) -∗ anyO c (lo + t.val) -∗ ow c (rem c a)
      -∗ ((near m c qs ∗ RingS (P1blk m c) c (lo + (t.val + 1 - 4)) (lo + t.val + 1) ∗ ow c (rem c a)) -∗ Q ())
      -∗ WP c (body t ()) Q))
    {α : Type} {Q : α → sProp 𝕄} {kk : Unit → Prog (TpuEff nD τ sig (Elt F) Λ₀ .tc) α} :
    iprop(levAts L lv) ⊢ iprop(near m c qs -∗ RingS (P1blk m c) c lo lo -∗ bigSep (Finset.Ico lo (lo + n)) (anyO c) -∗ ow c (rem c a)
      -∗ ((near m c qs ∗ RingS (P1blk m c) c (lo + (n - 4)) (lo + n) ∗ ow c (rem c a)) -∗ WP c (kk ()) Q)
      -∗ WP c (Scf.Loop.for l hok () body >>= kk) Q) := by
  subst hl
  iintro #HL Hn HR Ho HO Hk
  iapply (Scf.wp_for_bind Idealize.ShloMosaic.frame (wpE defs₀ 𝒱₀ c none) Set.univ l.lb l.ub l.st hok () body
    (fun t _ => iprop(levAts L lv ∗ near m c qs ∗ RingS (P1blk m c) c (lo + (t - 4)) (lo + t) ∗ bigSep (Finset.Ico (lo + t) (lo + l.trips)) (anyO c) ∗ ow c (rem c a)))
    (fun t _ => by
      have ht : t.val < l.trips := t.isLt
      rw [ico_head (a := lo + t.val) (by omega)]
      iintro ⟨#HL, Hn, HR, ⟨Ho, Hos⟩, HO⟩
      iapply (trip t) $$ HL Hn HR Ho HO
      iintro ⟨Hn, HR, HO⟩
      iframe
      iexact HL)) $$ [Hn HR Ho HO]
  · iframe
    iexact HL
  iintro %_ ⟨-, Hn, HR, -, HO⟩
  iapply Hk
  iframe

/-- The first pass. -/
theorem loop1 {c : Dev nD} (qs : Fin 8 → PosShare TreeShare) {v2 v51 v60 v69 e1 e2 : BitVec 32}
    {α : Type} {Q : α → sProp 𝕄} {kk : Unit → Prog (TpuEff nD τ sig (Elt F) Λ₀ .tc) α} :
    iprop(levAts L lv) ⊢ iprop(near m c qs -∗ RingS (P1blk m c) c 0 0 -∗ bigSep (Finset.Ico 0 (0 + 72)) (anyO c) -∗ ow c (rem c 12)
      -∗ ((near m c qs ∗ RingS (P1blk m c) c (0 + (72 - 4)) (0 + 72) ∗ ow c (rem c 12)) -∗ WP c (kk ()) Q)
      -∗ WP c (Scf.Loop.for k0_t1_loop k0_t1_ok () (k0_t1_body (F := F) aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v2 v51 v60 v69 e1 e2) >>= kk) Q) :=
  loopN m 0 72 12 k0_t1_loop k0_t1_ok trips1 qs _ (fun t => trip1 m t qs)

/-- The second pass. -/
theorem loop2 {c : Dev nD} (qs : Fin 8 → PosShare TreeShare) {v2 v51 v60 v69 e1 : BitVec 32}
    {α : Type} {Q : α → sProp 𝕄} {kk : Unit → Prog (TpuEff nD τ sig (Elt F) Λ₀ .tc) α} :
    iprop(levAts L lv) ⊢ iprop(near m c qs -∗ RingS (P1blk m c) c 72 72 -∗ bigSep (Finset.Ico 72 (72 + 56)) (anyO c) -∗ ow c (rem c 17)
      -∗ ((near m c qs ∗ RingS (P1blk m c) c (72 + (56 - 4)) (72 + 56) ∗ ow c (rem c 17)) -∗ WP c (kk ()) Q)
      -∗ WP c (Scf.Loop.for k0_t2_loop k0_t2_ok () (k0_t2_body (F := F) aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v2 v51 v60 v69 e1) >>= kk) Q) :=
  loopN m 72 56 17 k0_t2_loop k0_t2_ok trips2 qs _ (fun t => trip2 m t qs)

end Cert.K
end
-- ==== Proof.Far.lean ====
/- The last pass: the blocks read back, the far chunks' products added, the scale and the maximum with zero applied. -/
module

public import proofs.«01_k».proof.Proof.Near

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable {s2 s3 : Memref sig .tc .smem S1 .f32} {hs2 : s2.IsWhole} {hs3 : s3.IsWhole}

/-- The one place of a scale's buffer. -/
abbrev rS : Rect S1 := Rect.unit (s := S1) ![0] S1.size inb_S1_S1_0
/-- A scale's buffer and the scale it holds. -/
def scl (c : Dev nD) (M : Memref sig .tc .smem S1 .f32) (f : Buf (Elt F) ((M.access rS).loc (c : Thread nD τ))) : sProp 𝕄 :=
  (M.access rS).loc (c : Thread nD τ) ↦[Finset.univ]{fullShare} f
/-- The scale a buffer holds. -/
def sval {c : Dev nD} (M : Memref sig .tc .smem S1 .f32) (f : Buf (Elt F) ((M.access rS).loc (c : Thread nD τ))) : Elt F .f32 :=
  (M.access rS).read (Elt F) f (Shape.Idx.first (numel1_S1.symm ▸ Nat.one_pos))

/-- The load of a scale. -/
theorem load_s {c : Dev nD} (M : Memref sig .tc .smem S1 .f32) (f : Buf (Elt F) ((M.access rS).loc (c : Thread nD τ))) {hl}
    {α : Type} {Q : α → sProp 𝕄} {K : (rS.shape.Idx → Elt F .f32) → Prog (TpuEff nD τ sig (Elt F) Λ₀ .tc) α} :
    scl c M f ⊢ iprop((scl c M f -∗ WP c (K ((M.access rS).read (Elt F) f)) Q) -∗ WP c (.op (.load M rS.toLoadRect hl) K) Q) :=
  wp_load_rect 𝒱₀ (c : Thread nD τ) none Set.univ (Finset.subset_univ _)

variable (B : ℕ → S1x1024x256.Idx → Elt F .f32)

/-- The ring of blocks read back: the blocks below `p` have been asked for, those from `t` on are not yet taken. -/
def RingP (c : Dev nD) (t p : ℕ) : sProp 𝕄 :=
  iprop(bigSep (Finset.Ico t p) (flP B c) ∗ bigSep (Finset.Ico p 128) (home B c) ∗ bigSep (Finset.Ico p (t + 4)) (freeP c))

/-- The oldest block asked for is taken out, and its slot put back idle. -/
theorem ringP_wait (c : Dev nD) (t p : ℕ) (h : t < p) (hp : p ≤ t + 4) :
    RingP B c t p ⊢ iprop(flP B c t ∗ (freeP c t -∗ RingP B c (t + 1) p)) := by
  unfold RingP
  rw [ico_head h, show t + 1 + 4 = (t + 4) + 1 by omega, ico_snoc (Φ := freeP c) hp, freeP_add]
  iintro ⟨⟨Hf, Hfs⟩, Hh, Hg⟩
  isplitl [Hf]; · iexact Hf
  iintro Hz
  iframe

/-- The next block and its idle slot are taken out, and the block put back as asked for. -/
theorem ringP_issue (c : Dev nD) (t p : ℕ) (h : t ≤ p) (hp : p < t + 4) (h8 : p < 128) :
    RingP B c t p ⊢ iprop(home B c p ∗ freeP c p ∗ (flP B c p -∗ RingP B c t (p + 1))) := by
  unfold RingP
  rw [ico_head h8, ico_head (Φ := freeP c) hp, ico_snoc h]
  iintro ⟨Hf, ⟨Hh, Hhs⟩, ⟨Hg, Hgs⟩⟩
  isplitl [Hh]; · iexact Hh
  isplitl [Hg]; · iexact Hg
  iintro H
  iframe

/-- A block at the assembled array is a block holding something. -/
theorem home_any (c : Dev nD) (i : ℕ) : home B c i ⊢ anyO c i := by
  unfold home anyO
  iintro H
  iexists _; iexact H

/-- Asking for a block. -/
theorem step_pin {c : Dev nD} (t p : ℕ) (h : t ≤ p) (hp : p < t + 4) (h8 : p < 128) {o1 : Fin 3 → ℕ} (h1 : o1 = ![p % 4, 0, 0]) {o2 : Fin 2 → ℕ} (h2 : o2 = ![1024 * (p % 4), 256 * (p / 4)])
    {q : DmaSem sig} (hq : q = piS p) {inb1 inb2 hs1 hs2} {hz : (Rect.unit (s := S4x1024x256) o1 S1x1024x256.size inb1).shape.Squeezes S1024x256} {hsrc} {hdst} {hsem}
    {α : Type} {Q : α → sProp 𝕄} {k : PUnit → Prog (TpuEff nD τ sig (Elt F) Λ₀ .tc) α} :
    RingP B c t p ⊢ iprop((RingP B c t (p + 1) -∗ WP c (k ⟨⟩) Q)
      -∗ WP c (.op (.enqueueDma (oM.slice (Rect.unit (s := S4096x8192) o2 S1024x256.size inb2) hs2 : Memref sig .tc .hbm S1024x256 .f32)
          (.here (p := (.tc : Proc τ)) ((pM.slice (Rect.unit (s := S4x1024x256) o1 S1x1024x256.size inb1) hs1).squeeze S1024x256 hz)) (.dma q) hsrc hdst hsem) k) Q) := by
  iintro HR Hk
  ihave HR := (ringP_issue B c t p h hp h8) $$ HR
  icases HR with ⟨Hh, Hg, HR⟩
  iapply (issue_pin B p h1 h2 hq) $$ Hh Hg
  iintro Hf
  iapply Hk
  iapply HR $$ Hf

/-- A trip's asking for a block, of all trips but the last four. -/
theorem opt_pin {c : Dev nD} (t : ℕ) (ht : t < 128) {P : Prop} [Decidable P] (hP : P ↔ t + 4 < 128) {o1 : P → Fin 3 → ℕ} (h1 : ∀ h, o1 h = ![(t + 4) % 4, 0, 0]) {o2 : P → Fin 2 → ℕ}
    (h2 : ∀ h, o2 h = ![1024 * ((t + 4) % 4), 256 * ((t + 4) / 4)]) {q : P → DmaSem sig} (hq : ∀ h, q h = piS (t + 4))
    {inb1 : ∀ h a, o1 h a + S1x1024x256.size a ≤ S4x1024x256.size a} {inb2 : ∀ h a, o2 h a + S1024x256.size a ≤ S4096x8192.size a} {hs1 : ∀ h a, _} {hs2 : ∀ h a, _}
    {hz : ∀ h, (Rect.unit (s := S4x1024x256) (o1 h) S1x1024x256.size (inb1 h)).shape.Squeezes S1024x256} {hsrc : ∀ h, _} {hdst : ∀ h, _} {hsem : ∀ h, _}
    {α β : Type} {Q : α → sProp 𝕄} {K : PUnit → Prog (TpuEff nD τ sig (Elt F) Λ₀ .tc) β} {k : β → Prog (TpuEff nD τ sig (Elt F) Λ₀ .tc) α} :
    RingP B c (t + 1) (min (t + 4) 128) ⊢ iprop((RingP B c (t + 1) (min (t + 1 + 4) 128) -∗ WP c (K ⟨⟩ >>= k) Q)
      -∗ WP c ((dite P (fun h => Prog.op (.enqueueDma (oM.slice (Rect.unit (s := S4096x8192) (o2 h) S1024x256.size (inb2 h)) (hs2 h) : Memref sig .tc .hbm S1024x256 .f32)
          (.here (p := (.tc : Proc τ)) ((pM.slice (Rect.unit (s := S4x1024x256) (o1 h) S1x1024x256.size (inb1 h)) (hs1 h)).squeeze S1024x256 (hz h))) (.dma (q h)) (hsrc h) (hdst h) (hsem h)) K) (fun _ => K ⟨⟩)) >>= k) Q) := by
  by_cases h : t + 4 < 128
  · rw [dif_pos (hP.mpr h), Prog.bind_op, show min (t + 4) 128 = t + 4 by omega, show min (t + 1 + 4) 128 = t + 4 + 1 by omega]
    exact step_pin (k := fun x => K x >>= k) B (t + 1) (t + 4) (by omega) (by omega) h (h1 (hP.mpr h)) (h2 (hP.mpr h)) (hq (hP.mpr h))
  · rw [dif_neg (fun h' => h (hP.mp h')), show min (t + 4) 128 = 128 by omega, show min (t + 1 + 4) 128 = 128 by omega]
    iintro HR Hk
    iapply Hk
    iexact HR

/-- Block `i` of the result: the far chunks' products added to the near ones', scaled, no less than zero. -/
def P2blk (c : Dev nD) (a b : Elt F .f32) (i : ℕ) : S1x1024x256.Idx → Elt F .f32 :=
  k0_pay10 (k0_pay9 (k0_pay7 (xBlk m (xr 2 c) (rI i)) (wBlk m (xr 2 c) (qI i))) (k0_pay8 (xBlk m (xr 5 c) (rI i)) (wBlk m (xr 5 c) (qI i)))
    (xBlk m (xr 7 c) (rI i)) (wBlk m (xr 7 c) (qI i)) (xBlk m (xr 6 c) (rI i)) (wBlk m (xr 6 c) (qI i))) (P1blk m c i) a b

/-- The chunks of the last pass. -/
def far (c : Dev nD) : sProp 𝕄 :=
  iprop(chunk m c fullShare 2 ∗ chunk m c fullShare 5 ∗ chunk m c fullShare 7 ∗ chunk m c fullShare 6)

set_option maxHeartbeats 1600000 in
/-- A trip of the last pass. -/
theorem trip3 {c : Dev nD} (t : Fin k0_t3_loop.trips) {v79 v89 v99 v110 : BitVec 32} {Q : Unit → sProp 𝕄}
    (f2 : Buf (Elt F) ((s2.access rS).loc (c : Thread nD τ))) (f3 : Buf (Elt F) ((s3.access rS).loc (c : Thread nD τ))) :
    iprop(levAts L lv) ⊢ iprop(far m c -∗ scl c s2 f2 -∗ scl c s3 f3 -∗ RingS (P2blk m c (sval s2 f2) (sval s3 f3)) c (0 + (t.val - 4)) (0 + t.val)
      -∗ RingP (P1blk m c) c t.val (min (t.val + 4) 128) -∗ ow c (rem c 17)
      -∗ ((far m c ∗ scl c s2 f2 ∗ scl c s3 f3 ∗ RingS (P2blk m c (sval s2 f2) (sval s3 f3)) c (0 + (t.val + 1 - 4)) (0 + t.val + 1)
        ∗ RingP (P1blk m c) c (t.val + 1) (min (t.val + 1 + 4) 128) ∗ ow c (rem c 17)) -∗ Q ())
      -∗ WP c (k0_t3_body (F := F) aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v79 v89 v99 v110 t ()) Q) := by
  have ht : t.val < 128 := trips3 ▸ t.isLt
  have hz : 0 + t.val = t.val := Nat.zero_add _
  have hz4 : (t.val + 4) % 4 = t.val % 4 := Nat.add_mod_right _ _
  unfold k0_t3_body
  simp only [k0_part5_eq_skeleton, k0_part6_eq_skeleton, k0_part7_eq_skeleton]
  unfold k0_part5_skel k0_part6_skel k0_part7_skel
  simp only [Prog.lift, smemLoad, smemLoadElt, Prog.bind_op, Prog.bind_ret, Prog.pure_eq_ret]
  unfold far
  iintro #HL ⟨H0, H1, H3, H4⟩ Hs2 Hs3 HR HP HO Hk
  iapply (load_chunk m 2 t.val (by omega) (off65_eq c t) (off66_eq c t)) $$ H0; iintro H0
  iapply (load_chunk m 5 t.val (by omega) (off67_eq c t) (off68_eq c t)) $$ H1; iintro H1
  iapply (load_chunk m 7 t.val (by omega) (off69_eq c t) (off70_eq c t)) $$ H3; iintro H3
  iapply (load_chunk m 6 t.val (by omega) (off71_eq c t) (off72_eq c t)) $$ H4; iintro H4
  ihave HP := (ringP_wait (P1blk m c) c t.val (min (t.val + 4) 128) (by omega) (by omega)) $$ HP
  icases HP with ⟨Hf, HP⟩
  iapply (wait_pin (P1blk m c) t.val (pi_at (sl t.val) (k0_off73_eq t) _) (by rfl) 17) $$ HL Hf HO
  iintro ⟨Hpv, Hh, Hz, HO⟩
  iapply (load_pin t.val (P1blk m c t.val) (k0_off76_eq t)) $$ Hpv; iintro Hpe
  ihave HP := HP $$ [Hpe Hz]
  · unfold freeP; iframe
  iapply (opt_pin (P1blk m c) t.val ht (cond3_iff t) (fun h => (k0_off78_eq t).trans (by rw [hz4])) (fun h => k0_off79_eq t)
    (fun h => pi_at (sl (t.val + 4)) ((k0_off77_eq t).trans (by show _ = ![(t.val + 4) % 4]; rw [hz4])) _)) $$ HP
  iintro HP
  simp only [Prog.bind_op, Prog.bind_ret]
  iapply (load_s s2 f2) $$ Hs2; iintro Hs2
  iapply (load_s s3 f3) $$ Hs3; iintro Hs3
  iapply (opt_wait (P2blk m c (sval s2 f2) (sval s3 f3)) 0 t.val (cond4_iff t) (fun h => so_at (sl (0 + t.val)) ((k0_off80_eq t).trans (by rw [hz])) _) (fun h => rfl) 17) $$ HL HR HO
  iintro ⟨HR, HO⟩
  simp only [Prog.bind_op, Prog.bind_ret]
  ihave Ho := (home_any (P1blk m c) c t.val) $$ Hh
  iapply (step_issue (P2blk m c (sval s2 f2) (sval s3 f3)) (0 + (t.val + 1 - 4)) (0 + t.val) (by omega) (by omega) (by rw [hz]; rfl) ((k0_off76_eq t).trans (by rw [hz])) ((k0_off74_eq t).trans (by rw [hz]))
    ((off75_eq t).trans (by rw [hz])) (so_at (sl (0 + t.val)) ((k0_off73_eq t).trans (by rw [hz])) _)) $$ HR [Ho]
  · rw [hz]; iexact Ho
  iintro HR
  iapply fin_ret
  iapply Hk
  iframe

/-- The last pass. -/
theorem loop3 {c : Dev nD} {v79 v89 v99 v110 : BitVec 32}
    (f2 : Buf (Elt F) ((s2.access rS).loc (c : Thread nD τ))) (f3 : Buf (Elt F) ((s3.access rS).loc (c : Thread nD τ)))
    {α : Type} {Q : α → sProp 𝕄} {kk : Unit → Prog (TpuEff nD τ sig (Elt F) Λ₀ .tc) α} :
    iprop(levAts L lv) ⊢ iprop(far m c -∗ scl c s2 f2 -∗ scl c s3 f3 -∗ RingS (P2blk m c (sval s2 f2) (sval s3 f3)) c 0 0
      -∗ RingP (P1blk m c) c 0 4 -∗ ow c (rem c 17)
      -∗ ((far m c ∗ scl c s2 f2 ∗ scl c s3 f3 ∗ RingS (P2blk m c (sval s2 f2) (sval s3 f3)) c 124 128
        ∗ RingP (P1blk m c) c 128 128 ∗ ow c (rem c 17)) -∗ WP c (kk ()) Q)
      -∗ WP c (Scf.Loop.for k0_t3_loop k0_t3_ok () (k0_t3_body (F := F) aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v79 v89 v99 v110) >>= kk) Q) := by
  iintro #HL Hf H2 H3 HR HP HO Hk
  ihave HP := (Entails.of_eq (show RingP (P1blk m c) c 0 4 = RingP (P1blk m c) c 0 (min (0 + 4) 128) from rfl)) $$ HP
  iapply (Scf.wp_for_bind Idealize.ShloMosaic.frame (wpE defs₀ 𝒱₀ c none) Set.univ k0_t3_loop.lb k0_t3_loop.ub k0_t3_loop.st k0_t3_ok () (k0_t3_body (F := F) aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v79 v89 v99 v110)
    (fun t _ => iprop(levAts L lv ∗ far m c ∗ scl c s2 f2 ∗ scl c s3 f3 ∗ RingS (P2blk m c (sval s2 f2) (sval s3 f3)) c (0 + (t - 4)) (0 + t)
      ∗ RingP (P1blk m c) c t (min (t + 4) 128) ∗ ow c (rem c 17)))
    (fun t _ => by
      iintro ⟨#HL, Hf, H2, H3, HR, HP, HO⟩
      iapply (trip3 m t f2 f3) $$ HL Hf H2 H3 HR HP HO
      iintro ⟨Hf, H2, H3, HR, HP, HO⟩
      iframe
      iexact HL)) $$ [Hf H2 H3 HR HP HO]
  · iframe
    iexact HL
  rw [show Scf.trips k0_t3_loop.lb k0_t3_loop.ub k0_t3_loop.st = 128 from trips3]
  iintro %_ ⟨-, Hf, H2, H3, HR, HP, HO⟩
  ihave HP := (Entails.of_eq (show RingP (P1blk m c) c 128 (min (128 + 4) 128) = RingP (P1blk m c) c 128 128 from rfl)) $$ HP
  iapply Hk
  iframe

end Cert.K
end
-- ==== Proof.Lend.lean ====
/- How a device lends rows of its slots to the transfers, takes them back, and puts the slots together. -/
module

public import proofs.«01_k».proof.Proof.Far

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-- Rows of `x` at a share are the same rows at its two halves; -/
theorem x_share (c d : Dev nD) (lo hi : ℕ) (q : PosShare TreeShare) : xR m c d lo hi q ⊣⊢ iprop(xR m c d lo hi q.left ∗ xR m c d lo hi q.right) :=
  pointsTo_share (PosShare.mem_left_op_right q)
/-- so are rows of `w`. -/
theorem w_share (c d : Dev nD) (lo hi : ℕ) (q : PosShare TreeShare) : wR m c d lo hi q ⊣⊢ iprop(wR m c d lo hi q.left ∗ wR m c d lo hi q.right) :=
  pointsTo_share (PosShare.mem_left_op_right q)

/-- Rows `a` to `e` are rows `a` to `b` and `b` to `e`; -/
theorem xS_cut (d : Dev nD) {a b e : ℕ} (h : a ≤ b) (h' : b ≤ e) : xS d a e = xS d a b ∪ xS d b e := by
  ext i; simp only [Finset.mem_union, mem_xS]; omega
/-- in `w` too, -/
theorem wS_cut (d : Dev nD) {a b e : ℕ} (h : a ≤ b) (h' : b ≤ e) : wS d a e = wS d a b ∪ wS d b e := by
  ext i; simp only [Finset.mem_union, mem_wS]; omega
/-- which share no element, -/
theorem xS_disj (d : Dev nD) (a b e : ℕ) : Disjoint (xS d a b) (xS d b e) := by
  rw [Finset.disjoint_left]; intro i; simp only [mem_xS]; omega
/-- in `w` too. -/
theorem wS_disj (d : Dev nD) (a b e : ℕ) : Disjoint (wS d a b) (wS d b e) := by
  rw [Finset.disjoint_left]; intro i; simp only [mem_wS]; omega

/-- A slot's rows cut in two. -/
theorem x_rows (c d : Dev nD) (q : PosShare TreeShare) {a b e : ℕ} (h : a ≤ b) (h' : b ≤ e) : xR m c d a e q ⊣⊢ iprop(xR m c d a b q ∗ xR m c d b e q) := by
  unfold xR; rw [xS_cut d h h']; exact pointsTo_union (xS_disj d a b e)
/-- The same of `w`. -/
theorem w_rows (c d : Dev nD) (q : PosShare TreeShare) {a b e : ℕ} (h : a ≤ b) (h' : b ≤ e) : wR m c d a e q ⊣⊢ iprop(wR m c d a b q ∗ wR m c d b e q) := by
  unfold wR; rw [wS_cut d h h']; exact pointsTo_union (wS_disj d a b e)

/-- The own slot lent to the first round's transfers, in three shares; -/
theorem lend1 (c : Dev nD) : chunk m c fullShare 0 ⊢ bl [0, 1, 2, 3, 4, 5] (sndP m c) := by
  unfold chunk
  simp only [bl, sndP, isX, sT, loT, hiT, qT, Matrix.cons_val, ↓reduceIte, Bool.false_eq_true]
  iintro ⟨HX, HW⟩
  ihave HX := (x_share m c (xr 0 c) 0 4096 fullShare).1 $$ HX
  icases HX with ⟨X1, HX⟩
  ihave HX := (x_share m c (xr 0 c) 0 4096 fullShare.right).1 $$ HX
  icases HX with ⟨X2, X3⟩
  ihave HW := (w_share m c (xr 0 c) 0 512 fullShare).1 $$ HW
  icases HW with ⟨W1, HW⟩
  ihave HW := (w_share m c (xr 0 c) 0 512 fullShare.right).1 $$ HW
  icases HW with ⟨W2, W3⟩
  iframe
/-- taken back. -/
theorem back1 (c : Dev nD) : bl [0, 1, 2, 3, 4, 5] (sndP m c) ⊢ chunk m c fullShare 0 := by
  unfold chunk
  simp only [bl, sndP, isX, sT, loT, hiT, qT, Matrix.cons_val, ↓reduceIte, Bool.false_eq_true]
  iintro ⟨X1, W1, X2, W2, X3, W3, -⟩
  isplitl [X1 X2 X3]
  · iapply (x_share m c (xr 0 c) 0 4096 fullShare).2
    isplitl [X1]; · iexact X1
    iapply (x_share m c (xr 0 c) 0 4096 fullShare.right).2
    iframe
  · iapply (w_share m c (xr 0 c) 0 512 fullShare).2
    isplitl [W1]; · iexact W1
    iapply (w_share m c (xr 0 c) 0 512 fullShare.right).2
    iframe

/-- The shares of the near chunks held during the first pass; -/
def qs1 (k : Fin 8) : PosShare TreeShare := if k = 0 then fullShare else fullShare.right
/-- afterwards. -/
def qs2 (_ : Fin 8) : PosShare TreeShare := fullShare

/-- The second round's transfers carry half a share of what the first brought. -/
theorem lend2 (c : Dev nD) : bl [0, 1, 2, 3, 4, 5] (rcvP m c) ⊢ iprop((chunk m c fullShare 0 -∗ near m c qs1) ∗ bl [6, 7, 8, 9, 10, 11] (sndP m c)) := by
  unfold near chunk
  simp only [bl, sndP, rcvP, isX, sT, rT, loT, hiT, qT, qs1, Matrix.cons_val, ↓reduceIte, Bool.false_eq_true, show (1 : Fin 8) ≠ 0 by decide, show (3 : Fin 8) ≠ 0 by decide, show (4 : Fin 8) ≠ 0 by decide]
  iintro ⟨X1, W1, X3, W3, X4, W4, -⟩
  ihave X1 := (x_share m c (xr 1 c) 0 4096 fullShare).1 $$ X1
  icases X1 with ⟨X1, Y1⟩
  ihave X3 := (x_share m c (xr 3 c) 0 4096 fullShare).1 $$ X3
  icases X3 with ⟨X3, Y3⟩
  ihave X4 := (x_share m c (xr 4 c) 0 4096 fullShare).1 $$ X4
  icases X4 with ⟨X4, Y4⟩
  ihave W1 := (w_share m c (xr 1 c) 0 512 fullShare).1 $$ W1
  icases W1 with ⟨W1, V1⟩
  ihave W3 := (w_share m c (xr 3 c) 0 512 fullShare).1 $$ W3
  icases W3 with ⟨W3, V3⟩
  ihave W4 := (w_share m c (xr 4 c) 0 512 fullShare).1 $$ W4
  icases W4 with ⟨W4, V4⟩
  isplitl [Y1 V1 Y3 V3 Y4 V4]
  · iintro HC
    iframe
  iframe
/-- The shares of the second round's transfers taken back. -/
theorem back2 (c : Dev nD) : iprop(near m c qs1 ∗ bl [6, 7, 8, 9, 10, 11] (sndP m c)) ⊢ near m c qs2 := by
  unfold near chunk
  simp only [bl, sndP, rcvP, isX, sT, rT, loT, hiT, qT, qs1, qs2, Matrix.cons_val, ↓reduceIte, Bool.false_eq_true, show (1 : Fin 8) ≠ 0 by decide, show (3 : Fin 8) ≠ 0 by decide, show (4 : Fin 8) ≠ 0 by decide]
  iintro ⟨⟨HC, ⟨Y1, V1⟩, ⟨Y3, V3⟩, Y4, V4⟩, X3, W3, X4, W4, X1, W1, -⟩
  ihave X1 := (x_share m c (xr 1 c) 0 4096 fullShare).2 $$ [X1 Y1]
  · iframe
  ihave X3 := (x_share m c (xr 3 c) 0 4096 fullShare).2 $$ [X3 Y3]
  · iframe
  ihave X4 := (x_share m c (xr 4 c) 0 4096 fullShare).2 $$ [X4 Y4]
  · iframe
  ihave W1 := (w_share m c (xr 1 c) 0 512 fullShare).2 $$ [W1 V1]
  · iframe
  ihave W3 := (w_share m c (xr 3 c) 0 512 fullShare).2 $$ [W3 V3]
  · iframe
  ihave W4 := (w_share m c (xr 4 c) 0 512 fullShare).2 $$ [W4 V4]
  · iframe
  iframe

/-- What the third round does not carry of what the second brought. -/
def kept (c : Dev nD) : sProp 𝕄 :=
  iprop(xR m c (xr 2 c) 0 4096 fullShare ∗ wR m c (xr 2 c) 0 256 fullShare ∗ xR m c (xr 7 c) 2048 4096 fullShare ∗ wR m c (xr 7 c) 128 512 fullShare
    ∗ xR m c (xr 5 c) 0 2048 fullShare ∗ wR m c (xr 5 c) 0 128 fullShare ∗ wR m c (xr 5 c) 256 512 fullShare)

/-- What the second round brought is what is kept and what the third round's transfers carry; -/
theorem lend3 (c : Dev nD) : bl [6, 7, 8, 9, 10, 11] (rcvP m c) ⊢ iprop(kept m c ∗ bl [12, 13, 14, 15, 16] (sndP m c)) := by
  unfold kept
  simp only [bl, sndP, rcvP, isX, sT, rT, loT, hiT, qT, Matrix.cons_val, ↓reduceIte, Bool.false_eq_true]
  iintro ⟨X2, W2, X7, W7, X5, W5, -⟩
  ihave W2 := (w_rows m c (xr 2 c) fullShare (a := 0) (b := 256) (e := 512) (by omega) (by omega)).1 $$ W2
  icases W2 with ⟨W2, V2⟩
  ihave X7 := (x_rows m c (xr 7 c) fullShare (a := 0) (b := 2048) (e := 4096) (by omega) (by omega)).1 $$ X7
  icases X7 with ⟨X7, Y7⟩
  ihave W7 := (w_rows m c (xr 7 c) fullShare (a := 0) (b := 128) (e := 512) (by omega) (by omega)).1 $$ W7
  icases W7 with ⟨W7, V7⟩
  ihave X5 := (x_rows m c (xr 5 c) fullShare (a := 0) (b := 2048) (e := 4096) (by omega) (by omega)).1 $$ X5
  icases X5 with ⟨X5, Y5⟩
  ihave W5 := (w_rows m c (xr 5 c) fullShare (a := 0) (b := 128) (e := 512) (by omega) (by omega)).1 $$ W5
  icases W5 with ⟨W5, V5⟩
  ihave V5 := (w_rows m c (xr 5 c) fullShare (a := 128) (b := 256) (e := 512) (by omega) (by omega)).1 $$ V5
  icases V5 with ⟨V5, U5⟩
  iframe
/-- with those back and the opposite corner's five parts landed, the far chunks are complete. -/
theorem back3 (c : Dev nD) : iprop(kept m c ∗ bl [12, 13, 14, 15, 16] (sndP m c) ∗ bl [12, 13, 14, 15, 16] (rcvP m c)) ⊢ far m c := by
  unfold kept far chunk
  simp only [bl, sndP, rcvP, isX, sT, rT, loT, hiT, qT, Matrix.cons_val, ↓reduceIte, Bool.false_eq_true]
  iintro ⟨⟨X2, W2, Y7, V7, X5, W5, U5⟩, ⟨X7, W7, Y5, V5, V2, -⟩, X6, W6, Y6, V6, U6, -⟩
  ihave W2 := (w_rows m c (xr 2 c) fullShare (a := 0) (b := 256) (e := 512) (by omega) (by omega)).2 $$ [W2 V2]
  · iframe
  ihave X7 := (x_rows m c (xr 7 c) fullShare (a := 0) (b := 2048) (e := 4096) (by omega) (by omega)).2 $$ [X7 Y7]
  · iframe
  ihave W7 := (w_rows m c (xr 7 c) fullShare (a := 0) (b := 128) (e := 512) (by omega) (by omega)).2 $$ [W7 V7]
  · iframe
  ihave X5 := (x_rows m c (xr 5 c) fullShare (a := 0) (b := 2048) (e := 4096) (by omega) (by omega)).2 $$ [X5 Y5]
  · iframe
  ihave V5 := (w_rows m c (xr 5 c) fullShare (a := 128) (b := 256) (e := 512) (by omega) (by omega)).2 $$ [V5 U5]
  · iframe
  ihave W5 := (w_rows m c (xr 5 c) fullShare (a := 0) (b := 128) (e := 512) (by omega) (by omega)).2 $$ [W5 V5]
  · iframe
  ihave X6 := (x_rows m c (xr 6 c) fullShare (a := 0) (b := 2048) (e := 4096) (by omega) (by omega)).2 $$ [X6 Y6]
  · iframe
  ihave V6 := (w_rows m c (xr 6 c) fullShare (a := 128) (b := 256) (e := 512) (by omega) (by omega)).2 $$ [V6 U6]
  · iframe
  ihave W6 := (w_rows m c (xr 6 c) fullShare (a := 0) (b := 128) (e := 512) (by omega) (by omega)).2 $$ [W6 V6]
  · iframe
  iframe

/-! ## The whole buffers -/

/-- A sum over the slots, counted from the device's own. -/
theorem slots {Φ : Fin 8 → sProp 𝕄} (c : Dev nD) :
    bigSep Finset.univ Φ = iprop(Φ (xr 0 c) ∗ Φ (xr 1 c) ∗ Φ (xr 3 c) ∗ Φ (xr 4 c) ∗ Φ (xr 2 c) ∗ Φ (xr 5 c) ∗ Φ (xr 7 c) ∗ Φ (xr 6 c)) := by
  rw [bigSep_univ_equiv (xrEquiv c), bigSep_univ_eq_bigSepL [0, 1, 3, 4, 2, 5, 7, 6] (by decide) (by decide)]
  rfl

/-- The gathered `x` is its eight slots, -/
theorem x_all (c : Dev nD) (f : Buf (Elt F) ((c : Thread nD τ).loc cc0_scratch0)) :
    ((c : Thread nD τ).loc cc0_scratch0 ↦[Finset.univ]{fullShare} f : sProp 𝕄) = bigSep Finset.univ fun k : Fin 8 => ((c : Thread nD τ).loc cc0_scratch0 ↦[xS k 0 4096]{fullShare} f : sProp 𝕄) := by
  have h := pointsTo_biUnion (q := fullShare) (f := f) (Ix := Unit) (Name := ℕ) (U := UU) (Lvl := ℕ) Finset.univ (fun k : Fin 8 => xS k 0 4096) fun a _ b _ hab => by
    rw [Finset.disjoint_left]; intro i; simp only [mem_xS]
    exact fun h h' => hab (Fin.ext (h.1.symm.trans h'.1))
  rw [← h]
  refine congrArg (fun S => ((c : Thread nD τ).loc cc0_scratch0 ↦[S]{fullShare} f : sProp 𝕄)) (Finset.ext fun i => ?_)
  exact ⟨fun _ => Finset.mem_biUnion.mpr ⟨⟨(i 0).val, (i 0).isLt⟩, Finset.mem_univ _, mem_xS.mpr ⟨rfl, Nat.zero_le _, (i 1).isLt⟩⟩, fun _ => Finset.mem_univ _⟩
/-- and so is the gathered `w`. -/
theorem w_all (c : Dev nD) (f : Buf (Elt F) ((c : Thread nD τ).loc cc0_scratch1)) :
    ((c : Thread nD τ).loc cc0_scratch1 ↦[Finset.univ]{fullShare} f : sProp 𝕄) = bigSep Finset.univ fun k : Fin 8 => ((c : Thread nD τ).loc cc0_scratch1 ↦[wS k 0 512]{fullShare} f : sProp 𝕄) := by
  have h := pointsTo_biUnion (q := fullShare) (f := f) (Ix := Unit) (Name := ℕ) (U := UU) (Lvl := ℕ) Finset.univ (fun k : Fin 8 => wS k 0 512) fun a _ b _ hab => by
    rw [Finset.disjoint_left]; intro i; simp only [mem_wS]
    exact fun h h' => hab (Fin.ext (h.1.symm.trans h'.1))
  rw [← h]
  refine congrArg (fun S => ((c : Thread nD τ).loc cc0_scratch1 ↦[S]{fullShare} f : sProp 𝕄)) (Finset.ext fun i => ?_)
  exact ⟨fun _ => Finset.mem_biUnion.mpr ⟨⟨(i 0).val, (i 0).isLt⟩, Finset.mem_univ _, mem_wS.mpr ⟨rfl, Nat.zero_le _, (i 1).isLt⟩⟩, fun _ => Finset.mem_univ _⟩
/-- The slots of the two gathered arrays, full, are the arrays. -/
theorem slots_end (c : Dev nD) : iprop(near m c qs2 ∗ far m c)
    ⊢ iprop(((c : Thread nD τ).loc cc0_scratch0 ↦[Finset.univ]{fullShare} xFull m) ∗ ((c : Thread nD τ).loc cc0_scratch1 ↦[Finset.univ]{fullShare} wFull m) : sProp 𝕄) := by
  rw [x_all, w_all, slots c, slots c]
  unfold near far chunk xR wR qs2
  iintro ⟨⟨⟨X0, W0⟩, ⟨X1, W1⟩, ⟨X3, W3⟩, X4, W4⟩, ⟨X2, W2⟩, ⟨X5, W5⟩, ⟨X7, W7⟩, X6, W6⟩
  iframe

/-- Rows of `x` at some contents hold something; -/
theorem xE_of (c d : Dev nD) (lo hi : ℕ) (f : Buf (Elt F) ((c : Thread nD τ).loc cc0_scratch0)) : ((c : Thread nD τ).loc cc0_scratch0 ↦[xS d lo hi]{fullShare} f : sProp 𝕄) ⊢ xE c d lo hi := by
  unfold xE; iintro H; iexists f; iexact H
/-- rows of `w` too. -/
theorem wE_of (c d : Dev nD) (lo hi : ℕ) (f : Buf (Elt F) ((c : Thread nD τ).loc cc0_scratch1)) : ((c : Thread nD τ).loc cc0_scratch1 ↦[wS d lo hi]{fullShare} f : sProp 𝕄) ⊢ wE c d lo hi := by
  unfold wE; iintro H; iexists f; iexact H
/-- Rows that hold anything may be cut in two; -/
theorem xE_cut (c d : Dev nD) {a b e : ℕ} (h : a ≤ b) (h' : b ≤ e) : xE (F := F) c d a e ⊢ iprop(xE c d a b ∗ xE c d b e) := by
  unfold xE
  rw [xS_cut d h h']
  iintro ⟨%f, H⟩
  ihave H := (pointsTo_union (xS_disj d a b e)).1 $$ H
  icases H with ⟨H1, H2⟩
  isplitl [H1]
  · iexists f; iexact H1
  · iexists f; iexact H2
/-- in `w` too. -/
theorem wE_cut (c d : Dev nD) {a b e : ℕ} (h : a ≤ b) (h' : b ≤ e) : wE (F := F) c d a e ⊢ iprop(wE c d a b ∗ wE c d b e) := by
  unfold wE
  rw [wS_cut d h h']
  iintro ⟨%f, H⟩
  ihave H := (pointsTo_union (wS_disj d a b e)).1 $$ H
  icases H with ⟨H1, H2⟩
  isplitl [H1]
  · iexists f; iexact H1
  · iexists f; iexact H2

/-- The two arrays cut into the own slot and where the neighbours' transfers land. -/
theorem slots_start (c : Dev nD) (f : Buf (Elt F) ((c : Thread nD τ).loc cc0_scratch0)) (g : Buf (Elt F) ((c : Thread nD τ).loc cc0_scratch1)) :
    iprop(((c : Thread nD τ).loc cc0_scratch0 ↦[Finset.univ]{fullShare} f) ∗ ((c : Thread nD τ).loc cc0_scratch1 ↦[Finset.univ]{fullShare} g) : sProp 𝕄)
      ⊢ iprop(xE c (xr 0 c) 0 4096 ∗ wE c (xr 0 c) 0 512 ∗ bl (toN 0) (dstP c) ∗ bl (toN 1) (dstP c) ∗ bl (toN 2) (dstP c)) := by
  rw [x_all, w_all, slots c, slots c]
  simp only [bl, toN, dstP, isX, rT, loT, hiT, Matrix.cons_val, ↓reduceIte, Bool.false_eq_true]
  iintro ⟨⟨X0, X1, X3, X4, X2, X5, X7, X6⟩, W0, W1, W3, W4, W2, W5, W7, W6⟩
  ihave X6 := (xE_of c (xr 6 c) 0 4096 f) $$ X6
  ihave X6 := (xE_cut c (xr 6 c) (a := 0) (b := 2048) (e := 4096) (by omega) (by omega)) $$ X6
  icases X6 with ⟨X6, Y6⟩
  ihave W6 := (wE_of c (xr 6 c) 0 512 g) $$ W6
  ihave W6 := (wE_cut c (xr 6 c) (a := 0) (b := 128) (e := 512) (by omega) (by omega)) $$ W6
  icases W6 with ⟨W6, V6⟩
  ihave V6 := (wE_cut c (xr 6 c) (a := 128) (b := 256) (e := 512) (by omega) (by omega)) $$ V6
  icases V6 with ⟨V6, U6⟩
  ihave X0 := (xE_of c (xr 0 c) 0 4096 f) $$ X0
  ihave X1 := (xE_of c (xr 1 c) 0 4096 f) $$ X1
  ihave X2 := (xE_of c (xr 2 c) 0 4096 f) $$ X2
  ihave X3 := (xE_of c (xr 3 c) 0 4096 f) $$ X3
  ihave X4 := (xE_of c (xr 4 c) 0 4096 f) $$ X4
  ihave X5 := (xE_of c (xr 5 c) 0 4096 f) $$ X5
  ihave X7 := (xE_of c (xr 7 c) 0 4096 f) $$ X7
  ihave W0 := (wE_of c (xr 0 c) 0 512 g) $$ W0
  ihave W1 := (wE_of c (xr 1 c) 0 512 g) $$ W1
  ihave W2 := (wE_of c (xr 2 c) 0 512 g) $$ W2
  ihave W3 := (wE_of c (xr 3 c) 0 512 g) $$ W3
  ihave W4 := (wE_of c (xr 4 c) 0 512 g) $$ W4
  ihave W5 := (wE_of c (xr 5 c) 0 512 g) $$ W5
  ihave W7 := (wE_of c (xr 7 c) 0 512 g) $$ W7
  iframe

end Cert.K
end
-- ==== Proof.Parts.lean ====
/- The body of the kernel, a part at a time: the barrier, the copies in, the first round of the exchange. -/
module

public import proofs.«01_k».proof.Proof.Lend

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (K : Dev nD × CI → ℕ)

/-! ## The semaphores, by name -/

/-- The receive semaphore of slot `d` of `x`; -/
theorem rx_sem (d : Dev nD) {off : Fin 1 → ℕ} (h : off = ![d.val]) (inb) :
    ((cc0_scratch4.slice (Rect.unit (s := S8) off S1.size inb)).squeeze S_ squeezes_S1_S_).sem = (⟨16 + d.val, by have : d.val < 8 := d.isLt; omega⟩ : Fin 57) := by
  subst h; revert inb; revert d; decide +kernel

/-- of slot `d` of `w`. -/
theorem rw_sem (d : Dev nD) {off : Fin 1 → ℕ} (h : off = ![d.val]) (inb) :
    ((cc0_scratch5.slice (Rect.unit (s := S8) off S1.size inb)).squeeze S_ squeezes_S1_S_).sem = (⟨24 + d.val, by have : d.val < 8 := d.isLt; omega⟩ : Fin 57) := by
  subst h; revert inb; revert d; decide +kernel

/-- The receive semaphore of a whole-slot transfer, where its receiver waits, -/
theorem rx_at (t : Fin 17) (ht : t.val < 12) (hx : isX t = true) (n : Dev nD) {off : Fin 1 → ℕ} (h : off = ![(xr (rT t) n).val]) (inb) :
    ((cc0_scratch4.slice (Rect.unit (s := S8) off S1.size inb)).squeeze S_ squeezes_S1_S_).sem = rN t n := by
  rw [rx_sem (xr (rT t) n) h inb]; unfold rN; rw [if_pos ht]; simp [hx]
/-- and where its sender names it. -/
theorem rx_snd (t : Fin 17) (ht : t.val < 12) (hx : isX t = true) (c : Dev nD) {off : Fin 1 → ℕ} (h : off = ![(xr (sT t) c).val]) (inb) :
    ((cc0_scratch4.slice (Rect.unit (s := S8) off S1.size inb)).squeeze S_ squeezes_S1_S_).sem = rN t (xr (pT t) c) :=
  rx_at t ht hx _ (h.trans (by rw [slot_eq])) inb

/-- The receive semaphore of a whole-slot transfer, where its receiver waits, -/
theorem rw_at (t : Fin 17) (ht : t.val < 12) (hx : isX t = false) (n : Dev nD) {off : Fin 1 → ℕ} (h : off = ![(xr (rT t) n).val]) (inb) :
    ((cc0_scratch5.slice (Rect.unit (s := S8) off S1.size inb)).squeeze S_ squeezes_S1_S_).sem = rN t n := by
  rw [rw_sem (xr (rT t) n) h inb]; unfold rN; rw [if_pos ht]; simp [hx]
/-- and where its sender names it. -/
theorem rw_snd (t : Fin 17) (ht : t.val < 12) (hx : isX t = false) (c : Dev nD) {off : Fin 1 → ℕ} (h : off = ![(xr (sT t) c).val]) (inb) :
    ((cc0_scratch5.slice (Rect.unit (s := S8) off S1.size inb)).squeeze S_ squeezes_S1_S_).sem = rN t (xr (pT t) c) :=
  rw_at t ht hx _ (h.trans (by rw [slot_eq])) inb

/-- The device's own slot. -/
theorem own1 (c : Dev nD) : k0_off1 c = ![(xr 0 c).val, 0, 0] := (k0_off1_eq c).trans (by rw [xr_zero])
/-- The offset of the device's own slot of `w`; -/
theorem own2 (c : Dev nD) : k0_off2 c = ![(xr 0 c).val, 0, 0] := (k0_off2_eq c).trans (by rw [xr_zero])
/-- the number of its own semaphore. -/
theorem own3 (c : Dev nD) : k0_off3 c = ![(xr 0 c).val] := (k0_off3_eq c).trans (by rw [xr_zero])

/-! ## What the steps use -/

/-- All that transfer `t` is issued with. -/
abbrev Sg (c : Dev nD) (t : Fin 17) : sProp 𝕄 := iprop(sndK c t ∗ sndP m c t ∗ dstP (xr (pT t) c) t)
/-- What every device knows. -/
abbrev env : sProp 𝕄 := iprop(records m K ∗ levAts L lv)

/-- The wait for what a transfer brings, -/
theorem w_rcv {c : Dev nD} (t : Fin 17) {sem : DmaSem sig} (hs : sem = rN t c)
    {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hA : dstw.view.dmaCredit = amt t) (a : ℕ) (h : ∀ t' ∈ allT.drop a, lvT t < lvT t')
    {α : Type} {Q : α → sProp 𝕄} {k : PUnit → Prog (TpuEff nD τ sig (Elt F) Λ₀ .tc) α} :
    env m K ⊢ iprop(wtK c (true, t) -∗ ow c (rem c a) -∗ ((rcvP m c t ∗ zc c (rcv t) ∗ ow c (rem c a)) -∗ WP c (k ⟨⟩) Q)
          -∗ WP c (.op (.waitDma2 sem srcw dstw hsrc hdst) k) Q) :=
  wait_t m K (true, t) hs hA a h
/-- and for a transfer of the device's own to have left. -/
theorem w_snd {c : Dev nD} (t : Fin 17) {sem : DmaSem sig} (hs : sem = sN t)
    {sp sp' : Space} {s s' : Shape} {e e' : EltTy} {κ' : Kind}
    {srcw : Memref sig (c : Thread nD τ).2.kind sp' s' e'} {dstw : Memref sig κ' sp s e} {hsrc : srcw.view.WordExact} {hdst : dstw.view.WordExact}
    (hA : dstw.view.dmaCredit = amt t) (a : ℕ) (h : ∀ t' ∈ allT.drop a, 0 < lvT t')
    {α : Type} {Q : α → sProp 𝕄} {k : PUnit → Prog (TpuEff nD τ sig (Elt F) Λ₀ .tc) α} :
    env m K ⊢ iprop(wtK c (false, t) -∗ ow c (rem c a) -∗ ((sndP m c t ∗ zc c (snd t) ∗ ow c (rem c a)) -∗ WP c (k ⟨⟩) Q)
          -∗ WP c (.op (.waitDma2 sem srcw dstw hsrc hdst) k) Q) :=
  wait_t m K (false, t) hs hA a h

/-! ## The copies into the device's own slot -/

/-- The device's own columns of `x` and rows of `w`, in HBM. -/
def inX (c : Dev nD) : sProp 𝕄 := (c : Thread nD τ).loc main_arg0 ↦[Finset.univ]{fullShare} xIn m c
/-- Its rows of `w`. -/
def inW (c : Dev nD) : sProp 𝕄 := (c : Thread nD τ).loc main_arg1 ↦[Finset.univ]{fullShare} wIn m c
/-- The semaphore of the own copy of `x`, at zero; -/
abbrev cxZ (c : Dev nD) : sProp 𝕄 := semVal ((c : Thread nD τ), .dma (47 : Fin 57)) 0
/-- of the own copy of `w`. -/
abbrev cwZ (c : Dev nD) : sProp 𝕄 := semVal ((c : Thread nD τ), .dma (48 : Fin 57)) 0
/-- What the own copy of `x` completes with; -/
def NX : ℕ := Ref.dmaCredit cc0_scratch0 S4096x512 .fp8e5m2
/-- what that of `w` does. -/
def NW : ℕ := Ref.dmaCredit cc0_scratch1 S512x8192 .fp8e5m2
/-- The own copy of `x` in flight; -/
def flX (c : Dev nD) : sProp 𝕄 := Flight EC (c : Thread nD τ) (.dma (47 : Fin 57)) () NX iprop(inX m c ∗ xR m c (xr 0 c) 0 4096 fullShare)
/-- that of `w`. -/
def flW (c : Dev nD) : sProp 𝕄 := Flight EC (c : Thread nD τ) (.dma (48 : Fin 57)) () NW iprop(inW m c ∗ wR m c (xr 0 c) 0 512 fullShare)

/-- The copy leaves the slot at the gathered array. -/
theorem copy_x0 (c : Dev nD) (fd : S8x4096x512.Idx → Elt F .fp8e5m2) (inb) (h) (hq) :
    ∀ i ∈ xS (xr 0 c) 0 4096, ((xM.slice (Rect.unit (s := S8x4096x512) ![(xr 0 c).val, 0, 0] S1x4096x512.size inb) h).squeeze S4096x512 hq).view.write (Elt F) fd
      (aM.view.read (Elt F) (xIn m c)) Finset.univ i = xFull m i := by
  have e := xr_zero c
  revert inb; rw [e]; intro inb h hq; exact copy_x m c fd inb h hq
/-- The same of `w`. -/
theorem copy_w0 (c : Dev nD) (fd : S8x512x8192.Idx → Elt F .fp8e5m2) (inb) (h) (hq) :
    ∀ i ∈ wS (xr 0 c) 0 512, ((wM.slice (Rect.unit (s := S8x512x8192) ![(xr 0 c).val, 0, 0] S1x512x8192.size inb) h).squeeze S512x8192 hq).view.write (Elt F) fd
      (bM.view.read (Elt F) (wIn m c)) Finset.univ i = wFull m i := by
  have e := xr_zero c
  revert inb; rw [e]; intro inb h hq; exact copy_w m c fd inb h hq

/-- The copy of the device's own part is issued. -/
theorem cp_x {c : Dev nD} {off : Fin 3 → ℕ} (ho : off = ![(xr 0 c).val, 0, 0]) {q : DmaSem sig} (hq : q = (47 : Fin 57))
    {inb} {hs} {hz : (Rect.unit (s := S8x4096x512) off S1x4096x512.size inb).shape.Squeezes S4096x512} {hsrc : (aM : Memref sig .tc .hbm S4096x512 .fp8e5m2).view.WordExact} {hdst} {hsem}
    {α : Type} {Q : α → sProp 𝕄} {k : PUnit → Prog (TpuEff nD τ sig (Elt F) Λ₀ .tc) α} :
    inX m c ⊢ iprop(xE c (xr 0 c) 0 4096 -∗ cxZ c -∗ (flX m c -∗ WP c (k ⟨⟩) Q)
      -∗ WP c (.op (.enqueueDma aM (.here (p := (.tc : Proc τ)) ((xM.slice (Rect.unit (s := S8x4096x512) off S1x4096x512.size inb) hs).squeeze S4096x512 hz)) (.dma q) hsrc hdst hsem) k) Q) := by
  subst ho hq
  have e1 : ((xM.slice (Rect.unit (s := S8x4096x512) ![(xr 0 c).val, 0, 0] S1x4096x512.size inb) hs).squeeze S4096x512 hz).view.set = xS (xr 0 c) 0 4096 :=
    (set_win cc0_scratch0 _ hs _ hz).trans (rect_x (xr 0 c) 0 4096 inb)
  have e2 : (aM : Memref sig .tc .hbm S4096x512 .fp8e5m2).view.set = Finset.univ := View.set_whole _
  unfold inX xE cxZ flX
  iintro Hx ⟨%f, He⟩ Hz Hk
  iapply (wp_dmaLocal EC 𝒱₀ (c : Thread nD τ) none (src := (aM : Memref sig .tc .hbm S4096x512 .fp8e5m2))
      (dst := (xM.slice (Rect.unit (s := S8x4096x512) ![(xr 0 c).val, 0, 0] S1x4096x512.size inb) hs).squeeze S4096x512 hz) (fs := xIn m c) (fd := f) (q := fullShare) (Sd := xS (xr 0 c) 0 4096) () NX rfl
      (sig.dmaCredit_pos _ _ _ _ _ (by decide)) (subset_of_eq e1)) $$ [Hx Hz He]
  · isplitl [Hx]; · rw [e2]; iexact Hx
    isplitl [He]; · iexact He
    iexact Hz
  iintro Hf
  iapply Hk
  iapply (Flight_mono EC (c : Thread nD τ) (D' := iprop(inX m c ∗ xR m c (xr 0 c) 0 4096 fullShare)) ?_) $$ Hf
  iintro ⟨Hd, Hs⟩
  unfold inX xR
  isplitl [Hs]
  · rw [e2]; iexact Hs
  iapply (Entails.of_eq (pointsTo_congr (ℓ := (c : Thread nD τ).loc cc0_scratch0) (I := xS (xr 0 c) 0 4096) (q := fullShare) (g := xFull m) (copy_x0 m c f inb hs hz))); iexact Hd

/-- The copy of the device's own part is issued. -/
theorem cp_w {c : Dev nD} {off : Fin 3 → ℕ} (ho : off = ![(xr 0 c).val, 0, 0]) {q : DmaSem sig} (hq : q = (48 : Fin 57))
    {inb} {hs} {hz : (Rect.unit (s := S8x512x8192) off S1x512x8192.size inb).shape.Squeezes S512x8192} {hsrc : (bM : Memref sig .tc .hbm S512x8192 .fp8e5m2).view.WordExact} {hdst} {hsem}
    {α : Type} {Q : α → sProp 𝕄} {k : PUnit → Prog (TpuEff nD τ sig (Elt F) Λ₀ .tc) α} :
    inW m c ⊢ iprop(wE c (xr 0 c) 0 512 -∗ cwZ c -∗ (flW m c -∗ WP c (k ⟨⟩) Q)
      -∗ WP c (.op (.enqueueDma bM (.here (p := (.tc : Proc τ)) ((wM.slice (Rect.unit (s := S8x512x8192) off S1x512x8192.size inb) hs).squeeze S512x8192 hz)) (.dma q) hsrc hdst hsem) k) Q) := by
  subst ho hq
  have e1 : ((wM.slice (Rect.unit (s := S8x512x8192) ![(xr 0 c).val, 0, 0] S1x512x8192.size inb) hs).squeeze S512x8192 hz).view.set = wS (xr 0 c) 0 512 :=
    (set_win cc0_scratch1 _ hs _ hz).trans (rect_w (xr 0 c) 0 512 inb)
  have e2 : (bM : Memref sig .tc .hbm S512x8192 .fp8e5m2).view.set = Finset.univ := View.set_whole _
  unfold inW wE cwZ flW
  iintro Hx ⟨%f, He⟩ Hz Hk
  iapply (wp_dmaLocal EC 𝒱₀ (c : Thread nD τ) none (src := (bM : Memref sig .tc .hbm S512x8192 .fp8e5m2))
      (dst := (wM.slice (Rect.unit (s := S8x512x8192) ![(xr 0 c).val, 0, 0] S1x512x8192.size inb) hs).squeeze S512x8192 hz) (fs := wIn m c) (fd := f) (q := fullShare) (Sd := wS (xr 0 c) 0 512) () NW rfl
      (sig.dmaCredit_pos _ _ _ _ _ (by decide)) (subset_of_eq e1)) $$ [Hx Hz He]
  · isplitl [Hx]; · rw [e2]; iexact Hx
    isplitl [He]; · iexact He
    iexact Hz
  iintro Hf
  iapply Hk
  iapply (Flight_mono EC (c : Thread nD τ) (D' := iprop(inW m c ∗ wR m c (xr 0 c) 0 512 fullShare)) ?_) $$ Hf
  iintro ⟨Hd, Hs⟩
  unfold inW wR
  isplitl [Hs]
  · rw [e2]; iexact Hs
  iapply (Entails.of_eq (pointsTo_congr (ℓ := (c : Thread nD τ).loc cc0_scratch1) (I := wS (xr 0 c) 0 512) (q := fullShare) (g := wFull m) (copy_w0 m c f inb hs hz))); iexact Hd

/-! ## The parts -/

/-- The device's number. -/
theorem part8 {c : Dev nD} {s2 s3 : Memref sig .tc .smem S1 .f32} {hs2 hs3} {α : Type} {Q : α → sProp 𝕄} {k : (Σ' (d0 : Dev nD) (v2 : BitVec 32) (v19 : BitVec 32) (v37 : BitVec 32) (v38 : BitVec 32) (v39 : BitVec 32), BitVec 32) → Prog (TpuEff nD τ sig (Elt F) Λ₀ .tc) α} :
    iprop(∀ v2 v19 v37 v38 v39 c2, WP c (k ⟨c, v2, v19, v37, v38, v39, c2⟩) Q) ⊢ WP c (k0_part8 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 >>= k) Q := by
  simp only [k0_part8_eq_skeleton]; unfold k0_part8_skel
  simp only [Prog.lift, semSignalWord, semWaitWord, Prog.bind_op, Prog.bind_ret, Prog.pure_eq_ret, wp_deviceId]
  iintro H
  iapply H

/-- The first part of the body: the neighbours' numbers. -/
theorem part9 {c : Dev nD} {s2 s3 : Memref sig .tc .smem S1 .f32} {hs2 hs3} (v19 v37 v38 v39 c2 : BitVec 32) {α : Type} {Q : α → sProp 𝕄} {k : (Σ' (v42 : BitVec 32) (v51 : BitVec 32) (v60 : BitVec 32) (v69 : BitVec 32) (v79 : BitVec 32) (v80 : BitVec 32), BitVec 32) → Prog (TpuEff nD τ sig (Elt F) Λ₀ .tc) α} :
    iprop(∀ v42 v51 v60 v69 v79 v80 c1, WP c (k ⟨v42, v51, v60, v69, v79, v80, c1⟩) Q) ⊢ WP c (k0_part9 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 v19 v37 v38 v39 c2 >>= k) Q := by
  simp only [k0_part9_eq_skeleton]; unfold k0_part9_skel
  simp only [Prog.lift, semSignalWord, semWaitWord, Prog.bind_op, Prog.bind_ret, Prog.pure_eq_ret]
  iintro H
  iapply H

/-- What the device signals neighbour `i` with. -/
abbrev Sig (c : Dev nD) (i : Fin 3) : sProp 𝕄 := iprop(dutyTok ER (kcell (xr (nbr i) c, none)) 0 i ∗ bl (toN i) (dstP c))

/-- The second part: two signals. -/
theorem part10 {c : Dev nD} {s2 s3 : Memref sig .tc .smem S1 .f32} {hs2 hs3} (v19 v37 v42 v51 v60 v69 v80 c1 : BitVec 32) {α : Type} {Q : α → sProp 𝕄} {k : (Σ' (v89 : BitVec 32) (v99 : BitVec 32) (v110 : BitVec 32) (v111 : Sems sig S_), BitVec 32) → Prog (TpuEff nD τ sig (Elt F) Λ₀ .tc) α} :
    records m K ⊢ iprop(Sig c 0 -∗ Sig c 1 -∗ ow c (owed c)
      -∗ (∀ v89 v99 v110 v116, ow c ((xr 4 c, none) :: rem c 0) -∗ WP c (k ⟨v89, v99, v110, SemArray.scalar (sig.barrier 0 rfl), v116⟩) Q)
      -∗ WP c (k0_part10 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v19 v37 v42 v51 v60 v69 v80 c1 >>= k) Q) := by
  simp only [k0_part10_eq_skeleton]; unfold k0_part10_skel
  simp only [Prog.lift, semSignalWord, semWaitWord, Prog.bind_op, Prog.bind_ret, Prog.pure_eq_ret]
  iintro #HR ⟨T0, D0⟩ ⟨T1, D1⟩ HO Hk
  ihave HO := (Entails.of_eq (show (ow c (owed c) : sProp 𝕄) = ow c ((xr (nbr 0) c, none) :: (xr (nbr 1) c, none) :: (xr 4 c, none) :: rem c 0) from rfl)) $$ HO
  iapply (signal_n m K 0 (dev1_eq c) _ rfl) $$ HR T0 D0 HO
  iintro HO
  iapply (signal_n m K 1 (dev2_eq c) _ rfl) $$ HR T1 D1 HO
  iintro HO
  iapply Hk; iexact HO

/-- What a later transfer is issued with, save the rows it carries. -/
abbrev Pr (c : Dev nD) (t : Fin 17) : sProp 𝕄 := iprop(sndK c t ∗ dstP (xr (pT t) c) t)

/-- Transfers with the rows they carry. -/
theorem arm (c : Dev nD) : ∀ l : List (Fin 17), iprop(bl l (Pr c) ∗ bl l (sndP m c)) ⊢ bl l (Sg m c)
  | [] => by simp only [bl]; iintro ⟨H, -⟩; iexact H
  | t :: l => by
    simp only [bl]
    iintro ⟨⟨⟨HK, HD⟩, H⟩, HP, H'⟩
    isplitl [HK HD HP]
    · isplitl [HK]; · iexact HK
      isplitl [HP]; · iexact HP
      iexact HD
    iapply (arm c l); isplitl [H]; · iexact H
    iexact H'

/-- What the barrier hands over, by transfer. -/
theorem prep (c : Dev nD) : iprop(bl allT (sndK c) ∗ barP c 0 ∗ barP c 1 ∗ barP c 2)
    ⊢ iprop(bl [0, 1, 2, 3, 4, 5] (Pr c) ∗ bl [6, 7, 8, 9, 10, 11] (Pr c) ∗ bl [12, 13, 14, 15, 16] (Pr c) : sProp 𝕄) := by
  unfold barP allT
  simp only [bl, Pr, toN, nbr, pT, Matrix.cons_val]
  iintro ⟨⟨K0, K1, K2, K3, K4, K5, K6, K7, K8, K9, K10, K11, K12, K13, K14, K15, K16, HN⟩, ⟨D0, D1, D6, D7, D12, D13, -⟩, ⟨D2, D3, D8, D9, D14, D15, -⟩, D4, D5, D10, D11, D16, -⟩
  iframe

/-- The third signal, the barrier, the device's own slot filled. -/
theorem part11 {c : Dev nD} {s2 s3 : Memref sig .tc .smem S1 .f32} {hs2 hs3} (v51 v116 : BitVec 32) {α : Type} {Q : α → sProp 𝕄} {k : PUnit → Prog (TpuEff nD τ sig (Elt F) Λ₀ .tc) α} :
    env m K ⊢ iprop(Sig c 2 -∗ (cred (tallyAt (kcell (c, none)) () 3) ∗ atPos ER (kcell (c, none)) 0 ∅ 0) -∗ inX m c -∗ inW m c
      -∗ xE c (xr 0 c) 0 4096 -∗ wE c (xr 0 c) 0 512 -∗ bl allT (sndK c) -∗ cxZ c -∗ cwZ c -∗ ow c ((xr 4 c, none) :: rem c 0)
      -∗ (∀ r, zc c none -∗ inX m c -∗ inW m c -∗ cxZ c -∗ cwZ c -∗ wtK c (false, 0) -∗ bl [1, 2, 3, 4, 5] (Sg m c) -∗ bl [6, 7, 8, 9, 10, 11] (Pr c) -∗ bl [12, 13, 14, 15, 16] (Pr c) -∗ ow c (rem c 1) -∗ WP c (k r) Q)
      -∗ WP c (k0_part11 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 (SemArray.scalar (sig.barrier 0 rfl)) v116 >>= k) Q) := by
  simp only [k0_part11_eq_skeleton]; unfold k0_part11_skel
  simp only [Prog.lift, semSignalWord, semWaitWord, Prog.bind_op, Prog.bind_ret, Prog.pure_eq_ret]
  iintro #HE ⟨T2, D2⟩ HB HX HW EXx EW HK ZX ZW HO Hk
  icases HE with ⟨#HR, #HL⟩
  ihave HO := (Entails.of_eq (show (ow c ((xr 4 c, none) :: rem c 0) : sProp 𝕄) = ow c ((xr (nbr 2) c, none) :: rem c 0) from rfl)) $$ HO
  iapply (signal_n m K 2 (dev3_eq c) _ rfl) $$ HR T2 D2 HO
  iintro HO
  iapply (wait_bar m K rfl) $$ [] HB HO
  · isplitl; · iexact HR
    iexact HL
  iintro ⟨B0, B1, B2, ZB, HO⟩
  iapply (cp_x m (own1 c) rfl) $$ HX EXx ZX
  iintro FX
  iapply (cp_w m (own2 c) rfl) $$ HW EW ZW
  iintro FW
  unfold flX flW
  iapply (wait_own (q := (47 : Fin 57)) (N := NX) (by decide) (by rfl) 0) $$ HL FX HO
  iintro ⟨⟨HX, RX⟩, ZX, HO⟩
  iapply (wait_own (q := (48 : Fin 57)) (N := NW) (by decide) (by rfl) 0) $$ HL FW HO
  iintro ⟨⟨HW, RW⟩, ZW, HO⟩
  ihave CH := (Entails.of_eq (show iprop(xR m c (xr 0 c) 0 4096 fullShare ∗ wR m c (xr 0 c) 0 512 fullShare) = chunk m c fullShare 0 from rfl)) $$ [RX RW]
  · isplitl [RX]; · iexact RX
    iexact RW
  ihave SL := (lend1 m c) $$ CH
  ihave SP := (prep c) $$ [HK B0 B1 B2]
  · isplitl [HK]; · iexact HK
    isplitl [B0]; · iexact B0
    isplitl [B1]; · iexact B1
    iexact B2
  icases SP with ⟨SP, P2, P3⟩
  ihave SG := (arm m c [0, 1, 2, 3, 4, 5]) $$ [SP SL]
  · isplitl [SP]; · iexact SP
    iexact SL
  ihave SG := (Entails.of_eq (show bl [0, 1, 2, 3, 4, 5] (Sg m c) = iprop(Sg m c 0 ∗ bl [1, 2, 3, 4, 5] (Sg m c)) from rfl)) $$ SG
  icases SG with ⟨S0, SG⟩
  iapply (send_x m K 0 rfl 4096 rfl (dev4_eq c) (own1 c) rfl (by rfl) (rx_snd 0 (by decide) rfl c (own3 c) _) 0 1 rfl rfl (by rfl)) $$ HR S0 HO
  iintro ⟨W0, HO⟩
  iapply Hk $$ ZB HX HW ZX ZW W0 SG P2 P3 HO
-- ==== Proof.Parts2.lean ====
/- The body of the kernel, a part at a time: the rounds of the exchange, the two loops over the first four blocks of the sum, the last loop. -/
module

public import proofs.«01_k».proof.Proof.Parts

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (K : Dev nD × CI → ℕ)

/-- Four transfers of the first round. -/
theorem part12 {c : Dev nD} {s2 s3 : Memref sig .tc .smem S1 .f32} {hs2 hs3} (v60 v69 : BitVec 32) {α : Type} {Q : α → sProp 𝕄} {k : (Σ' (v176 : BitVec 32), BitVec 32) → Prog (TpuEff nD τ sig (Elt F) Λ₀ .tc) α} :
    env m K ⊢ iprop(Sg m c 1 -∗ Sg m c 2 -∗ Sg m c 3 -∗ Sg m c 4 -∗ ow c (rem c 1)
      -∗ (∀ v176 c0, wtK c (false, 1) -∗ wtK c (false, 2) -∗ wtK c (false, 3) -∗ wtK c (false, 4) -∗ ow c (rem c 5) -∗ WP c (k ⟨v176, c0⟩) Q)
      -∗ WP c (k0_part12 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v60 v69 >>= k) Q) := by
  simp only [k0_part12_eq_skeleton]; unfold k0_part12_skel
  simp only [Prog.lift, semSignalWord, semWaitWord, Prog.bind_op, Prog.bind_ret, Prog.pure_eq_ret]
  iintro #HE S1 S2 S3 S4 HO Hk
  icases HE with ⟨#HR, #HL⟩
  iapply (send_w m K 1 rfl 512 rfl (dev5_eq c) (own2 c) rfl (by rfl) (rw_snd 1 (by decide) rfl c (own3 c) _) 1 2 rfl rfl (by rfl)) $$ HR S1 HO
  iintro ⟨W1, HO⟩
  iapply (send_x m K 2 rfl 4096 rfl (dev6_eq c) (own1 c) rfl (by rfl) (rx_snd 2 (by decide) rfl c (own3 c) _) 2 3 rfl rfl (by rfl)) $$ HR S2 HO
  iintro ⟨W2, HO⟩
  iapply (send_w m K 3 rfl 512 rfl (dev7_eq c) (own2 c) rfl (by rfl) (rw_snd 3 (by decide) rfl c (own3 c) _) 3 4 rfl rfl (by rfl)) $$ HR S3 HO
  iintro ⟨W3, HO⟩
  iapply (send_x m K 4 rfl 4096 rfl (dev8_eq c) (own1 c) rfl (by rfl) (rx_snd 4 (by decide) rfl c (own3 c) _) 4 5 rfl rfl (by rfl)) $$ HR S4 HO
  iintro ⟨W4, HO⟩
  iapply Hk $$ W1 W2 W3 W4 HO

/-- The last transfer of the first round; the first neighbour's slot has come. -/
theorem part13 {c : Dev nD} {s2 s3 : Memref sig .tc .smem S1 .f32} {hs2 hs3} (v51 v176 c0 : BitVec 32) {α : Type} {Q : α → sProp 𝕄} {k : PUnit → Prog (TpuEff nD τ sig (Elt F) Λ₀ .tc) α} :
    env m K ⊢ iprop(Sg m c 5 -∗ wtK c (true, 0) -∗ wtK c (true, 1) -∗ ow c (rem c 5)
      -∗ (∀ r, wtK c (false, 5) -∗ rcvP m c 0 -∗ zc c (rcv 0) -∗ rcvP m c 1 -∗ zc c (rcv 1) -∗ ow c (rem c 6) -∗ WP c (k r) Q)
      -∗ WP c (k0_part13 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 v176 c0 >>= k) Q) := by
  simp only [k0_part13_eq_skeleton]; unfold k0_part13_skel
  simp only [Prog.lift, semSignalWord, semWaitWord, Prog.bind_op, Prog.bind_ret, Prog.pure_eq_ret]
  iintro #HE S5 V0 V1 HO Hk
  icases HE with ⟨#HR, #HL⟩
  iapply (send_w m K 5 rfl 512 rfl (dev9_eq c) (own2 c) rfl (by rfl) (rw_snd 5 (by decide) rfl c (own3 c) _) 5 6 rfl rfl (by rfl)) $$ HR S5 HO
  iintro ⟨W5, HO⟩
  iapply (w_rcv m K 0 (rx_at 0 (by decide) rfl c (off4_eq c) _) (by rfl) 6 (by decide)) $$ [] V0 HO
  · isplitl; · iexact HR
    iexact HL
  iintro ⟨R0, Y0, HO⟩
  iapply (w_rcv m K 1 (rw_at 1 (by decide) rfl c (off4_eq c) _) (by rfl) 6 (by decide)) $$ [] V1 HO
  · isplitl; · iexact HR
    iexact HL
  iintro ⟨R1, Y1, HO⟩
  iapply Hk $$ W5 R0 Y0 R1 Y1 HO

/-- The other two neighbours' slots have come. -/
theorem part14 {c : Dev nD} {s2 s3 : Memref sig .tc .smem S1 .f32} {hs2 hs3} (v51 : BitVec 32) {α : Type} {Q : α → sProp 𝕄} {k : PUnit → Prog (TpuEff nD τ sig (Elt F) Λ₀ .tc) α} :
    env m K ⊢ iprop(wtK c (true, 2) -∗ wtK c (true, 3) -∗ wtK c (true, 4) -∗ wtK c (true, 5) -∗ ow c (rem c 6)
      -∗ (∀ r, rcvP m c 2 -∗ zc c (rcv 2) -∗ rcvP m c 3 -∗ zc c (rcv 3) -∗ rcvP m c 4 -∗ zc c (rcv 4) -∗ rcvP m c 5 -∗ zc c (rcv 5) -∗ ow c (rem c 6) -∗ WP c (k r) Q)
      -∗ WP c (k0_part14 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 >>= k) Q) := by
  simp only [k0_part14_eq_skeleton]; unfold k0_part14_skel
  simp only [Prog.lift, semSignalWord, semWaitWord, Prog.bind_op, Prog.bind_ret, Prog.pure_eq_ret]
  iintro #HE V2 V3 V4 V5 HO Hk
  icases HE with ⟨#HR, #HL⟩
  iapply (w_rcv m K 2 (rx_at 2 (by decide) rfl c (off7_eq c) _) (by rfl) 6 (by decide)) $$ [] V2 HO
  · isplitl; · iexact HR
    iexact HL
  iintro ⟨R2, Y2, HO⟩
  iapply (w_rcv m K 3 (rw_at 3 (by decide) rfl c (off7_eq c) _) (by rfl) 6 (by decide)) $$ [] V3 HO
  · isplitl; · iexact HR
    iexact HL
  iintro ⟨R3, Y3, HO⟩
  iapply (w_rcv m K 4 (rx_at 4 (by decide) rfl c (off10_eq c) _) (by rfl) 6 (by decide)) $$ [] V4 HO
  · isplitl; · iexact HR
    iexact HL
  iintro ⟨R4, Y4, HO⟩
  iapply (w_rcv m K 5 (rw_at 5 (by decide) rfl c (off10_eq c) _) (by rfl) 6 (by decide)) $$ [] V5 HO
  · isplitl; · iexact HR
    iexact HL
  iintro ⟨R5, Y5, HO⟩
  iapply Hk $$ R2 Y2 R3 Y3 R4 Y4 R5 Y5 HO

/-- The first round's transfers have left, -/
theorem part15 {c : Dev nD} {s2 s3 : Memref sig .tc .smem S1 .f32} {hs2 hs3}  {α : Type} {Q : α → sProp 𝕄} {k : PUnit → Prog (TpuEff nD τ sig (Elt F) Λ₀ .tc) α} :
    env m K ⊢ iprop(wtK c (false, 0) -∗ wtK c (false, 1) -∗ wtK c (false, 2) -∗ wtK c (false, 3) -∗ wtK c (false, 4) -∗ ow c (rem c 6)
      -∗ (∀ r, sndP m c 0 -∗ zc c (snd 0) -∗ sndP m c 1 -∗ zc c (snd 1) -∗ sndP m c 2 -∗ zc c (snd 2) -∗ sndP m c 3 -∗ zc c (snd 3) -∗ sndP m c 4 -∗ zc c (snd 4) -∗ ow c (rem c 6) -∗ WP c (k r) Q)
      -∗ WP c (k0_part15 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c >>= k) Q) := by
  simp only [k0_part15_eq_skeleton]; unfold k0_part15_skel
  simp only [Prog.lift, semSignalWord, semWaitWord, Prog.bind_op, Prog.bind_ret, Prog.pure_eq_ret]
  iintro #HE W0 W1 W2 W3 W4 HO Hk
  icases HE with ⟨#HR, #HL⟩
  iapply (w_snd m K 0 (by rfl) (by rfl) 6 (by decide)) $$ [] W0 HO
  · isplitl; · iexact HR
    iexact HL
  iintro ⟨P0, Z0, HO⟩
  iapply (w_snd m K 1 (by rfl) (by rfl) 6 (by decide)) $$ [] W1 HO
  · isplitl; · iexact HR
    iexact HL
  iintro ⟨P1, Z1, HO⟩
  iapply (w_snd m K 2 (by rfl) (by rfl) 6 (by decide)) $$ [] W2 HO
  · isplitl; · iexact HR
    iexact HL
  iintro ⟨P2, Z2, HO⟩
  iapply (w_snd m K 3 (by rfl) (by rfl) 6 (by decide)) $$ [] W3 HO
  · isplitl; · iexact HR
    iexact HL
  iintro ⟨P3, Z3, HO⟩
  iapply (w_snd m K 4 (by rfl) (by rfl) 6 (by decide)) $$ [] W4 HO
  · isplitl; · iexact HR
    iexact HL
  iintro ⟨P4, Z4, HO⟩
  iapply Hk $$ P0 Z0 P1 Z1 P2 Z2 P3 Z3 P4 Z4 HO

/-- the last of them too; the second round begins. -/
theorem part16 {c : Dev nD} {s2 s3 : Memref sig .tc .smem S1 .f32} {hs2 hs3} (v51 v60 : BitVec 32) {α : Type} {Q : α → sProp 𝕄} {k : PUnit → Prog (TpuEff nD τ sig (Elt F) Λ₀ .tc) α} :
    env m K ⊢ iprop(wtK c (false, 5) -∗ Sg m c 6 -∗ Sg m c 7 -∗ ow c (rem c 6)
      -∗ (∀ r, sndP m c 5 -∗ zc c (snd 5) -∗ wtK c (false, 6) -∗ wtK c (false, 7) -∗ ow c (rem c 8) -∗ WP c (k r) Q)
      -∗ WP c (k0_part16 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 v60 >>= k) Q) := by
  simp only [k0_part16_eq_skeleton]; unfold k0_part16_skel
  simp only [Prog.lift, semSignalWord, semWaitWord, Prog.bind_op, Prog.bind_ret, Prog.pure_eq_ret]
  iintro #HE W5 S6 S7 HO Hk
  icases HE with ⟨#HR, #HL⟩
  iapply (w_snd m K 5 (by rfl) (by rfl) 6 (by decide)) $$ [] W5 HO
  · isplitl; · iexact HR
    iexact HL
  iintro ⟨P5, Z5, HO⟩
  iapply (send_x m K 6 rfl 4096 rfl (dev10_eq c) (off8_eq c) rfl (by rfl) (rx_snd 6 (by decide) rfl c (off7_eq c) _) 6 7 rfl rfl (by rfl)) $$ HR S6 HO
  iintro ⟨W6, HO⟩
  iapply (send_w m K 7 rfl 512 rfl (dev11_eq c) (off9_eq c) rfl (by rfl) (rw_snd 7 (by decide) rfl c (off7_eq c) _) 7 8 rfl rfl (by rfl)) $$ HR S7 HO
  iintro ⟨W7, HO⟩
  iapply Hk $$ P5 Z5 W6 W7 HO

/-- The rest of the second round. -/
theorem part17 {c : Dev nD} {s2 s3 : Memref sig .tc .smem S1 .f32} {hs2 hs3} (v60 v69 : BitVec 32) {α : Type} {Q : α → sProp 𝕄} {k : (Σ' (c0_i32_224 : BitVec 32), BitVec 32) → Prog (TpuEff nD τ sig (Elt F) Λ₀ .tc) α} :
    env m K ⊢ iprop(Sg m c 8 -∗ Sg m c 9 -∗ Sg m c 10 -∗ Sg m c 11 -∗ ow c (rem c 8)
      -∗ (∀ e1 e2, wtK c (false, 8) -∗ wtK c (false, 9) -∗ wtK c (false, 10) -∗ wtK c (false, 11) -∗ ow c (rem c 12) -∗ WP c (k ⟨e1, e2⟩) Q)
      -∗ WP c (k0_part17 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v60 v69 >>= k) Q) := by
  simp only [k0_part17_eq_skeleton]; unfold k0_part17_skel
  simp only [Prog.lift, semSignalWord, semWaitWord, Prog.bind_op, Prog.bind_ret, Prog.pure_eq_ret]
  iintro #HE S8 S9 S10 S11 HO Hk
  icases HE with ⟨#HR, #HL⟩
  iapply (send_x m K 8 rfl 4096 rfl (dev12_eq c) (off11_eq c) rfl (by rfl) (rx_snd 8 (by decide) rfl c (off10_eq c) _) 8 9 rfl rfl (by rfl)) $$ HR S8 HO
  iintro ⟨W8, HO⟩
  iapply (send_w m K 9 rfl 512 rfl (dev13_eq c) (off12_eq c) rfl (by rfl) (rw_snd 9 (by decide) rfl c (off10_eq c) _) 9 10 rfl rfl (by rfl)) $$ HR S9 HO
  iintro ⟨W9, HO⟩
  iapply (send_x m K 10 rfl 4096 rfl (dev14_eq c) (off5_eq c) rfl (by rfl) (rx_snd 10 (by decide) rfl c (off4_eq c) _) 10 11 rfl rfl (by rfl)) $$ HR S10 HO
  iintro ⟨W10, HO⟩
  iapply (send_w m K 11 rfl 512 rfl (dev15_eq c) (off6_eq c) rfl (by rfl) (rw_snd 11 (by decide) rfl c (off4_eq c) _) 11 12 rfl rfl (by rfl)) $$ HR S11 HO
  iintro ⟨W11, HO⟩
  iapply Hk $$ W8 W9 W10 W11 HO

/-- The first 72 blocks of the sum over the near slots; three of the last four have left. -/
theorem part18 {c : Dev nD} {s2 s3 : Memref sig .tc .smem S1 .f32} {hs2 hs3} (qs : Fin 8 → PosShare TreeShare) (v2 v51 v60 v69 e1 e2 : BitVec 32) {α : Type} {Q : α → sProp 𝕄} {k : PUnit → Prog (TpuEff nD τ sig (Elt F) Λ₀ .tc) α} :
    env m K ⊢ iprop(near m c qs -∗ RingS (P1blk m c) c 0 0 -∗ bigSep (Finset.Ico 0 72) (anyO c) -∗ ow c (rem c 12)
      -∗ (∀ r, near m c qs -∗ RingS (P1blk m c) c 71 72 -∗ ow c (rem c 12) -∗ WP c (k r) Q)
      -∗ WP c (k0_part18 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v2 v51 v60 v69 e1 e2 >>= k) Q) := by
  simp only [k0_part18_eq_skeleton]; unfold k0_part18_skel
  simp only [Prog.lift, Prog.bind_op, Prog.bind_ret, Prog.pure_eq_ret, bind_assoc]
  iintro #HE NR RG AO HO Hk
  icases HE with ⟨#HR, #HL⟩
  iapply (loop1 m qs) $$ HL NR RG AO HO
  iintro ⟨NR, RG, HO⟩
  iapply (step_wait (P1blk m c) 68 72 (by decide) (by decide) (by rfl) (by rfl) 12) $$ HL RG HO
  iintro ⟨RG, HO⟩
  iapply (step_wait (P1blk m c) 69 72 (by decide) (by decide) (by rfl) (by rfl) 12) $$ HL RG HO
  iintro ⟨RG, HO⟩
  iapply (step_wait (P1blk m c) 70 72 (by decide) (by decide) (by rfl) (by rfl) 12) $$ HL RG HO
  iintro ⟨RG, HO⟩
  iapply Hk $$ NR RG HO

/-- The last of them; half of the second round has come. -/
theorem part19 {c : Dev nD} {s2 s3 : Memref sig .tc .smem S1 .f32} {hs2 hs3} (v51 : BitVec 32) {α : Type} {Q : α → sProp 𝕄} {k : PUnit → Prog (TpuEff nD τ sig (Elt F) Λ₀ .tc) α} :
    env m K ⊢ iprop(RingS (P1blk m c) c 71 72 -∗ wtK c (true, 6) -∗ wtK c (true, 7) -∗ wtK c (true, 8) -∗ ow c (rem c 12)
      -∗ (∀ r, RingS (P1blk m c) c 72 72 -∗ rcvP m c 6 -∗ zc c (rcv 6) -∗ rcvP m c 7 -∗ zc c (rcv 7) -∗ rcvP m c 8 -∗ zc c (rcv 8) -∗ ow c (rem c 12) -∗ WP c (k r) Q)
      -∗ WP c (k0_part19 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 >>= k) Q) := by
  simp only [k0_part19_eq_skeleton]; unfold k0_part19_skel
  simp only [Prog.lift, semSignalWord, semWaitWord, Prog.bind_op, Prog.bind_ret, Prog.pure_eq_ret]
  iintro #HE RG V6 V7 V8 HO Hk
  icases HE with ⟨#HR, #HL⟩
  iapply (step_wait (P1blk m c) 71 72 (by decide) (by decide) (by rfl) (by rfl) 12) $$ HL RG HO
  iintro ⟨RG, HO⟩
  iapply (w_rcv m K 6 (rx_at 6 (by decide) rfl c (off29_eq c) _) (by rfl) 12 (by decide)) $$ [] V6 HO
  · isplitl; · iexact HR
    iexact HL
  iintro ⟨R6, Y6, HO⟩
  iapply (w_rcv m K 7 (rw_at 7 (by decide) rfl c (off29_eq c) _) (by rfl) 12 (by decide)) $$ [] V7 HO
  · isplitl; · iexact HR
    iexact HL
  iintro ⟨R7, Y7, HO⟩
  iapply (w_rcv m K 8 (rx_at 8 (by decide) rfl c (off32_eq c) _) (by rfl) 12 (by decide)) $$ [] V8 HO
  · isplitl; · iexact HR
    iexact HL
  iintro ⟨R8, Y8, HO⟩
  iapply Hk $$ RG R6 Y6 R7 Y7 R8 Y8 HO

/-- The other half. -/
theorem part20 {c : Dev nD} {s2 s3 : Memref sig .tc .smem S1 .f32} {hs2 hs3} (v51 : BitVec 32) {α : Type} {Q : α → sProp 𝕄} {k : PUnit → Prog (TpuEff nD τ sig (Elt F) Λ₀ .tc) α} :
    env m K ⊢ iprop(wtK c (true, 9) -∗ wtK c (true, 10) -∗ wtK c (true, 11) -∗ wtK c (false, 6) -∗ ow c (rem c 12)
      -∗ (∀ r, rcvP m c 9 -∗ zc c (rcv 9) -∗ rcvP m c 10 -∗ zc c (rcv 10) -∗ rcvP m c 11 -∗ zc c (rcv 11) -∗ sndP m c 6 -∗ zc c (snd 6) -∗ ow c (rem c 12) -∗ WP c (k r) Q)
      -∗ WP c (k0_part20 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 >>= k) Q) := by
  simp only [k0_part20_eq_skeleton]; unfold k0_part20_skel
  simp only [Prog.lift, semSignalWord, semWaitWord, Prog.bind_op, Prog.bind_ret, Prog.pure_eq_ret]
  iintro #HE V9 V10 V11 W6 HO Hk
  icases HE with ⟨#HR, #HL⟩
  iapply (w_rcv m K 9 (rw_at 9 (by decide) rfl c (off32_eq c) _) (by rfl) 12 (by decide)) $$ [] V9 HO
  · isplitl; · iexact HR
    iexact HL
  iintro ⟨R9, Y9, HO⟩
  iapply (w_rcv m K 10 (rx_at 10 (by decide) rfl c (off35_eq c) _) (by rfl) 12 (by decide)) $$ [] V10 HO
  · isplitl; · iexact HR
    iexact HL
  iintro ⟨R10, Y10, HO⟩
  iapply (w_rcv m K 11 (rw_at 11 (by decide) rfl c (off35_eq c) _) (by rfl) 12 (by decide)) $$ [] V11 HO
  · isplitl; · iexact HR
    iexact HL
  iintro ⟨R11, Y11, HO⟩
  iapply (w_snd m K 6 (by rfl) (by rfl) 12 (by decide)) $$ [] W6 HO
  · isplitl; · iexact HR
    iexact HL
  iintro ⟨P6, Z6, HO⟩
  iapply Hk $$ R9 Y9 R10 Y10 R11 Y11 P6 Z6 HO

/-- The second round's transfers have left. -/
theorem part21 {c : Dev nD} {s2 s3 : Memref sig .tc .smem S1 .f32} {hs2 hs3}  {α : Type} {Q : α → sProp 𝕄} {k : PUnit → Prog (TpuEff nD τ sig (Elt F) Λ₀ .tc) α} :
    env m K ⊢ iprop(wtK c (false, 7) -∗ wtK c (false, 8) -∗ wtK c (false, 9) -∗ wtK c (false, 10) -∗ wtK c (false, 11) -∗ ow c (rem c 12)
      -∗ (∀ r, sndP m c 7 -∗ zc c (snd 7) -∗ sndP m c 8 -∗ zc c (snd 8) -∗ sndP m c 9 -∗ zc c (snd 9) -∗ sndP m c 10 -∗ zc c (snd 10) -∗ sndP m c 11 -∗ zc c (snd 11) -∗ ow c (rem c 12) -∗ WP c (k r) Q)
      -∗ WP c (k0_part21 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c >>= k) Q) := by
  simp only [k0_part21_eq_skeleton]; unfold k0_part21_skel
  simp only [Prog.lift, semSignalWord, semWaitWord, Prog.bind_op, Prog.bind_ret, Prog.pure_eq_ret]
  iintro #HE W7 W8 W9 W10 W11 HO Hk
  icases HE with ⟨#HR, #HL⟩
  iapply (w_snd m K 7 (by rfl) (by rfl) 12 (by decide)) $$ [] W7 HO
  · isplitl; · iexact HR
    iexact HL
  iintro ⟨P7, Z7, HO⟩
  iapply (w_snd m K 8 (by rfl) (by rfl) 12 (by decide)) $$ [] W8 HO
  · isplitl; · iexact HR
    iexact HL
  iintro ⟨P8, Z8, HO⟩
  iapply (w_snd m K 9 (by rfl) (by rfl) 12 (by decide)) $$ [] W9 HO
  · isplitl; · iexact HR
    iexact HL
  iintro ⟨P9, Z9, HO⟩
  iapply (w_snd m K 10 (by rfl) (by rfl) 12 (by decide)) $$ [] W10 HO
  · isplitl; · iexact HR
    iexact HL
  iintro ⟨P10, Z10, HO⟩
  iapply (w_snd m K 11 (by rfl) (by rfl) 12 (by decide)) $$ [] W11 HO
  · isplitl; · iexact HR
    iexact HL
  iintro ⟨P11, Z11, HO⟩
  iapply Hk $$ P7 Z7 P8 Z8 P9 Z9 P10 Z10 P11 Z11 HO

/-- The last round begins. -/
theorem part22 {c : Dev nD} {s2 s3 : Memref sig .tc .smem S1 .f32} {hs2 hs3} (v51 v60 : BitVec 32) {α : Type} {Q : α → sProp 𝕄} {k : BitVec 32 → Prog (TpuEff nD τ sig (Elt F) Λ₀ .tc) α} :
    env m K ⊢ iprop(Sg m c 12 -∗ Sg m c 13 -∗ Sg m c 14 -∗ ow c (rem c 12)
      -∗ (∀ r, wtK c (false, 12) -∗ wtK c (false, 13) -∗ wtK c (false, 14) -∗ ow c (rem c 15) -∗ WP c (k r) Q)
      -∗ WP c (k0_part22 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 v60 >>= k) Q) := by
  simp only [k0_part22_eq_skeleton]; unfold k0_part22_skel
  simp only [Prog.lift, semSignalWord, semWaitWord, Prog.bind_op, Prog.bind_ret, Prog.pure_eq_ret]
  iintro #HE S12 S13 S14 HO Hk
  icases HE with ⟨#HR, #HL⟩
  iapply (send_x m K 12 rfl 2048 rfl (dev16_eq c) (off38_eq c) rfl (by rfl) (by rfl) 12 13 rfl rfl (by rfl)) $$ HR S12 HO
  iintro ⟨W12, HO⟩
  iapply (send_w m K 13 rfl 128 rfl (dev17_eq c) (off39_eq c) rfl (by rfl) (by rfl) 13 14 rfl rfl (by rfl)) $$ HR S13 HO
  iintro ⟨W13, HO⟩
  iapply (send_x m K 14 rfl 2048 rfl (dev18_eq c) (off40_eq c) rfl (by rfl) (by rfl) 14 15 rfl rfl (by rfl)) $$ HR S14 HO
  iintro ⟨W14, HO⟩
  iapply Hk $$ W12 W13 W14 HO

/-- The rest of the last round; the other 56 blocks of the sum over the near slots. -/
theorem part23 {c : Dev nD} {s2 s3 : Memref sig .tc .smem S1 .f32} {hs2 hs3} (qs : Fin 8 → PosShare TreeShare) (v2 v51 v60 v69 c1 : BitVec 32) {α : Type} {Q : α → sProp 𝕄} {k : BitVec 32 → Prog (TpuEff nD τ sig (Elt F) Λ₀ .tc) α} :
    env m K ⊢ iprop(Sg m c 15 -∗ Sg m c 16 -∗ near m c qs -∗ RingS (P1blk m c) c 72 72 -∗ bigSep (Finset.Ico 72 (72 + 56)) (anyO c) -∗ ow c (rem c 15)
      -∗ (∀ r, wtK c (false, 15) -∗ wtK c (false, 16) -∗ near m c qs -∗ RingS (P1blk m c) c 125 128 -∗ ow c (rem c 17) -∗ WP c (k r) Q)
      -∗ WP c (k0_part23 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v2 v51 v60 v69 c1 >>= k) Q) := by
  simp only [k0_part23_eq_skeleton]; unfold k0_part23_skel
  simp only [Prog.lift, Prog.bind_op, Prog.bind_ret, Prog.pure_eq_ret, bind_assoc]
  iintro #HE S15 S16 NR RG AO HO Hk
  icases HE with ⟨#HR, #HL⟩
  iapply (send_w m K 15 rfl 128 rfl (dev19_eq c) (off41_eq c) rfl (by rfl) (by rfl) 15 16 rfl rfl (by rfl)) $$ HR S15 HO
  iintro ⟨W15, HO⟩
  iapply (send_w m K 16 rfl 256 rfl (dev20_eq c) (off42_eq c) rfl (by rfl) (by rfl) 16 17 rfl rfl (by rfl)) $$ HR S16 HO
  iintro ⟨W16, HO⟩
  iapply (loop2 m qs) $$ HL NR RG AO HO
  iintro ⟨NR, RG, HO⟩
  iapply (step_wait (P1blk m c) 124 128 (by decide) (by decide) (by rfl) (by rfl) 17) $$ HL RG HO
  iintro ⟨RG, HO⟩
  iapply Hk $$ W15 W16 NR RG HO

/-- The last blocks have left. -/
theorem part24 {c : Dev nD} {s2 s3 : Memref sig .tc .smem S1 .f32} {hs2 hs3} (v51 v501 : BitVec 32) {α : Type} {Q : α → sProp 𝕄} {k : PUnit → Prog (TpuEff nD τ sig (Elt F) Λ₀ .tc) α} :
    env m K ⊢ iprop(RingS (P1blk m c) c 125 128 -∗ ow c (rem c 17)
      -∗ (∀ r, RingS (P1blk m c) c 128 128 -∗ ow c (rem c 17) -∗ WP c (k r) Q)
      -∗ WP c (k0_part24 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 v501 >>= k) Q) := by
  simp only [k0_part24_eq_skeleton]; unfold k0_part24_skel
  simp only [Prog.lift, semSignalWord, semWaitWord, Prog.bind_op, Prog.bind_ret, Prog.pure_eq_ret]
  iintro #HE RG HO Hk
  icases HE with ⟨#HR, #HL⟩
  iapply (step_wait (P1blk m c) 125 128 (by decide) (by decide) (by rfl) (by rfl) 17) $$ HL RG HO
  iintro ⟨RG, HO⟩
  iapply (step_wait (P1blk m c) 126 128 (by decide) (by decide) (by rfl) (by rfl) 17) $$ HL RG HO
  iintro ⟨RG, HO⟩
  iapply (step_wait (P1blk m c) 127 128 (by decide) (by decide) (by rfl) (by rfl) 17) $$ HL RG HO
  iintro ⟨RG, HO⟩
  iapply Hk $$ RG HO

/-- The last round has come, -/
theorem part25 {c : Dev nD} {s2 s3 : Memref sig .tc .smem S1 .f32} {hs2 hs3} (v51 : BitVec 32) {α : Type} {Q : α → sProp 𝕄} {k : PUnit → Prog (TpuEff nD τ sig (Elt F) Λ₀ .tc) α} :
    env m K ⊢ iprop(wtK c (true, 12) -∗ wtK c (true, 13) -∗ wtK c (true, 14) -∗ wtK c (true, 15) -∗ ow c (rem c 17)
      -∗ (∀ r, rcvP m c 12 -∗ zc c (rcv 12) -∗ rcvP m c 13 -∗ zc c (rcv 13) -∗ rcvP m c 14 -∗ zc c (rcv 14) -∗ rcvP m c 15 -∗ zc c (rcv 15) -∗ ow c (rem c 17) -∗ WP c (k r) Q)
      -∗ WP c (k0_part25 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v51 >>= k) Q) := by
  simp only [k0_part25_eq_skeleton]; unfold k0_part25_skel
  simp only [Prog.lift, semSignalWord, semWaitWord, Prog.bind_op, Prog.bind_ret, Prog.pure_eq_ret]
  iintro #HE V12 V13 V14 V15 HO Hk
  icases HE with ⟨#HR, #HL⟩
  iapply (w_rcv m K 12 (by rfl) (by rfl) 17 (by decide)) $$ [] V12 HO
  · isplitl; · iexact HR
    iexact HL
  iintro ⟨R12, Y12, HO⟩
  iapply (w_rcv m K 13 (by rfl) (by rfl) 17 (by decide)) $$ [] V13 HO
  · isplitl; · iexact HR
    iexact HL
  iintro ⟨R13, Y13, HO⟩
  iapply (w_rcv m K 14 (by rfl) (by rfl) 17 (by decide)) $$ [] V14 HO
  · isplitl; · iexact HR
    iexact HL
  iintro ⟨R14, Y14, HO⟩
  iapply (w_rcv m K 15 (by rfl) (by rfl) 17 (by decide)) $$ [] V15 HO
  · isplitl; · iexact HR
    iexact HL
  iintro ⟨R15, Y15, HO⟩
  iapply Hk $$ R12 Y12 R13 Y13 R14 Y14 R15 Y15 HO

/-- all of it; its transfers have left. -/
theorem part26 {c : Dev nD} {s2 s3 : Memref sig .tc .smem S1 .f32} {hs2 hs3}  {α : Type} {Q : α → sProp 𝕄} {k : PUnit → Prog (TpuEff nD τ sig (Elt F) Λ₀ .tc) α} :
    env m K ⊢ iprop(wtK c (true, 16) -∗ wtK c (false, 12) -∗ wtK c (false, 13) -∗ wtK c (false, 14) -∗ ow c (rem c 17)
      -∗ (∀ r, rcvP m c 16 -∗ zc c (rcv 16) -∗ sndP m c 12 -∗ zc c (snd 12) -∗ sndP m c 13 -∗ zc c (snd 13) -∗ sndP m c 14 -∗ zc c (snd 14) -∗ ow c (rem c 17) -∗ WP c (k r) Q)
      -∗ WP c (k0_part26 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c >>= k) Q) := by
  simp only [k0_part26_eq_skeleton]; unfold k0_part26_skel
  simp only [Prog.lift, semSignalWord, semWaitWord, Prog.bind_op, Prog.bind_ret, Prog.pure_eq_ret]
  iintro #HE V16 W12 W13 W14 HO Hk
  icases HE with ⟨#HR, #HL⟩
  iapply (w_rcv m K 16 (by rfl) (by rfl) 17 (by decide)) $$ [] V16 HO
  · isplitl; · iexact HR
    iexact HL
  iintro ⟨R16, Y16, HO⟩
  iapply (w_snd m K 12 (by rfl) (by rfl) 17 (by decide)) $$ [] W12 HO
  · isplitl; · iexact HR
    iexact HL
  iintro ⟨P12, Z12, HO⟩
  iapply (w_snd m K 13 (by rfl) (by rfl) 17 (by decide)) $$ [] W13 HO
  · isplitl; · iexact HR
    iexact HL
  iintro ⟨P13, Z13, HO⟩
  iapply (w_snd m K 14 (by rfl) (by rfl) 17 (by decide)) $$ [] W14 HO
  · isplitl; · iexact HR
    iexact HL
  iintro ⟨P14, Z14, HO⟩
  iapply Hk $$ R16 Y16 P12 Z12 P13 Z13 P14 Z14 HO

/-- The first blocks are fetched back. -/
theorem part27 {c : Dev nD} {s2 s3 : Memref sig .tc .smem S1 .f32} {hs2 hs3}  {α : Type} {Q : α → sProp 𝕄} {k : PUnit → Prog (TpuEff nD τ sig (Elt F) Λ₀ .tc) α} :
    env m K ⊢ iprop(wtK c (false, 15) -∗ wtK c (false, 16) -∗ RingP (P1blk m c) c 0 0 -∗ ow c (rem c 17)
      -∗ (∀ r, sndP m c 15 -∗ zc c (snd 15) -∗ sndP m c 16 -∗ zc c (snd 16) -∗ RingP (P1blk m c) c 0 2 -∗ ow c (rem c 17) -∗ WP c (k r) Q)
      -∗ WP c (k0_part27 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c >>= k) Q) := by
  simp only [k0_part27_eq_skeleton]; unfold k0_part27_skel
  simp only [Prog.lift, semSignalWord, semWaitWord, Prog.bind_op, Prog.bind_ret, Prog.pure_eq_ret]
  iintro #HE W15 W16 RP HO Hk
  icases HE with ⟨#HR, #HL⟩
  iapply (w_snd m K 15 (by rfl) (by rfl) 17 (by decide)) $$ [] W15 HO
  · isplitl; · iexact HR
    iexact HL
  iintro ⟨P15, Z15, HO⟩
  iapply (w_snd m K 16 (by rfl) (by rfl) 17 (by decide)) $$ [] W16 HO
  · isplitl; · iexact HR
    iexact HL
  iintro ⟨P16, Z16, HO⟩
  iapply (step_pin (P1blk m c) 0 0 (by decide) (by decide) (by decide) (by rfl) ((k0_off64_eq 0).trans (by rfl)) (by rfl)) $$ RP
  iintro RP
  iapply (step_pin (P1blk m c) 0 1 (by decide) (by decide) (by decide) (by rfl) ((k0_off64_eq 1).trans (by rfl)) (by rfl)) $$ RP
  iintro RP
  iapply Hk $$ P15 Z15 P16 Z16 RP HO

/-- The last loop: the far slots added, scaled, cut off at zero. -/
theorem part28 {c : Dev nD} {s2 s3 : Memref sig .tc .smem S1 .f32} {hs2 hs3} {f2 f3} (v79 v89 v99 v110 : BitVec 32) {α : Type} {Q : α → sProp 𝕄} {k : PUnit → Prog (TpuEff nD τ sig (Elt F) Λ₀ .tc) α} :
    env m K ⊢ iprop(RingP (P1blk m c) c 0 2 -∗ far m c -∗ scl c s2 f2 -∗ scl c s3 f3 -∗ RingS (P2blk m c (sval s2 f2) (sval s3 f3)) c 0 0 -∗ ow c (rem c 17)
      -∗ (∀ r, far m c -∗ scl c s2 f2 -∗ scl c s3 f3 -∗ RingS (P2blk m c (sval s2 f2) (sval s3 f3)) c 125 128 -∗ RingP (P1blk m c) c 128 128 -∗ ow c (rem c 17) -∗ WP c (k r) Q)
      -∗ WP c (k0_part28 aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13 c v79 v89 v99 v110 >>= k) Q) := by
  simp only [k0_part28_eq_skeleton]; unfold k0_part28_skel
  simp only [Prog.lift, Prog.bind_op, Prog.bind_ret, Prog.pure_eq_ret, bind_assoc]
  iintro #HE RP FR C2 C3 RG HO Hk
  icases HE with ⟨#HR, #HL⟩
  iapply (step_pin (P1blk m c) 0 2 (by decide) (by decide) (by decide) (by rfl) ((k0_off64_eq 2).trans (by rfl)) (by rfl)) $$ RP
  iintro RP
  iapply (step_pin (P1blk m c) 0 3 (by decide) (by decide) (by decide) (by rfl) ((k0_off64_eq 3).trans (by rfl)) (by rfl)) $$ RP
  iintro RP
  iapply (loop3 m f2 f3) $$ HL FR C2 C3 RG RP HO
  iintro ⟨FR, C2, C3, RG, RP, HO⟩
  iapply (step_wait (P2blk m c (sval s2 f2) (sval s3 f3)) 124 128 (by decide) (by decide) (by rfl) (by rfl) 17) $$ HL RG HO
  iintro ⟨RG, HO⟩
  iapply Hk $$ FR C2 C3 RG RP HO
-- ==== Proof.Body.lean ====
/- The body of the kernel on one device, its parts in sequence. -/
module

public import proofs.«01_k».proof.Proof.Parts2

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (K : Dev nD × CI → ℕ)

/-- The staging ring before a pass; -/
theorem ring0 (B : ℕ → S1x1024x256.Idx → Elt F .f32) (c : Dev nD) : bigSep (Finset.Ico 0 4) (freeG c) ⊢ RingS B c 0 0 := by
  unfold RingS
  rw [ico_empty (Φ := home B c) (Nat.le_refl 0), ico_empty (Φ := flO B c) (Nat.le_refl 0)]
  iintro H
  isplitr; · iempintro
  isplitr; · iempintro
  iexact H
/-- What repeats every four blocks is, over the last four, what it is over the first four. -/
theorem four_G (c : Dev nD) (f : ℕ → sProp 𝕄) (h : ∀ i, f (i + 4) = f i) : bigSep (Finset.Ico 128 132) f = bigSep (Finset.Ico 0 4) f := by
  have h' : ∀ n i, f (i + 4 * n) = f i := by
    intro n
    induction n with
    | zero => intro i; rfl
    | succ n ih => intro i; rw [show i + 4 * (n + 1) = (i + 4 * n) + 4 by omega, h, ih]
  rw [ico_head (show 128 < 132 by decide), ico_head (show 128 + 1 < 132 by decide), ico_head (show 128 + 1 + 1 < 132 by decide), ico_head (show 128 + 1 + 1 + 1 < 132 by decide),
    ico_head (show 0 < 4 by decide), ico_head (show 0 + 1 < 4 by decide), ico_head (show 0 + 1 + 1 < 4 by decide), ico_head (show 0 + 1 + 1 + 1 < 4 by decide), ico_empty (show 132 ≤ 128 + 1 + 1 + 1 + 1 by decide), ico_empty (show 4 ≤ 0 + 1 + 1 + 1 + 1 by decide),
    show f 128 = f 0 from h' 32 0, show f (128 + 1) = f (0 + 1) from h' 32 1, show f (128 + 1 + 1) = f (0 + 1 + 1) from h' 32 2, show f (128 + 1 + 1 + 1) = f (0 + 1 + 1 + 1) from h' 32 3]
/-- when every block has left. -/
theorem ring1 (B : ℕ → S1x1024x256.Idx → Elt F .f32) (c : Dev nD) : RingS B c 128 128 ⊢ iprop(bigSep (Finset.Ico 0 128) (home B c) ∗ bigSep (Finset.Ico 0 4) (freeG c)) := by
  unfold RingS
  rw [show 128 + 4 = 132 from rfl, four_G c (freeG c) (freeG_add c)]
  iintro ⟨H, -, G⟩
  isplitl [H]; · iexact H
  iexact G
/-- The ring of blocks fetched back before the last pass; -/
theorem pin0 (B : ℕ → S1x1024x256.Idx → Elt F .f32) (c : Dev nD) : iprop(bigSep (Finset.Ico 0 128) (home B c) ∗ bigSep (Finset.Ico 0 4) (freeP c)) ⊢ RingP B c 0 0 := by
  unfold RingP
  rw [ico_empty (Φ := flP B c) (Nat.le_refl 0)]
  iintro ⟨H, G⟩
  isplitr; · iempintro
  isplitl [H]; · iexact H
  iexact G
/-- after it. -/
theorem pin1 (B : ℕ → S1x1024x256.Idx → Elt F .f32) (c : Dev nD) : RingP B c 128 128 ⊢ bigSep (Finset.Ico 0 4) (freeP c) := by
  unfold RingP
  rw [show 128 + 4 = 132 from rfl, four_G c (freeP c) (freeP_add c)]
  iintro ⟨-, -, G⟩
  iexact G

/-- What the body starts from on device `c`; -/
def bodyIn (c : Dev nD) (s2 s3 : Memref sig .tc .smem S1 .f32) (f2 : Buf (Elt F) ((s2.access rS).loc (c : Thread nD τ))) (f3 : Buf (Elt F) ((s3.access rS).loc (c : Thread nD τ))) : sProp 𝕄 :=
  iprop(Sig c 0 ∗ Sig c 1 ∗ Sig c 2 ∗ (cred (tallyAt (kcell (c, none)) () 3) ∗ atPos ER (kcell (c, none)) 0 ∅ 0) ∗ bl allT (sndK c) ∗ bl allT (fun t => wtK c (true, t)) ∗ inX m c ∗ inW m c ∗ xE c (xr 0 c) 0 4096 ∗ wE c (xr 0 c) 0 512 ∗ cxZ c ∗ cwZ c ∗ bigSep (Finset.Ico 0 72) (anyO c) ∗ bigSep (Finset.Ico 72 128) (anyO c) ∗ bigSep (Finset.Ico 0 4) (freeG c) ∗ bigSep (Finset.Ico 0 4) (freeP c) ∗ scl c s2 f2 ∗ scl c s3 f3 ∗ ow c (owed c))
/-- what it ends with: the result's blocks home, every cell closed, nothing owed. -/
def bodyOut (c : Dev nD) (s2 s3 : Memref sig .tc .smem S1 .f32) (f2 : Buf (Elt F) ((s2.access rS).loc (c : Thread nD τ))) (f3 : Buf (Elt F) ((s3.access rS).loc (c : Thread nD τ))) : sProp 𝕄 :=
  iprop(inX m c ∗ inW m c ∗ cxZ c ∗ cwZ c ∗ near m c qs2 ∗ far m c ∗ zc c none ∗ bl allT (fun t => zc c (snd t)) ∗ bl allT (fun t => zc c (rcv t)) ∗ bigSep (Finset.Ico 0 128) (home (P2blk m c (sval s2 f2) (sval s3 f3)) c) ∗ bigSep (Finset.Ico 0 4) (freeG c) ∗ bigSep (Finset.Ico 0 4) (freeP c) ∗ scl c s2 f2 ∗ scl c s3 f3 ∗ ow c [])

/-- The body, its parts in order. -/
theorem body_run {c : Dev nD} {s2 s3 : Memref sig .tc .smem S1 .f32} {hs2 hs3} {Q : PUnit → sProp 𝕄} {f2 f3} :
    env m K ⊢ iprop(bodyIn m c s2 s3 f2 f3 -∗ (bodyOut m c s2 s3 f2 f3 -∗ Q ⟨⟩) -∗ WP c (cc0_body aM (Memref.isWhole_whole _) bM (Memref.isWhole_whole _) s2 hs2 s3 hs3 oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13) Q) := by
  rw [cc0_body_eq_skeleton]; unfold cc0_body_skel
  unfold bodyIn bodyOut
  iintro #HE ⟨T0, T1, T2, HB, HK, HV, HX, HW, EXx, EW, ZX, ZW, AO, AO2, FG, FP, C2, C3, HO⟩ Hk
  icases HE with ⟨#HR, #HL⟩
  iapply part8
  iintro %v2 %v19 %v37 %v38 %v39 %c2
  try dsimp only
  iapply part9
  iintro %v42 %v51 %v60 %v69 %v79 %v80 %c1
  try dsimp only
  iapply (part10 m K) $$ HR T0 T1 HO
  iintro %v89 %v99 %v110 %v116 HO
  try dsimp only
  iapply (part11 m K) $$ [] T2 HB HX HW EXx EW HK ZX ZW HO
  · isplitl; · iexact HR
    iexact HL
  iintro %_ ZB HX HW ZX ZW W0 SG P2 P3 HO
  try dsimp only
  ihave SG := (Entails.of_eq (show (bl [1, 2, 3, 4, 5] (Sg m c) : sProp 𝕄) = iprop(Sg m c 1 ∗ Sg m c 2 ∗ Sg m c 3 ∗ Sg m c 4 ∗ Sg m c 5 ∗ emp) from rfl)) $$ SG
  icases SG with ⟨S1, S2, S3, S4, S5, -⟩
  ihave HV := (Entails.of_eq (show (bl allT (fun t => wtK c (true, t)) : sProp 𝕄) = iprop(wtK c (true, 0) ∗ wtK c (true, 1) ∗ wtK c (true, 2) ∗ wtK c (true, 3) ∗ wtK c (true, 4) ∗ wtK c (true, 5) ∗ wtK c (true, 6) ∗ wtK c (true, 7) ∗ wtK c (true, 8) ∗ wtK c (true, 9) ∗ wtK c (true, 10) ∗ wtK c (true, 11) ∗ wtK c (true, 12) ∗ wtK c (true, 13) ∗ wtK c (true, 14) ∗ wtK c (true, 15) ∗ wtK c (true, 16) ∗ emp) from rfl)) $$ HV
  icases HV with ⟨V0, V1, V2, V3, V4, V5, V6, V7, V8, V9, V10, V11, V12, V13, V14, V15, V16, -⟩
  iapply (part12 m K) $$ [] S1 S2 S3 S4 HO
  · isplitl; · iexact HR
    iexact HL
  iintro %v176 %c0 W1 W2 W3 W4 HO
  try dsimp only
  iapply (part13 m K) $$ [] S5 V0 V1 HO
  · isplitl; · iexact HR
    iexact HL
  iintro %_ W5 R0 Y0 R1 Y1 HO
  try dsimp only
  iapply (part14 m K) $$ [] V2 V3 V4 V5 HO
  · isplitl; · iexact HR
    iexact HL
  iintro %_ R2 Y2 R3 Y3 R4 Y4 R5 Y5 HO
  try dsimp only
  iapply (part15 m K) $$ [] W0 W1 W2 W3 W4 HO
  · isplitl; · iexact HR
    iexact HL
  iintro %_ Q0 Z0 Q1 Z1 Q2 Z2 Q3 Z3 Q4 Z4 HO
  try dsimp only
  ihave RR := (Entails.of_eq (show (iprop(rcvP m c 0 ∗ rcvP m c 1 ∗ rcvP m c 2 ∗ rcvP m c 3 ∗ rcvP m c 4 ∗ rcvP m c 5 ∗ emp) : sProp 𝕄) = bl [0, 1, 2, 3, 4, 5] (rcvP m c) from rfl)) $$ [R0 R1 R2 R3 R4 R5]
  · isplitl [R0]; · iexact R0
    isplitl [R1]; · iexact R1
    isplitl [R2]; · iexact R2
    isplitl [R3]; · iexact R3
    isplitl [R4]; · iexact R4
    isplitl [R5]; · iexact R5
    iempintro
  ihave RR := (lend2 m c) $$ RR
  icases RR with ⟨NK, SL⟩
  ihave SG := (arm m c [6, 7, 8, 9, 10, 11]) $$ [P2 SL]
  · isplitl [P2]; · iexact P2
    iexact SL
  ihave SG := (Entails.of_eq (show (bl [6, 7, 8, 9, 10, 11] (Sg m c) : sProp 𝕄) = iprop(Sg m c 6 ∗ Sg m c 7 ∗ Sg m c 8 ∗ Sg m c 9 ∗ Sg m c 10 ∗ Sg m c 11 ∗ emp) from rfl)) $$ SG
  icases SG with ⟨S6, S7, S8, S9, S10, S11, -⟩
  iapply (part16 m K) $$ [] W5 S6 S7 HO
  · isplitl; · iexact HR
    iexact HL
  iintro %_ Q5 Z5 W6 W7 HO
  try dsimp only
  ihave QQ := (Entails.of_eq (show (iprop(sndP m c 0 ∗ sndP m c 1 ∗ sndP m c 2 ∗ sndP m c 3 ∗ sndP m c 4 ∗ sndP m c 5 ∗ emp) : sProp 𝕄) = bl [0, 1, 2, 3, 4, 5] (sndP m c) from rfl)) $$ [Q0 Q1 Q2 Q3 Q4 Q5]
  · isplitl [Q0]; · iexact Q0
    isplitl [Q1]; · iexact Q1
    isplitl [Q2]; · iexact Q2
    isplitl [Q3]; · iexact Q3
    isplitl [Q4]; · iexact Q4
    isplitl [Q5]; · iexact Q5
    iempintro
  ihave NR := (back1 m c) $$ QQ
  ihave NR := NK $$ NR
  iapply (part17 m K) $$ [] S8 S9 S10 S11 HO
  · isplitl; · iexact HR
    iexact HL
  iintro %e1 %e2 W8 W9 W10 W11 HO
  try dsimp only
  ihave RG := (ring0 (P1blk m c) c) $$ FG
  iapply (part18 m K qs1) $$ [] NR RG AO HO
  · isplitl; · iexact HR
    iexact HL
  iintro %_ NR RG HO
  try dsimp only
  iapply (part19 m K) $$ [] RG V6 V7 V8 HO
  · isplitl; · iexact HR
    iexact HL
  iintro %_ RG R6 Y6 R7 Y7 R8 Y8 HO
  try dsimp only
  iapply (part20 m K) $$ [] V9 V10 V11 W6 HO
  · isplitl; · iexact HR
    iexact HL
  iintro %_ R9 Y9 R10 Y10 R11 Y11 Q6 Z6 HO
  try dsimp only
  iapply (part21 m K) $$ [] W7 W8 W9 W10 W11 HO
  · isplitl; · iexact HR
    iexact HL
  iintro %_ Q7 Z7 Q8 Z8 Q9 Z9 Q10 Z10 Q11 Z11 HO
  try dsimp only
  ihave QQ := (Entails.of_eq (show (iprop(sndP m c 6 ∗ sndP m c 7 ∗ sndP m c 8 ∗ sndP m c 9 ∗ sndP m c 10 ∗ sndP m c 11 ∗ emp) : sProp 𝕄) = bl [6, 7, 8, 9, 10, 11] (sndP m c) from rfl)) $$ [Q6 Q7 Q8 Q9 Q10 Q11]
  · isplitl [Q6]; · iexact Q6
    isplitl [Q7]; · iexact Q7
    isplitl [Q8]; · iexact Q8
    isplitl [Q9]; · iexact Q9
    isplitl [Q10]; · iexact Q10
    isplitl [Q11]; · iexact Q11
    iempintro
  ihave NR := (back2 m c) $$ [NR QQ]
  · isplitl [NR]; · iexact NR
    iexact QQ
  ihave RR := (Entails.of_eq (show (iprop(rcvP m c 6 ∗ rcvP m c 7 ∗ rcvP m c 8 ∗ rcvP m c 9 ∗ rcvP m c 10 ∗ rcvP m c 11 ∗ emp) : sProp 𝕄) = bl [6, 7, 8, 9, 10, 11] (rcvP m c) from rfl)) $$ [R6 R7 R8 R9 R10 R11]
  · isplitl [R6]; · iexact R6
    isplitl [R7]; · iexact R7
    isplitl [R8]; · iexact R8
    isplitl [R9]; · iexact R9
    isplitl [R10]; · iexact R10
    isplitl [R11]; · iexact R11
    iempintro
  ihave RR := (lend3 m c) $$ RR
  icases RR with ⟨KP, SL⟩
  ihave SG := (arm m c [12, 13, 14, 15, 16]) $$ [P3 SL]
  · isplitl [P3]; · iexact P3
    iexact SL
  ihave SG := (Entails.of_eq (show (bl [12, 13, 14, 15, 16] (Sg m c) : sProp 𝕄) = iprop(Sg m c 12 ∗ Sg m c 13 ∗ Sg m c 14 ∗ Sg m c 15 ∗ Sg m c 16 ∗ emp) from rfl)) $$ SG
  icases SG with ⟨S12, S13, S14, S15, S16, -⟩
  iapply (part22 m K) $$ [] S12 S13 S14 HO
  · isplitl; · iexact HR
    iexact HL
  iintro %k1 W12 W13 W14 HO
  try dsimp only
  iapply (part23 m K qs2) $$ [] S15 S16 NR RG AO2 HO
  · isplitl; · iexact HR
    iexact HL
  iintro %v501 W15 W16 NR RG HO
  try dsimp only
  iapply (part24 m K) $$ [] RG HO
  · isplitl; · iexact HR
    iexact HL
  iintro %_ RG HO
  try dsimp only
  iapply (part25 m K) $$ [] V12 V13 V14 V15 HO
  · isplitl; · iexact HR
    iexact HL
  iintro %_ R12 Y12 R13 Y13 R14 Y14 R15 Y15 HO
  try dsimp only
  iapply (part26 m K) $$ [] V16 W12 W13 W14 HO
  · isplitl; · iexact HR
    iexact HL
  iintro %_ R16 Y16 Q12 Z12 Q13 Z13 Q14 Z14 HO
  try dsimp only
  ihave RG := (ring1 (P1blk m c) c) $$ RG
  icases RG with ⟨HH, FG⟩
  ihave RP := (pin0 (P1blk m c) c) $$ [HH FP]
  · isplitl [HH]; · iexact HH
    iexact FP
  iapply (part27 m K) $$ [] W15 W16 RP HO
  · isplitl; · iexact HR
    iexact HL
  iintro %_ Q15 Z15 Q16 Z16 RP HO
  try dsimp only
  ihave QQ := (Entails.of_eq (show (iprop(sndP m c 12 ∗ sndP m c 13 ∗ sndP m c 14 ∗ sndP m c 15 ∗ sndP m c 16 ∗ emp) : sProp 𝕄) = bl [12, 13, 14, 15, 16] (sndP m c) from rfl)) $$ [Q12 Q13 Q14 Q15 Q16]
  · isplitl [Q12]; · iexact Q12
    isplitl [Q13]; · iexact Q13
    isplitl [Q14]; · iexact Q14
    isplitl [Q15]; · iexact Q15
    isplitl [Q16]; · iexact Q16
    iempintro
  ihave RR := (Entails.of_eq (show (iprop(rcvP m c 12 ∗ rcvP m c 13 ∗ rcvP m c 14 ∗ rcvP m c 15 ∗ rcvP m c 16 ∗ emp) : sProp 𝕄) = bl [12, 13, 14, 15, 16] (rcvP m c) from rfl)) $$ [R12 R13 R14 R15 R16]
  · isplitl [R12]; · iexact R12
    isplitl [R13]; · iexact R13
    isplitl [R14]; · iexact R14
    isplitl [R15]; · iexact R15
    isplitl [R16]; · iexact R16
    iempintro
  ihave FR := (back3 m c) $$ [KP QQ RR]
  · isplitl [KP]; · iexact KP
    isplitl [QQ]; · iexact QQ
    iexact RR
  ihave RG := (ring0 (P2blk m c (sval s2 f2) (sval s3 f3)) c) $$ FG
  iapply (part28 m K) $$ [] RP FR C2 C3 RG HO
  · isplitl; · iexact HR
    iexact HL
  iintro %_ FR C2 C3 RG RP HO
  try dsimp only
  simp only [Prog.lift, Prog.bind_op, Prog.bind_ret, Prog.pure_eq_ret]
  iapply (step_wait (P2blk m c (sval s2 f2) (sval s3 f3)) 125 128 (by decide) (by decide) (by rfl) (by rfl) 17) $$ HL RG HO
  iintro ⟨RG, HO⟩
  iapply (step_wait (P2blk m c (sval s2 f2) (sval s3 f3)) 126 128 (by decide) (by decide) (by rfl) (by rfl) 17) $$ HL RG HO
  iintro ⟨RG, HO⟩
  iapply (step_wait (P2blk m c (sval s2 f2) (sval s3 f3)) 127 128 (by decide) (by decide) (by rfl) (by rfl) 17) $$ HL RG HO
  iintro ⟨RG, HO⟩
  iapply fin_ret
  ihave RG := (ring1 (P2blk m c (sval s2 f2) (sval s3 f3)) c) $$ RG
  icases RG with ⟨HH, FG⟩
  ihave FP := (pin1 (P1blk m c) c) $$ RP
  ihave ZS := (Entails.of_eq (show (iprop(zc c (snd 0) ∗ zc c (snd 1) ∗ zc c (snd 2) ∗ zc c (snd 3) ∗ zc c (snd 4) ∗ zc c (snd 5) ∗ zc c (snd 6) ∗ zc c (snd 7) ∗ zc c (snd 8) ∗ zc c (snd 9) ∗ zc c (snd 10) ∗ zc c (snd 11) ∗ zc c (snd 12) ∗ zc c (snd 13) ∗ zc c (snd 14) ∗ zc c (snd 15) ∗ zc c (snd 16) ∗ emp) : sProp 𝕄) = bl allT (fun t => zc c (snd t)) from rfl)) $$ [Z0 Z1 Z2 Z3 Z4 Z5 Z6 Z7 Z8 Z9 Z10 Z11 Z12 Z13 Z14 Z15 Z16]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    iempintro
  ihave ZR := (Entails.of_eq (show (iprop(zc c (rcv 0) ∗ zc c (rcv 1) ∗ zc c (rcv 2) ∗ zc c (rcv 3) ∗ zc c (rcv 4) ∗ zc c (rcv 5) ∗ zc c (rcv 6) ∗ zc c (rcv 7) ∗ zc c (rcv 8) ∗ zc c (rcv 9) ∗ zc c (rcv 10) ∗ zc c (rcv 11) ∗ zc c (rcv 12) ∗ zc c (rcv 13) ∗ zc c (rcv 14) ∗ zc c (rcv 15) ∗ zc c (rcv 16) ∗ emp) : sProp 𝕄) = bl allT (fun t => zc c (rcv t)) from rfl)) $$ [Y0 Y1 Y2 Y3 Y4 Y5 Y6 Y7 Y8 Y9 Y10 Y11 Y12 Y13 Y14 Y15 Y16]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    isplitl [Y11]; · iexact Y11
    isplitl [Y12]; · iexact Y12
    isplitl [Y13]; · iexact Y13
    isplitl [Y14]; · iexact Y14
    isplitl [Y15]; · iexact Y15
    isplitl [Y16]; · iexact Y16
    iempintro
  ihave HO := (Entails.of_eq (show (ow c (rem c 17) : sProp 𝕄) = ow c [] from rfl)) $$ HO
  iapply Hk
  isplitl [HX]; · iexact HX
  isplitl [HW]; · iexact HW
  isplitl [ZX]; · iexact ZX
  isplitl [ZW]; · iexact ZW
  isplitl [NR]; · iexact NR
  isplitl [FR]; · iexact FR
  isplitl [ZB]; · iexact ZB
  isplitl [ZS]; · iexact ZS
  isplitl [ZR]; · iexact ZR
  isplitl [HH]; · iexact HH
  isplitl [FG]; · iexact FG
  isplitl [FP]; · iexact FP
  isplitl [C2]; · iexact C2
  isplitl [C3]; · iexact C3
  iexact HO
-- ==== Proof.Cuts.lean ====
/- The output cut into its blocks, the two rings into their slots, a device's semaphores into what they serve. -/
module

public import proofs.«01_k».proof.Proof.Body
public import Idealize.ShloMosaic.Lib.Ring
public import Idealize.ShloMosaic.Lib.Pipeline.BigSepL

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Lists of assertions -/

/-- A list's assertions side by side, as the library writes them; -/
theorem bl_eq {α : Type} (l : List α) (Φ : α → sProp 𝕄) : bl l Φ = bigSepL l Φ := by
  induction l with
  | nil => rfl
  | cons a l ih => rw [bigSepL_cons, ← ih]; rfl
/-- of two lists in a row; -/
theorem bl_append {α : Type} (l l' : List α) (Φ : α → sProp 𝕄) : bl (l ++ l') Φ = iprop(bl l Φ ∗ bl l' Φ) := by
  rw [bl_eq, bl_eq, bl_eq, bigSepL_append]
/-- of a list's images; -/
theorem bl_map {α β : Type} (g : α → β) (l : List α) (Φ : β → sProp 𝕄) : bl (l.map g) Φ = bl l fun a => Φ (g a) := by
  rw [bl_eq, bl_eq, bigSepL_map]
/-- of a list with a head; -/
theorem bl_cons {α : Type} (a : α) (l : List α) (Φ : α → sProp 𝕄) : bl (a :: l) Φ = iprop(Φ a ∗ bl l Φ) := rfl
/-- of two assertions for each element; -/
theorem bl_sep {α : Type} (l : List α) (Φ Ψ : α → sProp 𝕄) : bl l (fun a => iprop(Φ a ∗ Ψ a)) ⊣⊢ iprop(bl l Φ ∗ bl l Ψ) := by
  induction l with
  | nil =>
    constructor
    · iintro -; isplitl; · iempintro
      iempintro
    · iintro -; iempintro
  | cons a l ih =>
    rw [bl_cons, bl_cons, bl_cons]
    constructor
    · iintro ⟨⟨H1, H2⟩, H⟩
      ihave H := ih.1 $$ H
      icases H with ⟨H3, H4⟩
      iframe
    · iintro ⟨⟨H1, H3⟩, H2, H4⟩
      ihave H := ih.2 $$ [H3 H4]
      · iframe
      iframe
/-- of a list that names every element once. -/
theorem bl_univ {α : Type} [Fintype α] [DecidableEq α] (l : List α) (h : Finset.univ = l.toFinset) (hl : l.Nodup) (Φ : α → sProp 𝕄) :
    bigSep Finset.univ Φ = bl l Φ := by rw [bl_eq, bigSep_univ_eq_bigSepL l h hl]
/-- A device's cells one by one. -/
theorem cells_all (Φ : CI → sProp 𝕄) : bigSep Finset.univ Φ = iprop(Φ none ∗ bl allT (fun t => Φ (snd t)) ∗ bl allT (fun t => Φ (rcv t))) := by
  rw [bl_univ (none :: (allT.map snd ++ allT.map rcv)) (by decide +kernel) (by decide +kernel), bl_cons, bl_append, bl_map, bl_map]

/-! ## The output -/

/-- Two blocks of the result share no element. -/
theorem o_disj (i j : ℕ) (h : i ≠ j) : Disjoint (oS i) (oS j) := by
  rw [Finset.disjoint_left]; intro x; simp only [mem_oS]
  rintro ⟨h1, h2⟩ ⟨h3, h4⟩; omega
/-- The result's array is its 128 blocks. -/
theorem o_all (c : Dev nD) (f : Buf (Elt F) ((c : Thread nD τ).loc main_v1)) :
    ((c : Thread nD τ).loc main_v1 ↦[Finset.univ]{fullShare} f : sProp 𝕄)
      = bigSep (Finset.Ico 0 128) fun i => ((c : Thread nD τ).loc main_v1 ↦[oS i]{fullShare} f : sProp 𝕄) := by
  have h := pointsTo_biUnion (ℓ := (c : Thread nD τ).loc main_v1) (q := fullShare) (f := f) (Ix := Unit) (Name := ℕ) (U := UU) (Lvl := ℕ) (Finset.Ico 0 128) oS fun a _ b _ hab => o_disj a b hab
  rw [← h]
  refine congrArg (fun S => ((c : Thread nD τ).loc main_v1 ↦[S]{fullShare} f : sProp 𝕄)) (Finset.ext fun (i : S4096x8192.Idx) => ?_)
  have h0 : (i 0).val < 4096 := (i 0).isLt
  have h1 : (i 1).val < 8192 := (i 1).isLt
  exact ⟨fun _ => Finset.mem_biUnion.mpr ⟨(i 0).val / 1024 + 4 * ((i 1).val / 256), Finset.mem_Ico.mpr ⟨Nat.zero_le _, by omega⟩, mem_oS.mpr ⟨by omega, by omega⟩⟩, fun _ => Finset.mem_univ _⟩
/-- A block at some contents is a block holding anything. -/
theorem anyO_of (c : Dev nD) (i : ℕ) (f : Buf (Elt F) ((c : Thread nD τ).loc main_v1)) : ((c : Thread nD τ).loc main_v1 ↦[oS i]{fullShare} f : sProp 𝕄) ⊢ anyO c i := by
  unfold anyO; iintro H; iexists f; iexact H
/-- The output before the run, as its blocks, the first pass's and the second's; -/
theorem out_start (c : Dev nD) (f : Buf (Elt F) ((c : Thread nD τ).loc main_v1)) :
    ((c : Thread nD τ).loc main_v1 ↦[Finset.univ]{fullShare} f : sProp 𝕄) ⊢ iprop(bigSep (Finset.Ico 0 72) (anyO c) ∗ bigSep (Finset.Ico 72 128) (anyO c)) := by
  rw [o_all, ← Finset.Ico_union_Ico_eq_Ico (show 0 ≤ 72 by decide) (show 72 ≤ 128 by decide), BI.bigSep_union (Finset.Ico_disjoint_Ico_consecutive 0 72 128)]
  exact BI.sep_mono (bigSep_mono fun i _ => anyO_of c i f) (bigSep_mono fun i _ => anyO_of c i f)
/-- after it, at its blocks' values. -/
theorem out_end (B : ℕ → S1x1024x256.Idx → Elt F .f32) (c : Dev nD) :
    bigSep (Finset.Ico 0 128) (home B c) ⊢ ((c : Thread nD τ).loc main_v1 ↦[Finset.univ]{fullShare} asm B : sProp 𝕄) := by
  rw [o_all]; exact .rfl

/-! ## The rings of four -/

/-- The first four numbers, one by one. -/
theorem ico4 (Φ : ℕ → sProp 𝕄) : bigSep (Finset.Ico 0 4) Φ = bigSep Finset.univ fun s : Fin 4 => Φ s.val := by
  rw [bigSep_eq_bigSepL_of_eq [0, 1, 2, 3] (by decide) (by decide), bigSep_univ_eq_bigSepL [0, 1, 2, 3] (by decide) (by decide)]; rfl
/-- Two slots of a ring share no element; -/
theorem g_disj (a b : Fin 4) (h : a ≠ b) : Disjoint (gS (a.val % 4)) (gS (b.val % 4)) := by
  rw [Finset.disjoint_left]; intro i; simp only [mem_gS]; intro h1 h2
  have := a.isLt; have := b.isLt; exact h (Fin.ext (by omega))
/-- the four slots are the ring. -/
theorem g_cov : (Finset.univ : Finset (Fin 4)).biUnion (fun s => gS (s.val % 4)) = Finset.univ := by
  refine Finset.ext fun i => ⟨fun _ => Finset.mem_univ _, fun _ => Finset.mem_biUnion.mpr ⟨⟨(i 0).val, (i 0).isLt⟩, Finset.mem_univ _, mem_gS.mpr ?_⟩⟩
  have : (i 0).val < 4 := (i 0).isLt
  show (i 0).val = (i 0).val % 4; omega
/-- The staging ring as its slots, -/
theorem st_start (c : Dev nD) (f : Buf (Elt F) ((c : Thread nD τ).loc cc0_scratch11)) : ((c : Thread nD τ).loc cc0_scratch11 ↦[Finset.univ]{fullShare} f : sProp 𝕄) ⊢ bigSep (Finset.Ico 0 4) (stE c) := by
  rw [ico4]
  refine (Entails.of_eq (Ring.pointsTo_blocks (ℓ := (c : Thread nD τ).loc cc0_scratch11) (Ix := Unit) (Name := ℕ) (U := UU) (Lvl := ℕ) (fun s : Fin 4 => gS (s.val % 4)) g_disj g_cov (q := fullShare) f)).trans (bigSep_mono fun s _ => ?_)
  show ((c : Thread nD τ).loc cc0_scratch11 ↦[gS (s.val % 4)]{fullShare} f : sProp 𝕄) ⊢ stE c s.val
  unfold stE; iintro H; iexists f; iexact H
/-- and its slots as it. -/
theorem st_end (c : Dev nD) : bigSep (Finset.Ico 0 4) (stE c) ⊢ (iprop(∃ f : Buf (Elt F) ((c : Thread nD τ).loc cc0_scratch11), (c : Thread nD τ).loc cc0_scratch11 ↦[Finset.univ]{fullShare} f) : sProp 𝕄) := by
  rw [ico4]
  exact Ring.pointsTo_blocks_join_exists (ℓ := (c : Thread nD τ).loc cc0_scratch11) (Ix := Unit) (Name := ℕ) (U := UU) (Lvl := ℕ) (fun s : Fin 4 => gS (s.val % 4)) g_disj g_cov (rep fun _ => FloatOps.ofBits _ 0)
/-- The other ring as its slots, -/
theorem pi_start (c : Dev nD) (f : Buf (Elt F) ((c : Thread nD τ).loc cc0_scratch10)) : ((c : Thread nD τ).loc cc0_scratch10 ↦[Finset.univ]{fullShare} f : sProp 𝕄) ⊢ bigSep (Finset.Ico 0 4) (piE c) := by
  rw [ico4]
  refine (Entails.of_eq (Ring.pointsTo_blocks (ℓ := (c : Thread nD τ).loc cc0_scratch10) (Ix := Unit) (Name := ℕ) (U := UU) (Lvl := ℕ) (fun s : Fin 4 => gS (s.val % 4)) g_disj g_cov (q := fullShare) f)).trans (bigSep_mono fun s _ => ?_)
  show ((c : Thread nD τ).loc cc0_scratch10 ↦[gS (s.val % 4)]{fullShare} f : sProp 𝕄) ⊢ piE c s.val
  unfold piE; iintro H; iexists f; iexact H
/-- and its slots as it. -/
theorem pi_end (c : Dev nD) : bigSep (Finset.Ico 0 4) (piE c) ⊢ (iprop(∃ f : Buf (Elt F) ((c : Thread nD τ).loc cc0_scratch10), (c : Thread nD τ).loc cc0_scratch10 ↦[Finset.univ]{fullShare} f) : sProp 𝕄) := by
  rw [ico4]
  exact Ring.pointsTo_blocks_join_exists (ℓ := (c : Thread nD τ).loc cc0_scratch10) (Ix := Unit) (Name := ℕ) (U := UU) (Lvl := ℕ) (fun s : Fin 4 => gS (s.val % 4)) g_disj g_cov (rep fun _ => FloatOps.ofBits _ 0)
/-- The slots and semaphores of a ring, each slot with its own. -/
theorem free_G (c : Dev nD) : bigSep (Finset.Ico 0 4) (freeG c) = iprop(bigSep (Finset.Ico 0 4) (stE c) ∗ bl [0, 1, 2, 3] (soZ (F := F) c)) := by
  rw [show freeG (F := F) c = fun i => iprop(stE c i ∗ soZ c i) from rfl, bigSep_sep', bigSep_eq_bigSepL_of_eq (Φ := soZ c) [0, 1, 2, 3] (by decide) (by decide), bl_eq]
/-- The slots of the other ring and their semaphores apart. -/
theorem free_P (c : Dev nD) : bigSep (Finset.Ico 0 4) (freeP c) = iprop(bigSep (Finset.Ico 0 4) (piE c) ∗ bl [0, 1, 2, 3] (piZ (F := F) c)) := by
  rw [show freeP (F := F) c = fun i => iprop(piE c i ∗ piZ c i) from rfl, bigSep_sep', bigSep_eq_bigSepL_of_eq (Φ := piZ c) [0, 1, 2, 3] (by decide) (by decide), bl_eq]

/-! ## The semaphores -/

/-- The kernel's own semaphores: all but the two that stage the scales. -/
abbrev osem : Fin 55 → SemLoc sig := fun i => .dma (⟨i.val + 2, by have := i.isLt; show i.val + 2 < 57; omega⟩ : Fin 57)
/-- A semaphore as the launch counts them. -/
def oix (q : Fin 57) : Fin 55 := ⟨q.val - 2, by have := q.isLt; omega⟩
/-- The semaphores no transfer of device `c` uses. -/
def idle (c : Dev nD) : List (Fin 57) :=
  [8, 15, ⟨16 + (xr 0 c).val, by have : (xr 0 c).val < 8 := (xr 0 c).isLt; omega⟩, ⟨16 + (xr 6 c).val, by have : (xr 6 c).val < 8 := (xr 6 c).isLt; omega⟩,
    ⟨24 + (xr 0 c).val, by have : (xr 0 c).val < 8 := (xr 0 c).isLt; omega⟩, ⟨24 + (xr 6 c).val, by have : (xr 6 c).val < 8 := (xr 6 c).isLt; omega⟩, 37, 38, 39, 40, 41]
/-- All of them, by what they serve. -/
def semL (c : Dev nD) : List (Fin 57) := allT.map sN ++ (allT.map (fun t => rN t c) ++ (47 :: 48 :: ([0, 1, 2, 3].map soF ++ ([0, 1, 2, 3].map piF ++ idle c))))

/-- The list names every semaphore of the kernel's own, -/
theorem semL_all : ∀ c : Dev nD, (Finset.univ : Finset (Fin 55)) = ((semL c).map oix).toFinset := by decide +kernel
/-- each once, -/
theorem semL_nodup : ∀ c : Dev nD, ((semL c).map oix).Nodup := by decide +kernel
/-- and none of those that stage the scales. -/
theorem semL_back : ∀ c : Dev nD, ∀ q ∈ semL c, 2 ≤ q.val := by decide +kernel

/-- The semaphores that no transfer between devices uses, at zero. -/
def spare (c : Dev nD) : sProp 𝕄 :=
  iprop(cxZ c ∗ cwZ c ∗ bl [0, 1, 2, 3] (soZ c) ∗ bl [0, 1, 2, 3] (piZ c) ∗ bl (idle c) fun q => semVal ((c : Thread nD τ), SemLoc.dma q) 0)

/-- Equal assertions side by side are equal. -/
theorem bl_congr {α : Type} {l : List α} {Φ Ψ : α → sProp 𝕄} (h : ∀ a ∈ l, Φ a = Ψ a) : bl l Φ = bl l Ψ := by
  induction l with
  | nil => rfl
  | cons a l ih => rw [bl_cons, bl_cons, h a List.mem_cons_self, ih fun b hb => h b (List.mem_cons_of_mem _ hb)]

/-- The kernel's own semaphores are the transfers' cells and the spare ones; -/
theorem own_eq (c : Dev nD) : (Pipeline.ownSems0 (Ix := Unit) (Name := ℕ) (U := UU) (Lvl := ℕ) (Val := Elt F) (τ := τ) osem c : sProp 𝕄)
    = iprop(bl allT (fun t => zc c (snd t)) ∗ bl allT (fun t => zc c (rcv t)) ∗ spare c) := by
  rw [Pipeline.ownSems0_eq_of_list c osem ((semL c).map oix) (semL_all c) (semL_nodup c), ← bl_eq, bl_map,
    bl_congr (Ψ := fun q : Fin 57 => semVal ((c : Thread nD τ), SemLoc.dma q) 0) fun q hq => by
      have h := semL_back c q hq
      rw [show osem (oix q) = SemLoc.dma q from congrArg SemLoc.dma (Fin.ext (show q.val - 2 + 2 = q.val by omega))]]
  unfold semL
  rw [bl_append, bl_append, bl_cons, bl_cons, bl_append, bl_append, bl_map, bl_map]
  rfl
/-- the one semaphore that outlives the kernel is the barrier. -/
theorem unscoped_eq (c : Dev nD) : (unscopedSems0 c : sProp 𝕄) = zc c none := by
  unfold unscopedSems0; rw [bigSep_eq_bigSepL_of_eq [SemLoc.reg barS] (by decide) (by decide)]; rfl

end Cert.K

end
-- ==== Proof.Fund.lean ====
/- What the launch deals: the tokens, the cells' invariants, the credits. -/
module

public import proofs.«01_k».proof.Proof.Cuts
public import proofs.«01_k».proof.Proof.Gen.KernelIdeal.Launch
public import Idealize.ShloMosaic.Lib.Pipeline.Kit

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens -/

/-- The exchange's cells, of all devices. -/
def exCells : Finset (GSem nD τ sig) := Finset.univ.map ⟨kcell, kcell_inj⟩

/-- The duties a device pays: a unit to each neighbour's barrier, each transfer's send and receive. -/
abbrev TI : Type := Fin 3 ⊕ (Bool × Fin 17)
/-- Where a device pays each. -/
def payAt (d : Dev nD) : TI → (Dev nD × CI) × Fin 3
  | .inl i => ((xr (nbr i) d, none), i)
  | .inr (false, t) => ((d, snd t), 0)
  | .inr (true, t) => ((xr (pT t) d, rcv t), 0)
/-- The token of a duty: its cell, its round and which of the cell's duties it is. -/
def tokOf (x : Dev nD × TI) : GSem nD τ sig × ℕ × Fin 3 := (kcell (payAt x.1 x.2).1, 0, (payAt x.1 x.2).2)

/-- No two duties are paid at one place, -/
theorem payAt_inj : ∀ x y : Dev nD × TI, payAt x.1 x.2 = payAt y.1 y.2 → x = y := by
  rintro ⟨d, i | ⟨_ | _, t⟩⟩ ⟨d', j | ⟨_ | _, t'⟩⟩ h
  · have hi : i = j := congrArg Prod.snd h
    subst hi
    have hd := (xrPerm (nbr i)).injective (congrArg (fun x : (Dev nD × CI) × Fin 3 => x.1.1) h)
    have hd : d = d' := hd
    rw [hd]
  · cases congrArg (fun x : (Dev nD × CI) × Fin 3 => x.1.2) h
  · cases congrArg (fun x : (Dev nD × CI) × Fin 3 => x.1.2) h
  · cases congrArg (fun x : (Dev nD × CI) × Fin 3 => x.1.2) h
  · have hd : d = d' := congrArg (fun x : (Dev nD × CI) × Fin 3 => x.1.1) h
    have ht : snd t = snd t' := congrArg (fun x : (Dev nD × CI) × Fin 3 => x.1.2) h
    cases ht; rw [hd]
  · cases congrArg (fun x : (Dev nD × CI) × Fin 3 => x.1.2) h
  · cases congrArg (fun x : (Dev nD × CI) × Fin 3 => x.1.2) h
  · cases congrArg (fun x : (Dev nD × CI) × Fin 3 => x.1.2) h
  · have ht : rcv t = rcv t' := congrArg (fun x : (Dev nD × CI) × Fin 3 => x.1.2) h
    cases ht
    have hd := (xrPerm (pT t)).injective (congrArg (fun x : (Dev nD × CI) × Fin 3 => x.1.1) h)
    have hd : d = d' := hd
    rw [hd]
/-- so no two have one token. -/
theorem tokOf_inj : Function.Injective tokOf := fun x y h =>
  payAt_inj x y (Prod.ext (kcell_inj (congrArg Prod.fst h)) (congrArg (fun z : GSem nD τ sig × ℕ × Fin 3 => z.2.2) h))
/-- All the tokens. -/
def exToks : Finset (GSem nD τ sig × ℕ × Fin 3) := Finset.univ.map ⟨tokOf, tokOf_inj⟩

/-- The launch element: the staging's rounds, the exchange's, no counter yet. -/
def u₀ : UU := (initOf (Pipeline.cells cfgs cellOf_inj) (Pipeline.launchToks cfgs cellOf_inj), (initOf exCells exToks, 1))

/-- The tokens device `c` pays with. -/
def toks (c : Dev nD) : sProp 𝕄 := bigSep Finset.univ fun x : TI => dutyTok ER (kcell (payAt c x).1) 0 (payAt c x).2
/-- A device's tokens: three for its neighbours' barriers, one for each send, one for each receive. -/
theorem toks_eq (c : Dev nD) : (toks c : sProp 𝕄)
    = iprop((dutyTok ER (kcell (xr (nbr 0) c, none)) 0 0 ∗ dutyTok ER (kcell (xr (nbr 1) c, none)) 0 1 ∗ dutyTok ER (kcell (xr (nbr 2) c, none)) 0 2)
      ∗ bl allT (fun t => dutyTok ER (kcell (c, snd t)) 0 0) ∗ bl allT (fun t => dutyTok ER (kcell (xr (pT t) c, rcv t)) 0 0)) := by
  unfold toks
  rw [bl_univ ([0, 1, 2].map Sum.inl ++ (allT.map (fun t => Sum.inr (false, t)) ++ allT.map fun t => Sum.inr (true, t))) (by decide +kernel) (by decide +kernel),
    bl_append, bl_append, bl_map, bl_map, bl_map]
  refine congrArg (fun P => iprop(P ∗ _)) ?_
  rw [bl_eq]; rfl

/-- What the launch element deals device `c`; -/
def G (c : Dev nD) : sProp 𝕄 :=
  iprop((bigSep Finset.univ fun k : CI => roundState ER (sched m) (kcell (c, k)) 0)
    ∗ (bigSep Finset.univ fun k : CI => atPos ER (kcell (c, k)) 0 ∅ 0) ∗ (bigSep Finset.univ fun k : CI => reached ER (kcell (c, k)) 0) ∗ toks c)
/-- what the global step makes of it. -/
def linear (c : Dev nD) : sProp 𝕄 := iprop((bigSep Finset.univ fun k : CI => atPos ER (kcell (c, k)) 0 ∅ 0) ∗ toks c ∗ spare c)
/-- The same with the record of the invariants' names. -/
def G' (c : Dev nD) : sProp 𝕄 := iprop(∃ K, records m K ∗ linear c)

/-- The launch element is cells and tokens, dealt out to the devices. -/
theorem fund_ex : BI.own (ER (F := F) (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (sched m) exCells exToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-- Each device's cells open. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : CI => reached ER (kcell (c, k)) 0) ∗ linear c) := by
  rw [own_eq, unscoped_eq]
  unfold G linear
  iintro ⟨⟨Hs, Hr, Hsp⟩, Hb, Hst, Hat, Hre, Htok⟩
  ihave Hv := (Entails.of_eq (cells_all (fun k : CI => (semVal (kcell (c, k)) 0 : sProp 𝕄))).symm) $$ [Hs Hr Hb]
  · unfold zc; iframe
  imod (show iprop((bigSep Finset.univ fun k : CI => semVal (kcell (c, k)) 0) ∗ bigSep Finset.univ fun k : CI => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  iframe

/-- A lasting assertion may be used for each of many. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names gathered into one record every device has. -/
theorem regroup :
    (bigSep Finset.univ fun c : Dev nD => iprop((bigSep Finset.univ fun k => iprop(∃ κ : ℕ, cellInv ER (sched m) κ (kcell (c, k))))
          ∗ (bigSep Finset.univ fun k : CI => reached ER (kcell (c, k)) 0) ∗ linear c) : sProp 𝕄)
      ⊢ bigSep Finset.univ (G' m) := by
  rw [bigSep_sep', bigSep_sep', ← bigSep_univ_prod (fun ck : Dev nD × CI => iprop(∃ κ : ℕ, cellInv ER (sched m) κ (kcell ck))),
    ← bigSep_univ_prod (fun ck : Dev nD × CI => (reached ER (kcell ck) 0 : sProp 𝕄))]
  iintro ⟨HI, #HR, Hl⟩
  ihave HK := (BI.bigSep_exists_pi Finset.univ (fun (ck : Dev nD × CI) (κ : ℕ) => (cellInv ER (sched m) κ (kcell ck) : sProp 𝕄))) $$ HI
  icases HK with ⟨%K, #HI⟩
  iapply (with_records (R := records m K) (Φ := linear) fun c _ => show iprop(records m K ∗ linear c) ⊢ G' m c from by
    unfold G'; iintro H; iexists K; iexact H)
  isplitr
  · unfold records; isplitl; · iexact HI
    iexact HR
  · iexact Hl

/-- The semaphores of every device at once, and what the launch dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes at launch, by cell. -/
def O₀ (c : Dev nD) : CellTallies nD τ sig Unit := sumT (owed c)
/-- Each barrier is owed a unit by each of three neighbours, -/
theorem bar_owed : ∀ c : Dev nD, (∑ d : Dev nD, (owed d).count (c, none)) = 3 := by decide +kernel
/-- each transfer's receive its credit by one. -/
theorem rcv_owed : ∀ (c : Dev nD) (t : Fin 17), (∑ d : Dev nD, (owed d).count (c, rcv t)) = 1 := by decide +kernel

/-- A cell's credit at launch: its amount, as often as it is owed. -/
theorem credit_at (ck : Dev nD × CI) (n : ℕ) (h : (∑ d : Dev nD, (owed d).count ck) = n) :
    tallyOn (kcell ck) (launchCredit (Pipeline.owing O₀) 0 (kcell ck)) = (tallyAt (kcell ck) () (n * amC ck.2) : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => sumT_at (owed d) ck

/-- The semaphores credited at launch. -/
def credL (c : Dev nD) : List (SemLoc sig) := (none :: allT.map rcv).map (csem c)
/-- No semaphore is named twice, -/
theorem credL_nodup (c : Dev nD) : (credL c).Nodup := List.Nodup.map (csem_inj c) (by decide +kernel)
/-- so the credits of those named are the barrier's and each receive's. -/
theorem credL_eq (c : Dev nD) (Φ : SemLoc sig → sProp 𝕄) : bigSep (credL c).toFinset Φ = iprop(Φ (csem c none) ∗ bl allT fun t => Φ (csem c (rcv t))) := by
  rw [bigSep_eq_bigSepL_of_eq (credL c) rfl (credL_nodup c), ← bl_eq]
  unfold credL
  rw [bl_map, bl_cons, bl_map]
/-- A semaphore's credit at launch. -/
def crAt (c : Dev nD) (sm : SemLoc sig) : sProp 𝕄 := cred (tallyOn ((c.tc : Thread nD τ), sm) (launchCredit (Pipeline.owing O₀) 0 ((c.tc : Thread nD τ), sm)))
/-- A cell's credit, by how often it is owed. -/
theorem crAt_eq (c : Dev nD) (k : CI) (n : ℕ) (h : (∑ d : Dev nD, (owed d).count (c, k)) = n) : crAt (F := F) c (csem c k) = cred (tallyAt (kcell (c, k)) () (n * amC k)) := by
  unfold crAt; exact congrArg cred (credit_at (c, k) n h)
/-- The launch's credits contain the barrier's and each receive's. -/
theorem creds_cut (c : Dev nD) : (Pipeline.launchCred O₀ c : sProp 𝕄) ⊢ iprop(crAt c (csem c none) ∗ bl allT fun t => crAt c (csem c (rcv t))) := by
  rw [show (Pipeline.launchCred O₀ c : sProp 𝕄) = bigSep Finset.univ (crAt c) from rfl, ← credL_eq]
  exact BI.bigSep_subset (Finset.subset_univ _)
/-- What each device's cells are credited with at launch. -/
theorem creds (c : Dev nD) :
    (Pipeline.launchCred O₀ c : sProp 𝕄) ⊢ iprop(cred (tallyAt (kcell (c, none)) () 3) ∗ bl allT fun t => cred (tallyAt (kcell (c, rcv t)) () (amt t))) := by
  refine (creds_cut c).trans (Entails.of_eq ?_)
  have hb : crAt (F := F) c (csem c none) = cred (tallyAt (kcell (c, none)) () 3) := by
    rw [crAt_eq c none 3 (bar_owed c)]; rfl
  have hr : ∀ t, crAt (F := F) c (csem c (rcv t)) = cred (tallyAt (kcell (c, rcv t)) () (amt t)) := fun t => by
    rw [crAt_eq c (rcv t) 1 (rcv_owed c t), Nat.one_mul]; rfl
  rw [hb, bl_congr fun t _ => hr t]

end Cert.K

end
-- ==== Proof.Launch.lean ====
/- The run of the whole mesh: the body's obligation under the launch, and what the final states hold. -/
module

public import proofs.«01_k».proof.Proof.Fund
public import proofs.«01_k».proof.Proof.Gen.KernelIdeal.Points
public import Idealize.ShloMosaic.Lib.Pipeline.CollectiveSegs

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ)

variable (ρ : Dev nD → PrngReg)

/-! ## The scales as staged -/

/-- The first scale as staged; -/
def st0 (c : Dev nD) : (cc0_stg0_0 : Ref sig .tc).ty.Contents (Elt F) := (win0_0.blk (0 : Fin 1)).view.read (Elt F) (m ((c : Thread nD τ).loc main_arg2))
/-- the second. -/
def st1 (c : Dev nD) : (cc0_stg1_0 : Ref sig .tc).ty.Contents (Elt F) := (win0_1.blk (0 : Fin 1)).view.read (Elt F) (m ((c : Thread nD τ).loc main_arg3))
/-- The buffer of the first scale, -/
abbrev s2M : Memref sig .tc .smem S1 .f32 := Memref.whole cc0_stg0_0
/-- of the second. -/
abbrev s3M : Memref sig .tc .smem S1 .f32 := Memref.whole cc0_stg1_0
/-- The scales device `c` multiplies by; -/
def scA (c : Dev nD) : Elt F .f32 := sval (c := c) s2M (st0 m c)
/-- the second one, -/
def scB (c : Dev nD) : Elt F .f32 := sval (c := c) s3M (st1 m c)
/-- the result it ends with. -/
def result (c : Dev nD) : S4096x8192.Idx → Elt F .f32 := asm (P2blk m c (scA m c) (scB m c))

/-! ## Before and after the body -/

/-- The credits and the ghost state device `c` starts from. -/
def ready (c : Dev nD) : sProp 𝕄 :=
  iprop((cred (tallyAt (kcell (c, none)) () 3) ∗ bl allT fun t => cred (tallyAt (kcell (c, rcv t)) () (amt t))) ∗ linear c)
/-- What device `c` has before the kernel's scratch is given to it. -/
def start (c : Dev nD) : sProp 𝕄 :=
  iprop((∃ K, env m K ∗ ready c) ∗ inX m c ∗ inW m c ∗ ∃ f : Buf (Elt F) ((c : Thread nD τ).loc main_v1), (c : Thread nD τ).loc main_v1 ↦[Finset.univ]{fullShare} f)
/-- The kernel's scratch, holding anything. -/
def scratch (c : Dev nD) : sProp 𝕄 :=
  iprop((∃ f : Buf (Elt F) ((c : Thread nD τ).loc cc0_scratch0), (c : Thread nD τ).loc cc0_scratch0 ↦[Finset.univ]{fullShare} f)
    ∗ (∃ f : Buf (Elt F) ((c : Thread nD τ).loc cc0_scratch1), (c : Thread nD τ).loc cc0_scratch1 ↦[Finset.univ]{fullShare} f)
    ∗ (∃ f : Buf (Elt F) ((c : Thread nD τ).loc cc0_scratch10), (c : Thread nD τ).loc cc0_scratch10 ↦[Finset.univ]{fullShare} f)
    ∗ (∃ f : Buf (Elt F) ((c : Thread nD τ).loc cc0_scratch11), (c : Thread nD τ).loc cc0_scratch11 ↦[Finset.univ]{fullShare} f))
/-- What it has before the body; -/
def Φ₀ (c : Dev nD) : sProp 𝕄 := iprop(start m c ∗ scratch c)
/-- What the certificate reads of the final state; -/
def ends (c : Dev nD) : sProp 𝕄 :=
  iprop(inX m c ∗ inW m c ∗ ((c : Thread nD τ).loc main_v1 ↦[Finset.univ]{fullShare} result m c) ∗ zc c none)
/-- What it has after the body: what is read at the end, every semaphore at zero, the scratch. -/
def Φ₁ (c : Dev nD) : sProp 𝕄 :=
  iprop(ends m c ∗ (bl allT (fun t => zc c (snd t)) ∗ bl allT (fun t => zc c (rcv t)) ∗ spare c) ∗ scratch c)

/-- the semaphores no transfer of device `c` uses. -/
def idleZ (c : Dev nD) : sProp 𝕄 := bl (idle c) fun q => semVal ((c : Thread nD τ), SemLoc.dma q) 0

/-- What a device starts with: its tokens, its barrier's credit, what it issues each transfer with and what it waits with. -/
theorem ready_cut (c : Dev nD) : ready (F := F) c
    ⊢ iprop((dutyTok ER (kcell (xr (nbr 0) c, none)) 0 0 ∗ dutyTok ER (kcell (xr (nbr 1) c, none)) 0 1 ∗ dutyTok ER (kcell (xr (nbr 2) c, none)) 0 2)
      ∗ (cred (tallyAt (kcell (c, none)) () 3) ∗ atPos ER (kcell (c, none)) 0 ∅ 0) ∗ bl allT (sndK c) ∗ bl allT (fun t => wtK c (true, t)) ∗ spare c) := by
  unfold ready linear
  rw [toks_eq, cells_all]
  iintro ⟨⟨Hb, Hc⟩, ⟨Ab, As, Ar⟩, ⟨Tb, Ts, Tr⟩, Hsp⟩
  isplitl [Tb]; · iexact Tb
  isplitl [Hb Ab]
  · isplitl [Hb] <;> iassumption
  isplitl [As Ts Tr]
  · ihave H := (bl_sep allT _ _).2 $$ [Ts Tr]
    · isplitl [Ts]; · iexact Ts
      iexact Tr
    ihave H := (bl_sep allT _ _).2 $$ [As H]
    · isplitl [As]; · iexact As
      iexact H
    iexact H
  isplitl [Hc Ar]
  · ihave H := (bl_sep allT _ _).2 $$ [Hc Ar]
    · isplitl [Hc]; · iexact Hc
      iexact Ar
    iexact H
  iexact Hsp

/-- The launch's holdings as the body takes them. -/
theorem body_in (c : Dev nD) (f2 : Buf (Elt F) ((s2M.access rS).loc (c : Thread nD τ))) (f3 : Buf (Elt F) ((s3M.access rS).loc (c : Thread nD τ))) :
    iprop(ready c ∗ inX m c ∗ inW m c ∗ (∃ f : Buf (Elt F) ((c : Thread nD τ).loc main_v1), (c : Thread nD τ).loc main_v1 ↦[Finset.univ]{fullShare} f) ∗ scratch c ∗ scl c s2M f2 ∗ scl c s3M f3 ∗ ow c (owed c))
      ⊢ iprop(bodyIn m c s2M s3M f2 f3 ∗ idleZ c) := by
  iintro ⟨Hr, HX, HW, ⟨%fo, Ho⟩, Hs, H2, H3, HO⟩
  ihave Hr := (ready_cut c) $$ Hr
  icases Hr with ⟨⟨T0, T1, T2⟩, HB, HK, HV, Hsp⟩
  unfold scratch
  icases Hs with ⟨⟨%f0, S0⟩, ⟨%f1, S1⟩, ⟨%g0, P⟩, ⟨%g1, G⟩⟩
  ihave HS := (slots_start c f0 f1) $$ [S0 S1]
  · isplitl [S0] <;> iassumption
  icases HS with ⟨EX, EW, D0, D1, D2⟩
  ihave Ho := (out_start c fo) $$ Ho
  icases Ho with ⟨A0, A1⟩
  ihave G := (st_start c g1) $$ G
  ihave P := (pi_start c g0) $$ P
  unfold spare bodyIn
  rw [free_G, free_P]
  icases Hsp with ⟨ZX, ZW, ZS, ZP, ZI⟩
  isplitr [ZI]
  · isplitl [T0 D0]; · isplitl [T0] <;> iassumption
    isplitl [T1 D1]; · isplitl [T1] <;> iassumption
    isplitl [T2 D2]; · isplitl [T2] <;> iassumption
    iframe
  unfold idleZ; iexact ZI
/-- What the body leaves as the launch takes it back. -/
theorem body_out (c : Dev nD) (f2 : Buf (Elt F) ((s2M.access rS).loc (c : Thread nD τ))) (f3 : Buf (Elt F) ((s3M.access rS).loc (c : Thread nD τ)))
    (h2 : sval (c := c) s2M f2 = scA m c) (h3 : sval (c := c) s3M f3 = scB m c) :
    iprop(bodyOut m c s2M s3M f2 f3 ∗ idleZ c) ⊢ iprop(Φ₁ m c ∗ scl c s2M f2 ∗ scl c s3M f3 ∗ ow c []) := by
  unfold bodyOut
  rw [free_G, free_P, h2, h3]
  iintro ⟨⟨HX, HW, ZX, ZW, Hn, Hf, Zb, Zs, Zr, Hh, ⟨G, ZS⟩, ⟨P, ZP⟩, H2, H3, HO⟩, ZI⟩
  ihave HS := (slots_end m c) $$ [Hn Hf]
  · isplitl [Hn] <;> iassumption
  icases HS with ⟨S0, S1⟩
  ihave Ho := (out_end (P2blk m c (scA m c) (scB m c)) c) $$ Hh
  ihave G := (st_end c) $$ G
  ihave P := (pi_end c) $$ P
  unfold Φ₁ ends spare scratch result idleZ
  isplitr [H2 H3 HO]
  · isplitl [HX HW Ho Zb]
    · iframe
    isplitl [Zs Zr ZX ZW ZS ZP ZI]
    · isplitl [Zs]; · iexact Zs
      isplitl [Zr]; · iexact Zr
      isplitl [ZX]; · iexact ZX
      isplitl [ZW]; · iexact ZW
      isplitl [ZS]; · iexact ZS
      isplitl [ZP]; · iexact ZP
      iexact ZI
    isplitl [S0]; · iexists _; iexact S0
    isplitl [S1]; · iexists _; iexact S1
    isplitl [P] <;> iassumption
  iframe

/-! ## The pipeline's data -/

/-- The pipeline's view of the call: the staged scales are kept, nothing is written back. -/
def dats (_ : Fin 1) (c : Dev nD) : Dat τ (Elt F) Unit ℕ UU ℕ cfg0 c where
  A w := m ((cfg0.win w).arr.view.loc (c : Thread nD τ))
  after w _ := match w with
    | ⟨0, _⟩ => st0 m c
    | ⟨1, _⟩ => st1 m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole buffer at a value is having it hold that value. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline hands the body; -/
def pre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
/-- what it takes back. -/
def post (c : Dev nD) : sProp 𝕄 :=
  iprop(Φ₁ m c ∗ (dats m 0 c).owesAt () t0_0.succ ∗ stg c cc0_stg0_0 (st0 m c) ∗ stg c cc0_stg1_0 (st1 m c))

/-- The body from what the pipeline hands it to what it takes back. -/
theorem body_core (c : Dev nD) : pre m c ⊢ WP c (cc0_body aM (Memref.isWhole_whole _) bM (Memref.isWhole_whole _) s2M (Memref.isWhole_whole _) s3M (Memref.isWhole_whole _) oM (Memref.isWhole_whole _) xM (Memref.isWhole_whole _) wM (Memref.isWhole_whole _) cc0_scratch2 cc0_scratch3 cc0_scratch4 cc0_scratch5 cc0_scratch6 cc0_scratch7 cc0_scratch8 cc0_scratch9 pM (Memref.isWhole_whole _) gM (Memref.isWhole_whole _) cc0_scratch12 cc0_scratch13) (fun _ => post m c) := by
  unfold pre Φ₀ start
  iintro ⟨⟨⟨⟨%K, #HE, Hr⟩, HX, HW, Ho⟩, Hs⟩, HO, ⟨%d0, %g0, %hg0, H2⟩, ⟨%d1, %g1, %hg1, H3⟩⟩
  have h0 : g0 = st0 m c := by rw [hg0]; unfold Dat.before; rw [if_pos (fetch0_0 t0_0)]; rfl
  have h1 : g1 = st1 m c := by rw [hg1]; unfold Dat.before; rw [if_pos (fetch0_1 t0_0)]; rfl
  subst h0 h1
  unfold Dat.owesAt Pipeline.owesWithin
  icases HO with ⟨%W, %hW, HO⟩
  ihave HI := (body_in m c (st0 m c) (st1 m c)) $$ [Hr HX HW Ho Hs H2 H3 HO]
  · isplitl [Hr]; · iexact Hr
    isplitl [HX]; · iexact HX
    isplitl [HW]; · iexact HW
    isplitl [Ho]; · iexact Ho
    isplitl [Hs]; · iexact Hs
    isplitl [H2]; · unfold scl; iexact H2
    isplitl [H3]; · unfold scl; iexact H3
    unfold ow; iexists W; iexact HO
  icases HI with ⟨HI, HZ⟩
  iapply (body_run m K) $$ HE HI
  iintro HQ
  ihave HQ := (body_out m c (st0 m c) (st1 m c) rfl rfl) $$ [HQ HZ]
  · isplitl [HQ] <;> iassumption
  icases HQ with ⟨HP, H2, H3, HO⟩
  unfold ow
  icases HO with ⟨%W', HO⟩
  unfold post scl Dat.owesAt Pipeline.owesWithin
  isplitl [HP]; · iexact HP
  isplitl [HO]
  · iexists W'
    isplitr; · ipureintro; exact fun _ _ => Or.inl trivial
    iexact HO
  isplitl [H2]
  · iexists _; isplitr; · (ipureintro; rfl)
    iexact H2
  iexists _; isplitr; · (ipureintro; rfl)
  iexact H3

set_option maxRecDepth 4000 in
/-- The pipeline's obligation of the body on device `c`. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_whole]
  exact body_core m c

/-! ## The launch -/

/-- The kernel's own semaphores are as the launch expects them. -/
theorem ownSemFacts : Pipeline.OwnSemFacts cfg0.spec osem := by decide +kernel
/-- Each window's array is held whole. -/
theorem share_eq (c : Dev nD) (w : Fin cfg0.W) : (dats m 0 c).share w = fullShare := by unfold Dat.share; split <;> rfl

/-- The launch's gifts make a device's start; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HX, HW, Ho⟩, Hlev, Hcr, -, HG⟩
  ihave Hc := (creds (F := F) c) $$ Hcr
  unfold start G' ready inX inW
  icases HG with ⟨%K, HR, HG⟩
  imodintro
  isplitl
  · isplitl [HR Hlev Hc HG]
    · iexists K
      isplitl [HR Hlev]
      · isplitl [HR] <;> iassumption
      isplitl [Hc] <;> iassumption
    isplitl [HX]; · iexact HX
    isplitl [HW]; · iexact HW
    iexists _; iexact Ho
  · iempintro

/-- with the scratch they make what the body starts from, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- and what the body ends with gives the semaphores and the scratch back. -/
theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl, scopedRest0_eq, own_eq]
  unfold Φ₁ scratch
  exact .rfl

/-- The pipeline may wait for its own copies whatever a device owes. -/
theorem waits (c : Dev nD) : (levAts L lv : sProp 𝕄) ⊢ Pipeline.cellsWaits cfgs (dats m) () 0 c :=
  Pipeline.cellsWaits_intro cfgs (dats m) () 0 c fun w s t => by
    have hl : lv ((c : Thread nD τ), SemLoc.dma ((cfg0.win w).sem s)) () ≤ 0 := by
      unfold lv
      have hq : ∀ (w : Fin 2) (s : Fin (spec0 w).nbuf), ((spec0 w).sem s : Fin 57).val < 2 := by decide +kernel
      rw [pick_none c _ (fun t h => ?_) (fun t h => ?_)]
      · have h1 : ∀ t, 2 ≤ (sN t).val := by decide +kernel
        have := hq w s; have h2 := h1 t; rw [h] at h2; exact absurd h2 (Nat.not_le.mpr this)
      · have h1 : ∀ (c : Dev nD) t, 2 ≤ (rN t c).val := by decide +kernel
        have := hq w s; have h2 := h1 c t; rw [h] at h2; exact absurd h2 (Nat.not_le.mpr this)
    rcases t with ⟨_ | _, ht⟩
    · exact mayWait c _ (owed c) 0 hl (by
        have : ∀ c : Dev nD, ∀ e ∈ owed c, 0 < lvC e.2 := by decide +kernel
        exact this c)
    · exact mayWait c _ [] 0 hl (fun e he => absurd he (List.not_mem_nil))

/-! ## The run -/

/-- What every final state holds on device `c`. -/
def QY (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_v1) = result m c
  ∧ ∀ sm : SemLoc sig, sm.isScoped .tc = false → s.sem ((c.tc : Thread nD τ), sm) = 0

/-- The final state holds what the devices end with. -/
theorem read_end (c : Dev nD) (s' : Phys nD τ sig (Elt F)) : iprop(ends m c ∗ emp ∗ SI s') ⊢ |={Set.univ}=> iprop(⌜QY m c s'.mem⌝ ∗ SI s' : sProp 𝕄) := by
  unfold ends inX inW
  iintro ⟨⟨HX, HW, Ho, Zb⟩, -, HSI⟩
  icombine HSI HX gives %hx
  icombine HSI HW gives %hw
  icombine HSI Ho gives %ho
  ihave Zb := (Entails.of_eq (unscoped_eq (F := F) c).symm) $$ Zb
  imod (Pipeline.unscopedSems0_read (X := unscopedSems0 c) (c := c) fupd_intro s') $$ [Zb HSI] with ⟨%hs, HSI⟩
  · isplitl [Zb] <;> iassumption
  imodintro
  isplitr
  · ipureintro
    exact ⟨funext fun i => hx i (Finset.mem_univ _), funext fun i => hw i (Finset.mem_univ _), funext fun i => ho i (Finset.mem_univ _), hs⟩
  iexact HSI

/-- What is true of every final state. -/
def Post (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v1) = result m c)
  ∧ r.2.sem = fun _ => 0

set_option maxRecDepth 8000 in
/-- On the compiled mesh of eight devices, for any float values, from any memory and with every semaphore at zero: every
    weakly fair execution ends, with the arguments unchanged, each device's result at `result` and every semaphore at zero. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb (EX (F := F)) _ _) $$ HX
      icases H with ⟨HX, -⟩
      ihave HX := (Entails.of_eq (show (BI.own (((Emb.inl : Emb UB (UB × Counters)).trans (EX (F := F))) (initOf exCells exToks)) : sProp 𝕄) = BI.own (ER (F := F) (initOf exCells exToks)) from rfl)) $$ HX
      imod (fund_ex m) $$ HX with HG
      imodintro
      isplitl [HP] <;> iassumption)
    (hglob := glob m)
    (hA := fun _ _ => rfl) (hpf := fun _ k => k.elim0)
    (X := start m) (Y := fun c => ends m c) (Z := fun _ => iprop(emp))
    (hX := start_intro m ρ) (hin := phi0_intro m) (hout := phi1_exit m)
    (QY := QY m)
    (hY := read_end m)
    (hQ := fun s h hs => ⟨fun c => ⟨(h c).2.2.1, (h c).2.2.2.1,
        (((h c).1 (0 : Fin 2))).trans ((dats (F := F) m 0 c).arrAt_in (0 : Fin 2) rfl _),
        (((h c).1 (1 : Fin 2))).trans ((dats (F := F) m 0 c).arrAt_in (1 : Fin 2) rfl _), (h c).2.2.2.2.1⟩,
      sem_eq_zero hs fun c => (h c).2.2.2.2.2⟩)

end Cert.K

end
-- ==== Proof.Frames.lean ====
/- The frame claims: the kernel as compiled, its ideal reading and the reference each end with their arguments as
   launched and every semaphore at zero. -/
module

public import proofs.«01_k».proof.Defs
public import proofs.«01_k».proof.Proof.Same
public import proofs.«01_k».proof.Proof.Gen.ReferenceIdeal.Frame
public import proofs.«01_k».proof.Proof.Launch

@[expose] public section

noncomputable section

namespace Cert.K

open Idealize.ShloMosaic Idealize.SL.Sem

/-- A run of one program is a run of an equal one. -/
theorem run_of_same {nD : ℕ} {τ : Topo} {sig : RefSig} {V : EltTy → Type} {Λ : Labels} {d d' : Defs nD τ sig V Λ} (hd : d = d')
    {p p' : Dev nD → Prog (TpuEff nD τ sig V Λ .tc) PUnit} (hp : p = p') {s : MemSt nD τ sig V} {Q : PUnit × MemSt nD τ sig V → Prop}
    (h : θ_run d' (onTc (τ := τ) p') s Q) : θ_run d (onTc (τ := τ) p) s Q := by
  subst hd; subst hp; exact h

/-- The kernel at machine floats: the run read at `Bits`. -/
theorem frame_kernel : Cert.quiescent_Kernel := fun m ρ _ =>
  run_of_same (same_defs (F := Bits)) (same_main (F := Bits))
    ((θ_run Cert.KernelIdeal.defs _ _).mono
      (fun _ h => ⟨fun c => ⟨(h.1 c).1, (h.1 c).2.1, (h.1 c).2.2.1, (h.1 c).2.2.2.1⟩, h.2⟩)
      (run_main (F := Bits) m ρ))

/-- The kernel at exact arithmetic: the run read at `Ideal`. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (run_main (F := Ideal) m ρ)

/-- The reference: the frame its generated proof gives. -/
theorem frame_reference : Cert.quiescent_ReferenceIdeal := fun m ρ _ => Cert.ReferenceIdeal.Gen.frame m ρ

end Cert.K

end
-- ==== Proof.Block.lean ====
/- What one block of the kernel's result is over the reals: the payloads read at an index. -/
module

public import proofs.«01_k».proof.Proof.Far
public import Idealize.ShloMosaic.Lib.MatmulPlain
public import Idealize.ShloMosaic.Lib.ValueIdx

@[expose] public section

noncomputable section

namespace Cert.K

open Cert.KernelIdeal Cert.KernelIdeal.Gen
open Idealize.ShloMosaic Idealize.ShloMosaic.TcCoe
open Idealize.ShloMosaic.ValueIdx (ix2 ix3)

/-! ## Casts that drop or add the leading axis of extent one -/

/-- A row block of `x` without its unit axis; -/
theorem cast_x (v : Vec Ideal S1x1024x512 .fp8e5m2) (r : Fin 1024) (k : Fin 512) :
    shapeCast S1024x512 v shapeCasts_S1x1024x512_S1024x512 (ix2 r k) = v (ix3 0 r k) :=
  (shapeCast_dropUnit_apply ![1024, 512] v _ (ix2 r k)).trans (congrArg v (eq_ix3 _ _ _ _ rfl rfl rfl))
/-- a column block of `w` without it; -/
theorem cast_w (v : Vec Ideal S1x512x256 .fp8e5m2) (k : Fin 512) (q : Fin 256) :
    shapeCast S512x256 v shapeCasts_S1x512x256_S512x256 (ix2 k q) = v (ix3 0 k q) :=
  (shapeCast_dropUnit_apply ![512, 256] v _ (ix2 k q)).trans (congrArg v (eq_ix3 _ _ _ _ rfl rfl rfl))
/-- a block read back without it; -/
theorem cast_p (v : Vec Ideal S1x1024x256 .f32) (r : Fin 1024) (q : Fin 256) :
    shapeCast S1024x256 v shapeCasts_S1x1024x256_S1024x256 (ix2 r q) = v (ix3 0 r q) :=
  (shapeCast_dropUnit_apply ![1024, 256] v _ (ix2 r q)).trans (congrArg v (eq_ix3 _ _ _ _ rfl rfl rfl))
/-- a computed block with it. -/
theorem cast_o (v : FVec Ideal S1024x256 .f32) (r : Fin 1024) (q : Fin 256) :
    shapeCast S1x1024x256 v shapeCasts_S1024x256_S1x1024x256 (ix3 0 r q) = v (ix2 r q) :=
  (shapeCast_addUnit_apply ![1024, 256] v _ (ix3 0 r q)).trans (congrArg v (eq_ix2 _ _ _ rfl rfl))

/-! ## One product -/

/-- A chunk's product at row `r` and column `q` of a block. -/
def dp (X : Vec Ideal S1x1024x512 .fp8e5m2) (W : Vec Ideal S1x512x256 .fp8e5m2) (r : Fin 1024) (q : Fin 256) : EReal :=
  ∑ k : Fin 512, (X (ix3 0 r k) : EReal) * (W (ix3 0 k q) : EReal)

/-- The matrix unit's product of a chunk into a zero accumulator is that sum. -/
theorem mm_apply (X : Vec Ideal S1x1024x512 .fp8e5m2) (W : Vec Ideal S1x512x256 .fp8e5m2) (r : Fin 1024) (q : Fin 256) :
    matmul (F := Ideal) (φ₁ := .fp8e5m2) (φ₂ := .fp8e5m2) dot_S1024x512_S512x256_S1024x256_1_0_0_1_n_n none
      (shapeCast S1024x512 X shapeCasts_S1x1024x512_S1024x512) (shapeCast S512x256 W shapeCasts_S1x512x256_S512x256)
      (constant S1024x256 .f32 0x00000000#32) (ix2 r q) = dp X W r q := by
  refine (Ideal.matmul_plain_apply (M := 1024) (K := 512) (N := 256) none _ _ _ r q).trans ?_
  show Ideal.ofBits .f32 0x00000000#32 + _ = _
  rw [Ideal.ofBits_zero_f32, zero_add]
  exact Finset.sum_congr rfl fun k _ => by rw [cast_x, cast_w]

/-- The first chunk's product is added to zero: the product itself. -/
theorem pay1_apply (X W r q) : k0_pay1 (F := Ideal) X W (ix2 r q) = dp X W r q := by
  show Ideal.ofBits .f32 0x00000000#32 + _ = _
  rw [Ideal.ofBits_zero_f32, zero_add]; exact mm_apply X W r q
/-- The second chunk's product. -/
theorem pay2_apply (X W r q) : k0_pay2 (F := Ideal) X W (ix2 r q) = dp X W r q := mm_apply X W r q
/-- The same in the first pass's second part, -/
theorem pay7_apply (X W r q) : k0_pay7 (F := Ideal) X W (ix2 r q) = dp X W r q := pay1_apply X W r q
/-- and for its second chunk. -/
theorem pay8_apply (X W r q) : k0_pay8 (F := Ideal) X W (ix2 r q) = dp X W r q := mm_apply X W r q

/-- Two more chunks added to two; -/
theorem pay9_apply (A B X W X' W' r q) :
    k0_pay9 (F := Ideal) A B X W X' W' (ix2 r q) = A (ix2 r q) + B (ix2 r q) + dp X W r q + dp X' W' r q := by
  rw [← mm_apply X W r q, ← mm_apply X' W' r q]; rfl
/-- as stored; -/
theorem pay3_apply (A B X W X' W' r q) :
    k0_pay3 (F := Ideal) A B X W X' W' (ix3 0 r q) = A (ix2 r q) + B (ix2 r q) + dp X W r q + dp X' W' r q :=
  (cast_o (k0_pay9 (F := Ideal) A B X W X' W') r q).trans (pay9_apply A B X W X' W' r q)
/-- and the near chunks' sum added, scaled, no less than zero. -/
theorem pay10_apply (A : FVec Ideal S1024x256 .f32) (P : Vec Ideal S1x1024x256 .f32) (a b : Elt Ideal .f32) (r : Fin 1024) (q : Fin 256) :
    k0_pay10 (F := Ideal) A P a b (ix3 0 r q) = max ((A (ix2 r q) + P (ix3 0 r q)) * (a * b) : EReal) 0 := by
  refine (cast_o (maximumf (mulf (addf A (shapeCast S1024x256 P shapeCasts_S1x1024x256_S1024x256)) (broadcast S1024x256 (Scalar.mulf a b)))
    (broadcast S1024x256 (Scalar.ofBits .f32 0x00000000#32))) r q).trans ?_
  rw [← cast_p P r q, ← Ideal.ofBits_zero_f32]; rfl

variable (m : (ℓ : Loc nD τ sig) → Buf (Elt Ideal) ℓ)

/-- Device `d`'s share of the product at an element of the result. -/
def part (d : Dev nD) (i : ℕ) (r : Fin 1024) (q : Fin 256) : EReal := dp (xBlk m d (rI i)) (wBlk m d (qI i)) r q

/-- Block `i` of the result at an element: the eight devices' shares added, scaled, no less than zero. -/
theorem P2blk_apply (c : Dev nD) (a b : Elt Ideal .f32) (i : ℕ) (r : Fin 1024) (q : Fin 256) :
    P2blk m c a b i (ix3 0 r q) = max ((∑ d : Dev nD, part m d i r q) * (a * b) : EReal) 0 := by
  unfold P2blk P1blk
  rw [pay10_apply, pay9_apply, pay3_apply, pay7_apply, pay8_apply, pay1_apply, pay2_apply]
  have h : (∑ d : Dev nD, part m d i r q) = part m (xr 0 c) i r q + part m (xr 1 c) i r q + part m (xr 2 c) i r q + part m (xr 3 c) i r q
      + part m (xr 4 c) i r q + part m (xr 5 c) i r q + part m (xr 6 c) i r q + part m (xr 7 c) i r q := by
    rw [← Equiv.sum_comp (xrEquiv c)]
    exact Fin.sum_univ_eight _
  rw [h]
  congr 2
  unfold part
  abel

end Cert.K

end
-- ==== Proof.RefValue.lean ====
/- The reference's result as one function of its arguments, and that function over the reals. -/
module

public import proofs.«01_k».proof.Proof.Gen.ReferenceIdeal.Value
public import Idealize.ShloMosaic.Lib.MatmulPlain
public import Idealize.ShloMosaic.Lib.ValueIdx

@[expose] public section

noncomputable section

namespace Cert.RV

open Cert.ReferenceIdeal Cert.ReferenceIdeal.Gen Cert.ReferenceIdeal.Value
open Idealize.ShloMosaic Idealize.ShloMosaic.TcCoe Idealize.SL.Sem
open Idealize.ShloMosaic.ValueIdx (ix1 ix2)

variable {F : FTy → Type} [FloatOps F]

/-- The result as a function of the arguments: the body's one payload. -/
def ref (x : Vec F S4096x4096 .fp8e5m2) (w : Vec F S4096x8192 .fp8e5m2) (a b : Vec F S1 .f32) : Vec F S4096x8192 .f32 :=
  k0_pay1 x w (a (ix1 0)) (b (ix1 0))

/-- The whole array's window starts at zero. -/
theorem zeros : (![0, 0] : Fin 2 → ℕ) = fun _ => 0 := funext fun a => by fin_cases a <;> rfl

/-- The body leaves `ref` of its inputs in the output's buffer. -/
theorem out_ref (c : Dev nD) (a0 : Memref sig .tc .vmem S4096x4096 .fp8e5m2) (h0 : a0.IsWhole) (a1 : Memref sig .tc .vmem S4096x8192 .fp8e5m2) (h1 : a1.IsWhole)
    (a2 : Memref sig .tc .smem S1 .f32) (h2 : a2.IsWhole) (a3 : Memref sig .tc .smem S1 .f32) (h3 : a3.IsWhole) (a4 : Memref sig .tc .vmem S4096x8192 .f32)
    (h4 : a4.IsWhole) (x : Vec F S4096x4096 .fp8e5m2) (w : Vec F S4096x8192 .fp8e5m2) (a b : Vec F S1 .f32) :
    out0_A_4 c a0 h0 a1 h1 a2 h2 a3 h3 a4 h4 x w a b = ref x w a b := by
  unfold out0_A_4
  rw [View.read_writes_junk_eq_canon]
  show View.canon ([⟨Rect.unit ![0, 0] S4096x8192.size inb_S4096x8192_S4096x8192_0_0,
      k0_pay1
        (View.readAt (Elt F) a0.view (Rect.unit ![0, 0] S4096x4096.size inb_S4096x4096_S4096x4096_0_0).toLoadRect (h0.unread x))
        (View.readAt (Elt F) a1.view (Rect.unit ![0, 0] S4096x8192.size inb_S4096x8192_S4096x8192_0_0).toLoadRect (h1.unread w))
        (View.readAt (Elt F) a2.view (Rect.unit (s := S1) ![0] S1.size inb_S1_S1_0).toLoadRect (h2.unread a) _)
        (View.readAt (Elt F) a3.view (Rect.unit (s := S1) ![0] S1.size inb_S1_S1_0).toLoadRect (h3.unread b) _)⟩] :
      List (View.Piece (Elt F) S4096x8192 .f32)) = _
  rw [View.canon_unit_zero zeros, View.readAt_eq_ld, View.readAt_eq_ld, View.readAt_eq_ld, View.readAt_eq_ld, h0.read_unread, h1.read_unread,
    h2.read_unread, h3.read_unread, View.ld_unit_zero zeros, View.ld_unit_zero zeros]
  exact congrArg₂ (k0_pay1 x w) (congrArg a (funext fun k => by match k with | ⟨0, _⟩ => rfl)) (congrArg b (funext fun k => by match k with | ⟨0, _⟩ => rfl))

variable (m : (ℓ : Loc nD τ sig) → Buf (Elt F) ℓ) (ρ : Dev nD → PrngReg)

/-- Each window's one block is its array. -/
theorem blk0 (t : Fin cfg0.N) (j : S4096x4096.Idx) : ((cfg0.win 0).blk t).view.emb j = j := by
  funext a; apply Fin.ext; show 0 * _ + 1 * (j a).val = (j a).val; omega
/-- The same of `w`, -/
theorem blk1 (t : Fin cfg0.N) (j : S4096x8192.Idx) : ((cfg0.win 1).blk t).view.emb j = j := by
  funext a; apply Fin.ext; show 0 * _ + 1 * (j a).val = (j a).val; omega
/-- of the first scale, -/
theorem blk2 (t : Fin cfg0.N) (j : S1.Idx) : ((cfg0.win 2).blk t).view.emb j = j := by
  funext a; apply Fin.ext; show 0 * _ + 1 * (j a).val = (j a).val; omega
/-- of the second, -/
theorem blk3 (t : Fin cfg0.N) (j : S1.Idx) : ((cfg0.win 3).blk t).view.emb j = j := by
  funext a; apply Fin.ext; show 0 * _ + 1 * (j a).val = (j a).val; omega
/-- and of the result. -/
theorem blk4 (t : Fin cfg0.N) (j : S4096x8192.Idx) : ((cfg0.win 4).blk t).view.emb j = j := by
  funext a; apply Fin.ext; show 0 * _ + 1 * (j a).val = (j a).val; omega

/-- So what is staged is the array, -/
theorem in0 (c : Dev nD) (t : Fin cfg0.N) : iblk m c 0 t = V m c main_arg0 :=
  funext fun j => congrArg (V m c main_arg0) (blk0 t j)
/-- for `w`, -/
theorem in1 (c : Dev nD) (t : Fin cfg0.N) : iblk m c 1 t = V m c main_arg1 :=
  funext fun j => congrArg (V m c main_arg1) (blk1 t j)
/-- the first scale -/
theorem in2 (c : Dev nD) (t : Fin cfg0.N) : iblk m c 2 t = V m c main_arg2 :=
  funext fun j => congrArg (V m c main_arg2) (blk2 t j)
/-- and the second; -/
theorem in3 (c : Dev nD) (t : Fin cfg0.N) : iblk m c 3 t = V m c main_arg3 :=
  funext fun j => congrArg (V m c main_arg3) (blk3 t j)

/-- what is written back is the whole result, -/
theorem wrote (c : Dev nD) (t : Fin cfg0.N) : (dats m 0 c).flushed 4 t
    = ((cfg0.win 4).blk t).view.read (Elt F) (ref (V m c main_arg0) (V m c main_arg1) (V m c main_arg2) (V m c main_arg3)) := by
  rw [flushed4_A, out_ref, in0, in1, in2, in3]
  exact funext fun j => congrArg (ref (V m c main_arg0) (V m c main_arg1) (V m c main_arg2) (V m c main_arg3)) (blk4 t j).symm

/-- and the array ends as it. -/
theorem ends (c : Dev nD) : (dats m 0 c).arrAt 4 cfg0.N
    = ref (m ((c : Thread nD τ).loc main_arg0)) (m ((c : Thread nD τ).loc main_arg1)) (m ((c : Thread nD τ).loc main_arg2)) (m ((c : Thread nD τ).loc main_arg3)) :=
  ((dats m 0 c).arrAt_eq_of_cover 4 (ref (V m c main_arg0) (V m c main_arg1) (V m c main_arg2) (V m c main_arg3)) (fun t _ => wrote m c t)
    (fun i => ⟨(⟨0, by decide⟩ : Fin cfg0.N), flush0_4 _, by
      have h := ((cfg0.win 4).blk (⟨0, by decide⟩ : Fin cfg0.N)).view.emb_mem_set i; rwa [blk4] at h⟩)).trans
    (by rw [V_main_arg0, V_main_arg1, V_main_arg2, V_main_arg3])

/-- The reference over the reals at row `r` and column `q`: the sum of products, scaled, no less than zero. -/
theorem ref_apply (x : Vec Ideal S4096x4096 .fp8e5m2) (w : Vec Ideal S4096x8192 .fp8e5m2) (a b : Vec Ideal S1 .f32) (r : Fin 4096) (q : Fin 8192) :
    ref (F := Ideal) x w a b (ix2 r q)
      = max ((∑ k : Fin 4096, (x (ix2 r k) : EReal) * (w (ix2 k q) : EReal)) * (a (ix1 0) * b (ix1 0)) : EReal) 0 := by
  have h := Ideal.matmul_plain_apply (M := 4096) (K := 4096) (N := 8192) (φ₁ := .f32) (φ₂ := .f32) none
    (fun i => (x i : EReal)) (fun i => (w i : EReal)) (constant S4096x8192 .f32 0x00000000#32) r q
  have h0 : (constant (F := Ideal) S4096x8192 .f32 0x00000000#32 (ix2 r q) : EReal) = 0 := Ideal.ofBits_zero_f32
  rw [h0, zero_add] at h
  rw [← h, ← Ideal.ofBits_zero_f32]
  rfl

end Cert.RV

end
-- ==== Proof.Equation.lean ====
/- The kernel's result is the reference's: the eight devices' shares add to the whole sum. -/
module

public import proofs.«01_k».proof.Defs
public import proofs.«01_k».proof.Proof.Block
public import proofs.«01_k».proof.Proof.Launch
public import proofs.«01_k».proof.Proof.RefValue
public import Idealize.ShloMosaic.Lib.Layout

@[expose] public section

noncomputable section

namespace Cert.K

open Cert.KernelIdeal Cert.KernelIdeal.Gen
open Idealize.ShloMosaic Idealize.ShloMosaic.TcCoe Idealize.SL.Sem
open Idealize.ShloMosaic.ValueIdx (ix1 ix2 ix3)

variable (m : (ℓ : Loc nD τ sig) → Buf (Elt Ideal) ℓ)

/-- The scales as loaded are the arguments' one element each. -/
theorem scA_eq (c : Dev nD) : scA m c = (m ((c : Thread nD τ).loc main_arg2) : S1.Idx → Elt Ideal .f32) (ix1 0) :=
  congrArg (m ((c : Thread nD τ).loc main_arg2) : S1.Idx → Elt Ideal .f32) (funext fun k => by match k with | ⟨0, _⟩ => exact Subsingleton.elim (α := Fin 1) _ _)
/-- The other scale is its argument's one element. -/
theorem scB_eq (c : Dev nD) : scB m c = (m ((c : Thread nD τ).loc main_arg3) : S1.Idx → Elt Ideal .f32) (ix1 0) :=
  congrArg (m ((c : Thread nD τ).loc main_arg3) : S1.Idx → Elt Ideal .f32) (funext fun k => by match k with | ⟨0, _⟩ => exact Subsingleton.elim (α := Fin 1) _ _)

/-- A sum over 4096 is the sum over eight runs of 512. -/
theorem sum_runs (f : Fin 4096 → EReal) :
    (∑ d : Fin 8, ∑ k : Fin 512, f ⟨d.val * 512 + k.val, by omega⟩) = ∑ k : Fin 4096, f k := by
  rw [← Fintype.sum_prod_type' (f := fun (d : Fin 8) (k : Fin 512) => f ⟨d.val * 512 + k.val, by omega⟩)]
  rw [← Equiv.sum_comp (finProdFinEquiv (m := 8) (n := 512)) f]
  exact Finset.sum_congr rfl fun p _ => congrArg f (Fin.ext (by
    show p.1.val * 512 + p.2.val = p.2.val + 512 * p.1.val; omega))

variable (X : Cert.ReferenceIdeal.S4096x4096.Idx → Elt Ideal .fp8e5m2) (W : Cert.ReferenceIdeal.S4096x8192.Idx → Elt Ideal .fp8e5m2)

/-- Device `d`'s share at an element of the result, by the whole arrays. -/
theorem part_whole (d : Dev nD)
    (hx : m ((d : Thread nD τ).loc main_arg0) = Layout.block ⟨2, ![4096, 512]⟩ ⟨2, ![4096, 4096]⟩ 1 8 d X)
    (hw : m ((d : Thread nD τ).loc main_arg1) = Layout.block ⟨2, ![512, 8192]⟩ ⟨2, ![4096, 8192]⟩ 0 8 d W)
    (r : Fin 4096) (q : Fin 8192) :
    part m d (r.val / 1024 + 4 * (q.val / 256)) ⟨r.val % 1024, Nat.mod_lt _ (by decide)⟩ ⟨q.val % 256, Nat.mod_lt _ (by decide)⟩
      = ∑ k : Fin 512, (X (ix2 r ⟨d.val * 512 + k.val, by have : d.val < 8 := d.isLt; omega⟩) : EReal)
          * (W (ix2 ⟨d.val * 512 + k.val, by have : d.val < 8 := d.isLt; omega⟩ q) : EReal) := by
  have hr := r.isLt
  have hq := q.isLt
  unfold part dp
  refine Finset.sum_congr rfl fun k _ => congrArg₂ (fun a b : EReal => a * b) ?_ ?_
  · refine (congrFun hx _).trans (congrArg X (eq_ix2 _ _ _ ?_ ?_))
    · show 1024 * ((r.val / 1024 + 4 * (q.val / 256)) % 4) + r.val % 1024 = r.val
      omega
    · rfl
  · refine (congrFun hw _).trans (congrArg W (eq_ix2 _ _ _ ?_ ?_))
    · rfl
    · show 256 * ((r.val / 1024 + 4 * (q.val / 256)) / 4 % 32) + q.val % 256 = q.val
      omega

/-- Every device's result is the reference's result of the whole arrays. -/
theorem result_ref (a b : S1.Idx → Elt Ideal .f32)
    (h : ∀ d : Dev nD, m ((d : Thread nD τ).loc main_arg0) = Layout.block ⟨2, ![4096, 512]⟩ ⟨2, ![4096, 4096]⟩ 1 8 d X
      ∧ m ((d : Thread nD τ).loc main_arg1) = Layout.block ⟨2, ![512, 8192]⟩ ⟨2, ![4096, 8192]⟩ 0 8 d W
      ∧ m ((d : Thread nD τ).loc main_arg2) = a ∧ m ((d : Thread nD τ).loc main_arg3) = b) (c : Dev nD) :
    result m c = Cert.RV.ref (F := Ideal) X W a b := by
  funext j
  obtain ⟨r, hr⟩ : ∃ r : Fin 4096, r = j 0 := ⟨_, rfl⟩
  obtain ⟨q, hq⟩ : ∃ q : Fin 8192, q = j 1 := ⟨_, rfl⟩
  have hj : j = ix2 r q := eq_ix2 _ _ _ (by rw [hr]) (by rw [hq])
  rw [hj, Cert.RV.ref_apply]
  refine (P2blk_apply m c (scA m c) (scB m c) (r.val / 1024 + 4 * (q.val / 256)) ⟨r.val % 1024, Nat.mod_lt _ (by decide)⟩
    ⟨q.val % 256, Nat.mod_lt _ (by decide)⟩).trans ?_
  rw [scA_eq, scB_eq, (h c).2.2.1, (h c).2.2.2, Finset.sum_congr rfl fun d _ => part_whole m X W d (h d).1 (h d).2.1 r q]
  exact congrArg (fun s : EReal => max (s * (a (ix1 0) * b (ix1 0))) 0) (sum_runs fun k => (X (ix2 r k) : EReal) * (W (ix2 k q) : EReal))

/-- The kernel and the reference both run, to the same result. -/
theorem algebraic : Cert.algebraic_KernelIdeal_ReferenceIdeal := fun m g m' g' _ h =>
  ⟨Cert.RV.ref (F := Ideal) (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)),
    (θ_run _ _ _).mono (fun r p c => ⟨(p.1 c).2.2.2.2.trans (result_ref m _ _ _ _ h c), (p.1 c).1, (p.1 c).2.1, (p.1 c).2.2.1, (p.1 c).2.2.2.1⟩)
      (run_main (F := Ideal) m g),
    (θ_run _ _ _).mono (fun r p => ⟨(p 0).1.trans (Cert.RV.ends m' 0), (p 0).2⟩) (Cert.ReferenceIdeal.Value.run_blocks m' g')⟩

end Cert.K

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Frames
public import proofs.«01_k».proof.Proof.Equation

@[expose] public section

noncomputable section

namespace Cert.Proof

open Idealize.ShloMosaic Idealize.SL.Sem

/-- Everything claimed: the three programs run and keep their arguments, and the two over the reals agree. -/
theorem claim : Cert.Claim :=
  ⟨Cert.Kernel.Gen.facts, Cert.KernelIdeal.Gen.facts, Cert.ReferenceIdeal.Gen.facts,
    Cert.K.frame_kernel, Cert.K.frame_kernelIdeal, Cert.K.frame_reference, trivial, Cert.K.algebraic⟩

end Cert.Proof

end
